-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Hyena (m : (ℓ : Loc Cert.Hyena.nD Cert.Hyena.τ Cert.Hyena.sig) → Buf (Elt Bits) ℓ) : Prop :=
  True

def Pre_HyenaIdeal (m : (ℓ : Loc Cert.HyenaIdeal.nD Cert.HyenaIdeal.τ Cert.HyenaIdeal.sig) → Buf (Elt Ideal) ℓ) : Prop :=
  True

def Pre_HyenaRefIdeal (m : (ℓ : Loc Cert.HyenaRefIdeal.nD Cert.HyenaRefIdeal.τ Cert.HyenaRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Keyval (m : (ℓ : Loc Cert.Keyval.nD Cert.Keyval.τ Cert.Keyval.sig) → Buf (Elt Bits) ℓ) : Prop :=
  True

def Pre_KeyvalIdeal (m : (ℓ : Loc Cert.KeyvalIdeal.nD Cert.KeyvalIdeal.τ Cert.KeyvalIdeal.sig) → Buf (Elt Ideal) ℓ) : Prop :=
  True

def Pre_KeyvalRefIdeal (m : (ℓ : Loc Cert.KeyvalRefIdeal.nD Cert.KeyvalRefIdeal.τ Cert.KeyvalRefIdeal.sig) → Buf (Elt Ideal) ℓ) : Prop :=
  True

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterRefIdeal (m : (ℓ : Loc Cert.FilterRefIdeal.nD Cert.FilterRefIdeal.τ Cert.FilterRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2)
      ∧ r.2.mem ((c.tc : Thread Cert.Sconv.nD Cert.Sconv.τ).loc Cert.Sconv.main_arg3) = m ((c.tc : Thread Cert.Sconv.nD Cert.Sconv.τ).loc Cert.Sconv.main_arg3))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
      ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Hyena [hHyena : Cert.Hyena.Facts] : Prop :=
  ∀ (m : (ℓ : Loc Cert.Hyena.nD Cert.Hyena.τ Cert.Hyena.sig) → Buf (Elt Bits) ℓ) (g : Dev Cert.Hyena.nD → PrngReg), Pre_Hyena m →
    θ_run (Cert.Hyena.defs (F := Bits)) (onTc (τ := Cert.Hyena.τ) (Cert.Hyena.main (F := Bits))) ⟨m, fun _ => 0, g⟩ (fun r => (∀ c : Dev Cert.Hyena.nD,
      r.2.mem ((c.tc : Thread Cert.Hyena.nD Cert.Hyena.τ).loc Cert.Hyena.main_arg0) = m ((c.tc : Thread Cert.Hyena.nD Cert.Hyena.τ).loc Cert.Hyena.main_arg0)
      ∧ r.2.mem ((c.tc : Thread Cert.Hyena.nD Cert.Hyena.τ).loc Cert.Hyena.main_arg1) = m ((c.tc : Thread Cert.Hyena.nD Cert.Hyena.τ).loc Cert.Hyena.main_arg1)
      ∧ r.2.mem ((c.tc : Thread Cert.Hyena.nD Cert.Hyena.τ).loc Cert.Hyena.main_arg2) = m ((c.tc : Thread Cert.Hyena.nD Cert.Hyena.τ).loc Cert.Hyena.main_arg2)
      ∧ r.2.mem ((c.tc : Thread Cert.Hyena.nD Cert.Hyena.τ).loc Cert.Hyena.main_arg3) = m ((c.tc : Thread Cert.Hyena.nD Cert.Hyena.τ).loc Cert.Hyena.main_arg3)
      ∧ r.2.mem ((c.tc : Thread Cert.Hyena.nD Cert.Hyena.τ).loc Cert.Hyena.main_arg4) = m ((c.tc : Thread Cert.Hyena.nD Cert.Hyena.τ).loc Cert.Hyena.main_arg4))
      ∧ r.2.sem = fun _ => 0)

def quiescent_HyenaIdeal [hHyenaIdeal : Cert.HyenaIdeal.Facts] : Prop :=
  ∀ (m : (ℓ : Loc Cert.HyenaIdeal.nD Cert.HyenaIdeal.τ Cert.HyenaIdeal.sig) → Buf (Elt Ideal) ℓ) (g : Dev Cert.HyenaIdeal.nD → PrngReg), Pre_HyenaIdeal m →
    θ_run (Cert.HyenaIdeal.defs (F := Ideal)) (onTc (τ := Cert.HyenaIdeal.τ) (Cert.HyenaIdeal.main (F := Ideal))) ⟨m, fun _ => 0, g⟩ (fun r => (∀ c : Dev Cert.HyenaIdeal.nD,
      r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
      ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
      ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
      ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
      ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4))
      ∧ r.2.sem = fun _ => 0)

def quiescent_HyenaRefIdeal [hHyenaRefIdeal : Cert.HyenaRefIdeal.Facts] : Prop :=
  ∀ (m : (ℓ : Loc Cert.HyenaRefIdeal.nD Cert.HyenaRefIdeal.τ Cert.HyenaRefIdeal.sig) → Buf (Elt Ideal) ℓ) (g : Dev Cert.HyenaRefIdeal.nD → PrngReg), Pre_HyenaRefIdeal m →
    θ_run (Cert.HyenaRefIdeal.defs (F := Ideal)) (onTc (τ := Cert.HyenaRefIdeal.τ) (Cert.HyenaRefIdeal.main (F := Ideal))) ⟨m, fun _ => 0, g⟩ (fun r => (∀ c : Dev Cert.HyenaRefIdeal.nD,
      r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1)
      ∧ r.2.mem ((c.tc : Thread Cert.HyenaRefIdeal.nD Cert.HyenaRefIdeal.τ).loc Cert.HyenaRefIdeal.main_arg2) = m ((c.tc : Thread Cert.HyenaRefIdeal.nD Cert.HyenaRefIdeal.τ).loc Cert.HyenaRefIdeal.main_arg2)
      ∧ r.2.mem ((c.tc : Thread Cert.HyenaRefIdeal.nD Cert.HyenaRefIdeal.τ).loc Cert.HyenaRefIdeal.main_arg3) = m ((c.tc : Thread Cert.HyenaRefIdeal.nD Cert.HyenaRefIdeal.τ).loc Cert.HyenaRefIdeal.main_arg3)
      ∧ r.2.mem ((c.tc : Thread Cert.HyenaRefIdeal.nD Cert.HyenaRefIdeal.τ).loc Cert.HyenaRefIdeal.main_arg4) = m ((c.tc : Thread Cert.HyenaRefIdeal.nD Cert.HyenaRefIdeal.τ).loc Cert.HyenaRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Keyval [hKeyval : Cert.Keyval.Facts] : Prop :=
  ∀ (m : (ℓ : Loc Cert.Keyval.nD Cert.Keyval.τ Cert.Keyval.sig) → Buf (Elt Bits) ℓ) (g : Dev Cert.Keyval.nD → PrngReg), Pre_Keyval m →
    θ_run (Cert.Keyval.defs (F := Bits)) (onTc (τ := Cert.Keyval.τ) (Cert.Keyval.main (F := Bits))) ⟨m, fun _ => 0, g⟩ (fun r => (∀ c : Dev Cert.Keyval.nD,
      r.2.mem ((c.tc : Thread Cert.Keyval.nD Cert.Keyval.τ).loc Cert.Keyval.main_arg0) = m ((c.tc : Thread Cert.Keyval.nD Cert.Keyval.τ).loc Cert.Keyval.main_arg0)
      ∧ r.2.mem ((c.tc : Thread Cert.Keyval.nD Cert.Keyval.τ).loc Cert.Keyval.main_arg1) = m ((c.tc : Thread Cert.Keyval.nD Cert.Keyval.τ).loc Cert.Keyval.main_arg1)
      ∧ r.2.mem ((c.tc : Thread Cert.Keyval.nD Cert.Keyval.τ).loc Cert.Keyval.main_arg2) = m ((c.tc : Thread Cert.Keyval.nD Cert.Keyval.τ).loc Cert.Keyval.main_arg2)
      ∧ r.2.mem ((c.tc : Thread Cert.Keyval.nD Cert.Keyval.τ).loc Cert.Keyval.main_arg3) = m ((c.tc : Thread Cert.Keyval.nD Cert.Keyval.τ).loc Cert.Keyval.main_arg3))
      ∧ r.2.sem = fun _ => 0)

def quiescent_KeyvalIdeal [hKeyvalIdeal : Cert.KeyvalIdeal.Facts] : Prop :=
  ∀ (m : (ℓ : Loc Cert.KeyvalIdeal.nD Cert.KeyvalIdeal.τ Cert.KeyvalIdeal.sig) → Buf (Elt Ideal) ℓ) (g : Dev Cert.KeyvalIdeal.nD → PrngReg), Pre_KeyvalIdeal m →
    θ_run (Cert.KeyvalIdeal.defs (F := Ideal)) (onTc (τ := Cert.KeyvalIdeal.τ) (Cert.KeyvalIdeal.main (F := Ideal))) ⟨m, fun _ => 0, g⟩ (fun r => (∀ c : Dev Cert.KeyvalIdeal.nD,
      r.2.mem ((c.tc : Thread Cert.KeyvalIdeal.nD Cert.KeyvalIdeal.τ).loc Cert.KeyvalIdeal.main_arg0) = m ((c.tc : Thread Cert.KeyvalIdeal.nD Cert.KeyvalIdeal.τ).loc Cert.KeyvalIdeal.main_arg0)
      ∧ r.2.mem ((c.tc : Thread Cert.KeyvalIdeal.nD Cert.KeyvalIdeal.τ).loc Cert.KeyvalIdeal.main_arg1) = m ((c.tc : Thread Cert.KeyvalIdeal.nD Cert.KeyvalIdeal.τ).loc Cert.KeyvalIdeal.main_arg1)
      ∧ r.2.mem ((c.tc : Thread Cert.KeyvalIdeal.nD Cert.KeyvalIdeal.τ).loc Cert.KeyvalIdeal.main_arg2) = m ((c.tc : Thread Cert.KeyvalIdeal.nD Cert.KeyvalIdeal.τ).loc Cert.KeyvalIdeal.main_arg2)
      ∧ r.2.mem ((c.tc : Thread Cert.KeyvalIdeal.nD Cert.KeyvalIdeal.τ).loc Cert.KeyvalIdeal.main_arg3) = m ((c.tc : Thread Cert.KeyvalIdeal.nD Cert.KeyvalIdeal.τ).loc Cert.KeyvalIdeal.main_arg3))
      ∧ r.2.sem = fun _ => 0)

def quiescent_KeyvalRefIdeal [hKeyvalRefIdeal : Cert.KeyvalRefIdeal.Facts] : Prop :=
  ∀ (m : (ℓ : Loc Cert.KeyvalRefIdeal.nD Cert.KeyvalRefIdeal.τ Cert.KeyvalRefIdeal.sig) → Buf (Elt Ideal) ℓ) (g : Dev Cert.KeyvalRefIdeal.nD → PrngReg), Pre_KeyvalRefIdeal m →
    θ_run (Cert.KeyvalRefIdeal.defs (F := Ideal)) (onTc (τ := Cert.KeyvalRefIdeal.τ) (Cert.KeyvalRefIdeal.main (F := Ideal))) ⟨m, fun _ => 0, g⟩ (fun r => (∀ c : Dev Cert.KeyvalRefIdeal.nD,
      r.2.mem ((c.tc : Thread Cert.KeyvalRefIdeal.nD Cert.KeyvalRefIdeal.τ).loc Cert.KeyvalRefIdeal.main_arg0) = m ((c.tc : Thread Cert.KeyvalRefIdeal.nD Cert.KeyvalRefIdeal.τ).loc Cert.KeyvalRefIdeal.main_arg0)
      ∧ r.2.mem ((c.tc : Thread Cert.KeyvalRefIdeal.nD Cert.KeyvalRefIdeal.τ).loc Cert.KeyvalRefIdeal.main_arg1) = m ((c.tc : Thread Cert.KeyvalRefIdeal.nD Cert.KeyvalRefIdeal.τ).loc Cert.KeyvalRefIdeal.main_arg1)
      ∧ r.2.mem ((c.tc : Thread Cert.KeyvalRefIdeal.nD Cert.KeyvalRefIdeal.τ).loc Cert.KeyvalRefIdeal.main_arg2) = m ((c.tc : Thread Cert.KeyvalRefIdeal.nD Cert.KeyvalRefIdeal.τ).loc Cert.KeyvalRefIdeal.main_arg2)
      ∧ r.2.mem ((c.tc : Thread Cert.KeyvalRefIdeal.nD Cert.KeyvalRefIdeal.τ).loc Cert.KeyvalRefIdeal.main_arg3) = m ((c.tc : Thread Cert.KeyvalRefIdeal.nD Cert.KeyvalRefIdeal.τ).loc Cert.KeyvalRefIdeal.main_arg3))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)
      ∧ m' ((c.tc : Thread Cert.SconvRefIdeal.nD Cert.SconvRefIdeal.τ).loc Cert.SconvRefIdeal.main_arg3) = m ((c.tc : Thread Cert.SconvIdeal.nD Cert.SconvIdeal.τ).loc Cert.SconvIdeal.main_arg3)) →
    ∃ (v0 : (c : Dev Cert.SconvIdeal.nD) → Buf (Elt Ideal) ((c.tc : Thread Cert.SconvIdeal.nD Cert.SconvIdeal.τ).loc Cert.SconvIdeal.main_v6)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v6) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2)
          ∧ r.2.mem ((c.tc : Thread Cert.SconvIdeal.nD Cert.SconvIdeal.τ).loc Cert.SconvIdeal.main_arg3) = m ((c.tc : Thread Cert.SconvIdeal.nD Cert.SconvIdeal.τ).loc Cert.SconvIdeal.main_arg3))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v41) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2)
          ∧ r.2.mem ((c.tc : Thread Cert.SconvRefIdeal.nD Cert.SconvRefIdeal.τ).loc Cert.SconvRefIdeal.main_arg3) = m' ((c.tc : Thread Cert.SconvRefIdeal.nD Cert.SconvRefIdeal.τ).loc Cert.SconvRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Hyena_HyenaIdeal : Prop :=
  True

def algebraic_HyenaIdeal_HyenaRefIdeal [hHyenaIdeal : Cert.HyenaIdeal.Facts] [hHyenaRefIdeal : Cert.HyenaRefIdeal.Facts] : Prop :=
  ∀ (m : (ℓ : Loc Cert.HyenaIdeal.nD Cert.HyenaIdeal.τ Cert.HyenaIdeal.sig) → Buf (Elt Ideal) ℓ) (g : Dev Cert.HyenaIdeal.nD → PrngReg)
    (m' : (ℓ : Loc Cert.HyenaRefIdeal.nD Cert.HyenaRefIdeal.τ Cert.HyenaRefIdeal.sig) → Buf (Elt Ideal) ℓ) (g' : Dev Cert.HyenaRefIdeal.nD → PrngReg), Pre_HyenaIdeal m →
    (∀ c : Dev Cert.HyenaIdeal.nD,
      m' ((c.tc : Thread Cert.HyenaRefIdeal.nD Cert.HyenaRefIdeal.τ).loc Cert.HyenaRefIdeal.main_arg0) = m ((c.tc : Thread Cert.HyenaIdeal.nD Cert.HyenaIdeal.τ).loc Cert.HyenaIdeal.main_arg0)
      ∧ m' ((c.tc : Thread Cert.HyenaRefIdeal.nD Cert.HyenaRefIdeal.τ).loc Cert.HyenaRefIdeal.main_arg1) = m ((c.tc : Thread Cert.HyenaIdeal.nD Cert.HyenaIdeal.τ).loc Cert.HyenaIdeal.main_arg1)
      ∧ m' ((c.tc : Thread Cert.HyenaRefIdeal.nD Cert.HyenaRefIdeal.τ).loc Cert.HyenaRefIdeal.main_arg2) = m ((c.tc : Thread Cert.HyenaIdeal.nD Cert.HyenaIdeal.τ).loc Cert.HyenaIdeal.main_arg2)
      ∧ m' ((c.tc : Thread Cert.HyenaRefIdeal.nD Cert.HyenaRefIdeal.τ).loc Cert.HyenaRefIdeal.main_arg3) = m ((c.tc : Thread Cert.HyenaIdeal.nD Cert.HyenaIdeal.τ).loc Cert.HyenaIdeal.main_arg3)
      ∧ m' ((c.tc : Thread Cert.HyenaRefIdeal.nD Cert.HyenaRefIdeal.τ).loc Cert.HyenaRefIdeal.main_arg4) = m ((c.tc : Thread Cert.HyenaIdeal.nD Cert.HyenaIdeal.τ).loc Cert.HyenaIdeal.main_arg4)) →
    ∃ (v0 : (c : Dev Cert.HyenaIdeal.nD) → Buf (Elt Ideal) ((c.tc : Thread Cert.HyenaIdeal.nD Cert.HyenaIdeal.τ).loc Cert.HyenaIdeal.main_v7_0)) (v1 : (c : Dev Cert.HyenaIdeal.nD) → Buf (Elt Ideal) ((c.tc : Thread Cert.HyenaIdeal.nD Cert.HyenaIdeal.τ).loc Cert.HyenaIdeal.main_v7_1)),
      θ_run (Cert.HyenaIdeal.defs (F := Ideal)) (onTc (τ := Cert.HyenaIdeal.τ) (Cert.HyenaIdeal.main (F := Ideal))) ⟨m, fun _ => 0, g⟩ (fun r => ∀ c : Dev Cert.HyenaIdeal.nD,
          r.2.mem ((c.tc : Thread Cert.HyenaIdeal.nD Cert.HyenaIdeal.τ).loc Cert.HyenaIdeal.main_v7_0) = v0 c
          ∧ r.2.mem ((c.tc : Thread Cert.HyenaIdeal.nD Cert.HyenaIdeal.τ).loc Cert.HyenaIdeal.main_v7_1) = v1 c
          ∧ r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
          ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
          ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
          ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
          ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4))
      ∧ θ_run (Cert.HyenaRefIdeal.defs (F := Ideal)) (onTc (τ := Cert.HyenaRefIdeal.τ) (Cert.HyenaRefIdeal.main (F := Ideal))) ⟨m', fun _ => 0, g'⟩ (fun r => ∀ c : Dev Cert.HyenaRefIdeal.nD,
          r.2.mem ((c.tc : Thread Cert.HyenaRefIdeal.nD Cert.HyenaRefIdeal.τ).loc Cert.HyenaRefIdeal.main_v43) = v0 c
          ∧ r.2.mem ((c.tc : Thread Cert.HyenaRefIdeal.nD Cert.HyenaRefIdeal.τ).loc Cert.HyenaRefIdeal.main_v45) = v1 c
          ∧ r.2.mem ((c.tc : Thread Cert.HyenaRefIdeal.nD Cert.HyenaRefIdeal.τ).loc Cert.HyenaRefIdeal.main_arg0) = m' ((c.tc : Thread Cert.HyenaRefIdeal.nD Cert.HyenaRefIdeal.τ).loc Cert.HyenaRefIdeal.main_arg0)
          ∧ r.2.mem ((c.tc : Thread Cert.HyenaRefIdeal.nD Cert.HyenaRefIdeal.τ).loc Cert.HyenaRefIdeal.main_arg1) = m' ((c.tc : Thread Cert.HyenaRefIdeal.nD Cert.HyenaRefIdeal.τ).loc Cert.HyenaRefIdeal.main_arg1)
          ∧ r.2.mem ((c.tc : Thread Cert.HyenaRefIdeal.nD Cert.HyenaRefIdeal.τ).loc Cert.HyenaRefIdeal.main_arg2) = m' ((c.tc : Thread Cert.HyenaRefIdeal.nD Cert.HyenaRefIdeal.τ).loc Cert.HyenaRefIdeal.main_arg2)
          ∧ r.2.mem ((c.tc : Thread Cert.HyenaRefIdeal.nD Cert.HyenaRefIdeal.τ).loc Cert.HyenaRefIdeal.main_arg3) = m' ((c.tc : Thread Cert.HyenaRefIdeal.nD Cert.HyenaRefIdeal.τ).loc Cert.HyenaRefIdeal.main_arg3)
          ∧ r.2.mem ((c.tc : Thread Cert.HyenaRefIdeal.nD Cert.HyenaRefIdeal.τ).loc Cert.HyenaRefIdeal.main_arg4) = m' ((c.tc : Thread Cert.HyenaRefIdeal.nD Cert.HyenaRefIdeal.τ).loc Cert.HyenaRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v13_0)) (v1 : (c : Dev Cert.DownIdeal.nD) → Buf (Elt Ideal) ((c.tc : Thread Cert.DownIdeal.nD Cert.DownIdeal.τ).loc Cert.DownIdeal.main_v13_1)) (v2 : (c : Dev Cert.DownIdeal.nD) → Buf (Elt Ideal) ((c.tc : Thread Cert.DownIdeal.nD Cert.DownIdeal.τ).loc Cert.DownIdeal.main_v13_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v13_0) = v0 c
          ∧ r.2.mem ((c.tc : Thread Cert.DownIdeal.nD Cert.DownIdeal.τ).loc Cert.DownIdeal.main_v13_1) = v1 c
          ∧ r.2.mem ((c.tc : Thread Cert.DownIdeal.nD Cert.DownIdeal.τ).loc Cert.DownIdeal.main_v13_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v48) = v0 c
          ∧ r.2.mem ((c.tc : Thread Cert.DownRefIdeal.nD Cert.DownRefIdeal.τ).loc Cert.DownRefIdeal.main_v50) = v1 c
          ∧ r.2.mem ((c.tc : Thread Cert.DownRefIdeal.nD Cert.DownRefIdeal.τ).loc Cert.DownRefIdeal.main_v51) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v47)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v47) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v55) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Keyval_KeyvalIdeal : Prop :=
  True

def algebraic_KeyvalIdeal_KeyvalRefIdeal [hKeyvalIdeal : Cert.KeyvalIdeal.Facts] [hKeyvalRefIdeal : Cert.KeyvalRefIdeal.Facts] : Prop :=
  ∀ (m : (ℓ : Loc Cert.KeyvalIdeal.nD Cert.KeyvalIdeal.τ Cert.KeyvalIdeal.sig) → Buf (Elt Ideal) ℓ) (g : Dev Cert.KeyvalIdeal.nD → PrngReg)
    (m' : (ℓ : Loc Cert.KeyvalRefIdeal.nD Cert.KeyvalRefIdeal.τ Cert.KeyvalRefIdeal.sig) → Buf (Elt Ideal) ℓ) (g' : Dev Cert.KeyvalRefIdeal.nD → PrngReg), Pre_KeyvalIdeal m →
    (∀ c : Dev Cert.KeyvalIdeal.nD,
      m' ((c.tc : Thread Cert.KeyvalRefIdeal.nD Cert.KeyvalRefIdeal.τ).loc Cert.KeyvalRefIdeal.main_arg0) = m ((c.tc : Thread Cert.KeyvalIdeal.nD Cert.KeyvalIdeal.τ).loc Cert.KeyvalIdeal.main_arg0)
      ∧ m' ((c.tc : Thread Cert.KeyvalRefIdeal.nD Cert.KeyvalRefIdeal.τ).loc Cert.KeyvalRefIdeal.main_arg1) = m ((c.tc : Thread Cert.KeyvalIdeal.nD Cert.KeyvalIdeal.τ).loc Cert.KeyvalIdeal.main_arg1)
      ∧ m' ((c.tc : Thread Cert.KeyvalRefIdeal.nD Cert.KeyvalRefIdeal.τ).loc Cert.KeyvalRefIdeal.main_arg2) = m ((c.tc : Thread Cert.KeyvalIdeal.nD Cert.KeyvalIdeal.τ).loc Cert.KeyvalIdeal.main_arg2)
      ∧ m' ((c.tc : Thread Cert.KeyvalRefIdeal.nD Cert.KeyvalRefIdeal.τ).loc Cert.KeyvalRefIdeal.main_arg3) = m ((c.tc : Thread Cert.KeyvalIdeal.nD Cert.KeyvalIdeal.τ).loc Cert.KeyvalIdeal.main_arg3)) →
    ∃ (v0 : (c : Dev Cert.KeyvalIdeal.nD) → Buf (Elt Ideal) ((c.tc : Thread Cert.KeyvalIdeal.nD Cert.KeyvalIdeal.τ).loc Cert.KeyvalIdeal.main_v44_0)) (v1 : (c : Dev Cert.KeyvalIdeal.nD) → Buf (Elt Ideal) ((c.tc : Thread Cert.KeyvalIdeal.nD Cert.KeyvalIdeal.τ).loc Cert.KeyvalIdeal.main_v44_1)),
      θ_run (Cert.KeyvalIdeal.defs (F := Ideal)) (onTc (τ := Cert.KeyvalIdeal.τ) (Cert.KeyvalIdeal.main (F := Ideal))) ⟨m, fun _ => 0, g⟩ (fun r => ∀ c : Dev Cert.KeyvalIdeal.nD,
          r.2.mem ((c.tc : Thread Cert.KeyvalIdeal.nD Cert.KeyvalIdeal.τ).loc Cert.KeyvalIdeal.main_v44_0) = v0 c
          ∧ r.2.mem ((c.tc : Thread Cert.KeyvalIdeal.nD Cert.KeyvalIdeal.τ).loc Cert.KeyvalIdeal.main_v44_1) = v1 c
          ∧ r.2.mem ((c.tc : Thread Cert.KeyvalIdeal.nD Cert.KeyvalIdeal.τ).loc Cert.KeyvalIdeal.main_arg0) = m ((c.tc : Thread Cert.KeyvalIdeal.nD Cert.KeyvalIdeal.τ).loc Cert.KeyvalIdeal.main_arg0)
          ∧ r.2.mem ((c.tc : Thread Cert.KeyvalIdeal.nD Cert.KeyvalIdeal.τ).loc Cert.KeyvalIdeal.main_arg1) = m ((c.tc : Thread Cert.KeyvalIdeal.nD Cert.KeyvalIdeal.τ).loc Cert.KeyvalIdeal.main_arg1)
          ∧ r.2.mem ((c.tc : Thread Cert.KeyvalIdeal.nD Cert.KeyvalIdeal.τ).loc Cert.KeyvalIdeal.main_arg2) = m ((c.tc : Thread Cert.KeyvalIdeal.nD Cert.KeyvalIdeal.τ).loc Cert.KeyvalIdeal.main_arg2)
          ∧ r.2.mem ((c.tc : Thread Cert.KeyvalIdeal.nD Cert.KeyvalIdeal.τ).loc Cert.KeyvalIdeal.main_arg3) = m ((c.tc : Thread Cert.KeyvalIdeal.nD Cert.KeyvalIdeal.τ).loc Cert.KeyvalIdeal.main_arg3))
      ∧ θ_run (Cert.KeyvalRefIdeal.defs (F := Ideal)) (onTc (τ := Cert.KeyvalRefIdeal.τ) (Cert.KeyvalRefIdeal.main (F := Ideal))) ⟨m', fun _ => 0, g'⟩ (fun r => ∀ c : Dev Cert.KeyvalRefIdeal.nD,
          r.2.mem ((c.tc : Thread Cert.KeyvalRefIdeal.nD Cert.KeyvalRefIdeal.τ).loc Cert.KeyvalRefIdeal.main_v60) = v0 c
          ∧ r.2.mem ((c.tc : Thread Cert.KeyvalRefIdeal.nD Cert.KeyvalRefIdeal.τ).loc Cert.KeyvalRefIdeal.main_v63) = v1 c
          ∧ r.2.mem ((c.tc : Thread Cert.KeyvalRefIdeal.nD Cert.KeyvalRefIdeal.τ).loc Cert.KeyvalRefIdeal.main_arg0) = m' ((c.tc : Thread Cert.KeyvalRefIdeal.nD Cert.KeyvalRefIdeal.τ).loc Cert.KeyvalRefIdeal.main_arg0)
          ∧ r.2.mem ((c.tc : Thread Cert.KeyvalRefIdeal.nD Cert.KeyvalRefIdeal.τ).loc Cert.KeyvalRefIdeal.main_arg1) = m' ((c.tc : Thread Cert.KeyvalRefIdeal.nD Cert.KeyvalRefIdeal.τ).loc Cert.KeyvalRefIdeal.main_arg1)
          ∧ r.2.mem ((c.tc : Thread Cert.KeyvalRefIdeal.nD Cert.KeyvalRefIdeal.τ).loc Cert.KeyvalRefIdeal.main_arg2) = m' ((c.tc : Thread Cert.KeyvalRefIdeal.nD Cert.KeyvalRefIdeal.τ).loc Cert.KeyvalRefIdeal.main_arg2)
          ∧ r.2.mem ((c.tc : Thread Cert.KeyvalRefIdeal.nD Cert.KeyvalRefIdeal.τ).loc Cert.KeyvalRefIdeal.main_arg3) = m' ((c.tc : Thread Cert.KeyvalRefIdeal.nD Cert.KeyvalRefIdeal.τ).loc Cert.KeyvalRefIdeal.main_arg3))

def preserves_Filter_FilterIdeal : Prop :=
  True

def algebraic_FilterIdeal_FilterRefIdeal [hFilterIdeal : Cert.FilterIdeal.Facts] [hFilterRefIdeal : Cert.FilterRefIdeal.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)) →
    ∃ (v0 : (c : Dev Cert.FilterIdeal.nD) → Buf (Elt Ideal) ((c.tc : Thread Cert.FilterIdeal.nD Cert.FilterIdeal.τ).loc Cert.FilterIdeal.main_v32)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v32) = v0 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v80) = v0 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5))

def Claim : Prop :=
  ∃ (hKernel : Cert.Kernel.Facts) (hKernelIdeal : Cert.KernelIdeal.Facts) (hReferenceIdeal : Cert.ReferenceIdeal.Facts) (hSconv : Cert.Sconv.Facts) (hSconvIdeal : Cert.SconvIdeal.Facts) (hSconvRefIdeal : Cert.SconvRefIdeal.Facts) (hOut : Cert.Out.Facts) (hOutIdeal : Cert.OutIdeal.Facts) (hOutRefIdeal : Cert.OutRefIdeal.Facts) (hHyena : Cert.Hyena.Facts) (hHyenaIdeal : Cert.HyenaIdeal.Facts) (hHyenaRefIdeal : Cert.HyenaRefIdeal.Facts) (hDown : Cert.Down.Facts) (hDownIdeal : Cert.DownIdeal.Facts) (hDownRefIdeal : Cert.DownRefIdeal.Facts) (hQuery : Cert.Query.Facts) (hQueryIdeal : Cert.QueryIdeal.Facts) (hQueryRefIdeal : Cert.QueryRefIdeal.Facts) (hKeyval : Cert.Keyval.Facts) (hKeyvalIdeal : Cert.KeyvalIdeal.Facts) (hKeyvalRefIdeal : Cert.KeyvalRefIdeal.Facts) (hFilter : Cert.Filter.Facts) (hFilterIdeal : Cert.FilterIdeal.Facts) (hFilterRefIdeal : Cert.FilterRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Sconv (hSconv := hSconv)
    ∧ quiescent_SconvIdeal (hSconvIdeal := hSconvIdeal)
    ∧ quiescent_SconvRefIdeal (hSconvRefIdeal := hSconvRefIdeal)
    ∧ quiescent_Out (hOut := hOut)
    ∧ quiescent_OutIdeal (hOutIdeal := hOutIdeal)
    ∧ quiescent_OutRefIdeal (hOutRefIdeal := hOutRefIdeal)
    ∧ quiescent_Hyena (hHyena := hHyena)
    ∧ quiescent_HyenaIdeal (hHyenaIdeal := hHyenaIdeal)
    ∧ quiescent_HyenaRefIdeal (hHyenaRefIdeal := hHyenaRefIdeal)
    ∧ quiescent_Down (hDown := hDown)
    ∧ quiescent_DownIdeal (hDownIdeal := hDownIdeal)
    ∧ quiescent_DownRefIdeal (hDownRefIdeal := hDownRefIdeal)
    ∧ quiescent_Query (hQuery := hQuery)
    ∧ quiescent_QueryIdeal (hQueryIdeal := hQueryIdeal)
    ∧ quiescent_QueryRefIdeal (hQueryRefIdeal := hQueryRefIdeal)
    ∧ quiescent_Keyval (hKeyval := hKeyval)
    ∧ quiescent_KeyvalIdeal (hKeyvalIdeal := hKeyvalIdeal)
    ∧ quiescent_KeyvalRefIdeal (hKeyvalRefIdeal := hKeyvalRefIdeal)
    ∧ quiescent_Filter (hFilter := hFilter)
    ∧ quiescent_FilterIdeal (hFilterIdeal := hFilterIdeal)
    ∧ quiescent_FilterRefIdeal (hFilterRefIdeal := hFilterRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Sconv_SconvIdeal
    ∧ algebraic_SconvIdeal_SconvRefIdeal (hSconvIdeal := hSconvIdeal) (hSconvRefIdeal := hSconvRefIdeal)
    ∧ preserves_Out_OutIdeal
    ∧ algebraic_OutIdeal_OutRefIdeal (hOutIdeal := hOutIdeal) (hOutRefIdeal := hOutRefIdeal)
    ∧ preserves_Hyena_HyenaIdeal
    ∧ algebraic_HyenaIdeal_HyenaRefIdeal (hHyenaIdeal := hHyenaIdeal) (hHyenaRefIdeal := hHyenaRefIdeal)
    ∧ preserves_Down_DownIdeal
    ∧ algebraic_DownIdeal_DownRefIdeal (hDownIdeal := hDownIdeal) (hDownRefIdeal := hDownRefIdeal)
    ∧ preserves_Query_QueryIdeal
    ∧ algebraic_QueryIdeal_QueryRefIdeal (hQueryIdeal := hQueryIdeal) (hQueryRefIdeal := hQueryRefIdeal)
    ∧ preserves_Keyval_KeyvalIdeal
    ∧ algebraic_KeyvalIdeal_KeyvalRefIdeal (hKeyvalIdeal := hKeyvalIdeal) (hKeyvalRefIdeal := hKeyvalRefIdeal)
    ∧ preserves_Filter_FilterIdeal
    ∧ algebraic_FilterIdeal_FilterRefIdeal (hFilterIdeal := hFilterIdeal) (hFilterRefIdeal := hFilterRefIdeal)
-- ==== Pre_finite_scores.lean ====
abbrev S8x4096x16x192 : Shape := ⟨4, ![8, 4096, 16, 192]⟩
abbrev S8x4096x16x128 : Shape := ⟨4, ![8, 4096, 16, 128]⟩
abbrev S_ : Shape := ⟨0, ![]⟩

class Facts : Prop where
  bcast_S_S8x4096x16x192 : S_.BroadcastsInDim S8x4096x16x192 (![] : Fin 0 → Fin S8x4096x16x192.rank)

variable [Facts]

def fn {F : FTy → Type} [FloatOps F] (main_arg0 : FVec F S8x4096x16x192 .f32) (main_arg1 : FVec F S8x4096x16x192 .f32) (main_arg2 : FVec F S8x4096x16x128 .f32) : IVec S8x4096x16x192 1 :=
  let main_v0 : FVec F S8x4096x16x192 .f32 := Host.absf main_arg0
  let main_cst : FVec F S_ .f32 := constant S_ .f32 0x7F800000#32
  let main_v1 : FVec F S8x4096x16x192 .f32 := broadcastInDim S8x4096x16x192 ![] bcast_S_S8x4096x16x192 main_cst
  let main_v2 : IVec S8x4096x16x192 1 := cmpf .olt main_v0 main_v1
  let main_v3 : FVec F S8x4096x16x192 .f32 := Host.absf main_arg1
  let main_cst_0 : FVec F S_ .f32 := constant S_ .f32 0x7F800000#32
  let main_v4 : FVec F S8x4096x16x192 .f32 := broadcastInDim S8x4096x16x192 ![] bcast_S_S8x4096x16x192 main_cst_0
  let main_v5 : IVec S8x4096x16x192 1 := cmpf .olt main_v3 main_v4
  let main_v6 : IVec S8x4096x16x192 1 := andi main_v2 main_v5
  main_v6
-- ==== Kernel.lean ====
abbrev S8x4096x16x192 : Shape := ⟨4, ![8, 4096, 16, 192]⟩
abbrev S8x4096x16x128 : Shape := ⟨4, ![8, 4096, 16, 128]⟩
abbrev S_ : Shape := ⟨0, ![]⟩
abbrev S8x4096x16x256 : Shape := ⟨4, ![8, 4096, 16, 256]⟩
abbrev S8x4096x16x1 : Shape := ⟨4, ![8, 4096, 16, 1]⟩
abbrev S32768x4096 : Shape := ⟨2, ![32768, 4096]⟩
abbrev S32768x2048 : Shape := ⟨2, ![32768, 2048]⟩
abbrev S1024x256 : Shape := ⟨2, ![1024, 256]⟩
abbrev S4096x256 : Shape := ⟨2, ![4096, 256]⟩
abbrev S1024x128 : Shape := ⟨2, ![1024, 128]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 25
  | .vmem => 9
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x192, .f32⟩
  | .hbm, ⟨2, _⟩ => ⟨S8x4096x16x128, .f32⟩
  | .hbm, ⟨3, _⟩ => ⟨S_, .f32⟩
  | .hbm, ⟨4, _⟩ => ⟨S8x4096x16x192, .f32⟩
  | .hbm, ⟨5, _⟩ => ⟨S8x4096x16x192, .f32⟩
  | .hbm, ⟨6, _⟩ => ⟨S_, .i32⟩
  | .hbm, ⟨7, _⟩ => ⟨S_, .f32⟩
  | .hbm, ⟨8, _⟩ => ⟨S8x4096x16x256, .f32⟩
  | .hbm, ⟨9, _⟩ => ⟨S_, .i32⟩
  | .hbm, ⟨10, _⟩ => ⟨S_, .f32⟩
  | .hbm, ⟨11, _⟩ => ⟨S8x4096x16x256, .f32⟩
  | .hbm, ⟨12, _⟩ => ⟨S_, .f32⟩
  | .hbm, ⟨13, _⟩ => ⟨S8x4096x16x1, .f32⟩
  | .hbm, ⟨14, _⟩ => ⟨S_, .i32⟩
  | .hbm, ⟨15, _⟩ => ⟨S_, .f32⟩
  | .hbm, ⟨16, _⟩ => ⟨S8x4096x16x128, .f32⟩
  | .hbm, ⟨17, _⟩ => ⟨S8x4096x16x256, .f32⟩
  | .hbm, ⟨18, _⟩ => ⟨S32768x4096, .f32⟩
  | .hbm, ⟨19, _⟩ => ⟨S32768x4096, .bf16⟩
  | .hbm, ⟨20, _⟩ => ⟨S32768x4096, .f32⟩
  | .hbm, ⟨21, _⟩ => ⟨S32768x4096, .bf16⟩
  | .hbm, ⟨22, _⟩ => ⟨S32768x4096, .f32⟩
  | .hbm, ⟨23, _⟩ => ⟨S32768x4096, .bf16⟩
  | .hbm, ⟨24, _⟩ => ⟨S32768x2048, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x128, .bf16⟩
  | .local _ .vmem, ⟨7, _⟩ => ⟨S1024x128, .bf16⟩
  | .local _ .vmem, ⟨8, _⟩ => ⟨S1024x256, .f32⟩
  | _, _ => ⟨S8x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_c_2 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x16x192 : Shape := ⟨4, ![8, 4096, 16, 192]⟩
abbrev S8x4096x16x128 : Shape := ⟨4, ![8, 4096, 16, 128]⟩
abbrev S8x16x4096x4096 : Shape := ⟨4, ![8, 16, 4096, 4096]⟩
abbrev S_ : Shape := ⟨0, ![]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x192, .f32⟩
  | .hbm, ⟨2, _⟩ => ⟨S8x4096x16x128, .f32⟩
  | .hbm, ⟨3, _⟩ => ⟨S8x16x4096x4096, .f32⟩
  | .hbm, ⟨4, _⟩ => ⟨S_, .f32⟩
  | .hbm, ⟨5, _⟩ => ⟨S8x16x4096x4096, .f32⟩
  | .hbm, ⟨6, _⟩ => ⟨S8x16x4096x4096, .f32⟩
  | .hbm, ⟨7, _⟩ => ⟨S_, .f32⟩
  | .hbm, ⟨8, _⟩ => ⟨S8x16x4096, .f32⟩
  | .hbm, ⟨9, _⟩ => ⟨S_, .f32⟩
  | .hbm, ⟨10, _⟩ => ⟨S8x16x4096, .f32⟩
  | .hbm, ⟨11, _⟩ => ⟨S8x16x4096, .f32⟩
  | .hbm, ⟨12, _⟩ => ⟨S8x16x4096x1, .f32⟩
  | .hbm, ⟨13, _⟩ => ⟨S8x16x4096x4096, .f32⟩
  | .hbm, ⟨14, _⟩ => ⟨S8x16x4096x4096, .f32⟩
  | .hbm, ⟨15, _⟩ => ⟨S8x16x4096x4096, .f32⟩
  | .hbm, ⟨16, _⟩ => ⟨S_, .f32⟩
  | .hbm, ⟨17, _⟩ => ⟨S8x16x4096, .f32⟩
  | .hbm, ⟨18, _⟩ => ⟨S8x16x4096x1, .f32⟩
  | .hbm, ⟨19, _⟩ => ⟨S8x16x4096x4096, .f32⟩
  | .hbm, ⟨20, _⟩ => ⟨S8x16x4096x4096, .f32⟩
  | .hbm, ⟨21, _⟩ => ⟨S8x16x128x4096, .f32⟩
  | .hbm, ⟨22, _⟩ => ⟨S8x4096x16x128, .f32⟩
  | .hbm, ⟨23, _⟩ => ⟨S32768x2048, .f32⟩
  | .hbm, ⟨24, _⟩ => ⟨S32768x2048, .bf16⟩
  | _, _ => ⟨S8x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Sconv.lean ====
abbrev S8x4096x2048 : Shape := ⟨3, ![8, 4096, 2048]⟩
abbrev S2048 : Shape := ⟨1, ![2048]⟩
abbrev S2048x6144 : Shape := ⟨2, ![2048, 6144]⟩
abbrev S3x2048 : Shape := ⟨2, ![3, 2048]⟩
abbrev S32768x2048 : Shape := ⟨2, ![32768, 2048]⟩
abbrev S1x2048 : Shape := ⟨2, ![1, 2048]⟩
abbrev S1x2048x6144 : Shape := ⟨3, ![1, 2048, 6144]⟩
abbrev S1x3x2048 : Shape := ⟨3, ![1, 3, 2048]⟩
abbrev S_ : Shape := ⟨0, ![]⟩
abbrev S1x1x2048 : Shape := ⟨3, ![1, 1, 2048]⟩
abbrev S512x2048 : Shape := ⟨2, ![512, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S512x512 : Shape := ⟨2, ![512, 512]⟩
abbrev S544x2048 : Shape := ⟨2, ![544, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S2048x512 : Shape := ⟨2, ![2048, 512]⟩
abbrev S544x512 : Shape := ⟨2, ![544, 512]⟩
abbrev S3x512 : Shape := ⟨2, ![3, 512]⟩
abbrev S1x512 : Shape := ⟨2, ![1, 512]⟩

abbrev nBuf : Space → Nat
  | .hbm => 12
  | .vmem => 20
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S32768x2048, .f32⟩
  | .hbm, ⟨5, _⟩ => ⟨S1x2048, .f32⟩
  | .hbm, ⟨6, _⟩ => ⟨S2048x6144, .bf16⟩
  | .hbm, ⟨7, _⟩ => ⟨S1x2048x6144, .bf16⟩
  | .hbm, ⟨8, _⟩ => ⟨S1x3x2048, .f32⟩
  | .hbm, ⟨9, _⟩ => ⟨S_, .f32⟩
  | .hbm, ⟨10, _⟩ => ⟨S1x1x2048, .f32⟩
  | .hbm, ⟨11, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x3x512, .f32⟩
  | .local _ .vmem, ⟨14, _⟩ => ⟨S1x3x512, .f32⟩
  | .local _ .vmem, ⟨15, _⟩ => ⟨S1x1x512, .f32⟩
  | .local _ .vmem, ⟨16, _⟩ => ⟨S1x1x512, .f32⟩
  | .local _ .vmem, ⟨17, _⟩ => ⟨S512x512, .bf16⟩
  | .local _ .vmem, ⟨18, _⟩ => ⟨S512x512, .bf16⟩
  | .local _ .vmem, ⟨19, _⟩ => ⟨S544x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SconvRefIdeal.lean ====
abbrev S8x4096x2048 : Shape := ⟨3, ![8, 4096, 2048]⟩
abbrev S2048 : Shape := ⟨1, ![2048]⟩
abbrev S2048x6144 : Shape := ⟨2, ![2048, 6144]⟩
abbrev S3x2048 : Shape := ⟨2, ![3, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6144 : Shape := ⟨3, ![8, 4096, 6144]⟩
abbrev S8x4098x2048 : Shape := ⟨3, ![8, 4098, 2048]⟩
abbrev S1x2048 : Shape := ⟨2, ![1, 2048]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x6144, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S_, .i32⟩
  | .hbm, ⟨26, _⟩ => ⟨S_, .f32⟩
  | .hbm, ⟨27, _⟩ => ⟨S8x4098x2048, .f32⟩
  | .hbm, ⟨28, _⟩ => ⟨S8x4096x2048, .f32⟩
  | .hbm, ⟨29, _⟩ => ⟨S1x2048, .f32⟩
  | .hbm, ⟨30, _⟩ => ⟨S2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S32768x2048, .f32⟩
  | .hbm, ⟨50, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Out.lean ====
abbrev S8x4096x2048 : Shape := ⟨3, ![8, 4096, 2048]⟩
abbrev S2048x2048 : Shape := ⟨2, ![2048, 2048]⟩
abbrev S32768x2048 : Shape := ⟨2, ![32768, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S8x4096x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S1x2048x2048, .bf16⟩
  | .hbm, ⟨7, _⟩ => ⟨S32768x2048, .f32⟩
  | .hbm, ⟨8, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8x4096x2048 : Shape := ⟨3, ![8, 4096, 2048]⟩
abbrev S2048x2048 : Shape := ⟨2, ![2048, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Hyena.lean ====
abbrev S8x4096x2048 : Shape := ⟨3, ![8, 4096, 2048]⟩
abbrev S2048 : Shape := ⟨1, ![2048]⟩
abbrev S2048x6144 : Shape := ⟨2, ![2048, 6144]⟩
abbrev S3x6144 : Shape := ⟨2, ![3, 6144]⟩
abbrev S6144 : Shape := ⟨1, ![6144]⟩
abbrev S3x3x2048 : Shape := ⟨3, ![3, 3, 2048]⟩
abbrev S3x1x2048 : Shape := ⟨3, ![3, 1, 2048]⟩
abbrev S32768x2048 : Shape := ⟨2, ![32768, 2048]⟩
abbrev S1x2048 : Shape := ⟨2, ![1, 2048]⟩
abbrev S1x2048x6144 : Shape := ⟨3, ![1, 2048, 6144]⟩
abbrev S512x2048 : Shape := ⟨2, ![512, 2048]⟩
abbrev S16x2048 : Shape := ⟨2, ![16, 2048]⟩
abbrev S1x2048x512 : Shape := ⟨3, ![1, 2048, 512]⟩
abbrev S3x3x512 : Shape := ⟨3, ![3, 3, 512]⟩
abbrev S3x1x512 : Shape := ⟨3, ![3, 1, 512]⟩
abbrev S512x512 : Shape := ⟨2, ![512, 512]⟩
abbrev S544x2048 : Shape := ⟨2, ![544, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S2048x512 : Shape := ⟨2, ![2048, 512]⟩
abbrev S544x512 : Shape := ⟨2, ![544, 512]⟩
abbrev S1x3x512 : Shape := ⟨3, ![1, 3, 512]⟩
abbrev S3x512 : Shape := ⟨2, ![3, 512]⟩
abbrev S1x512 : Shape := ⟨2, ![1, 512]⟩
abbrev S1x1x512 : Shape := ⟨3, ![1, 1, 512]⟩

abbrev nBuf : Space → Nat
  | .hbm => 14
  | .vmem => 22
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S3x6144, .f32⟩
  | .hbm, ⟨4, _⟩ => ⟨S6144, .f32⟩
  | .hbm, ⟨5, _⟩ => ⟨S3x3x2048, .f32⟩
  | .hbm, ⟨6, _⟩ => ⟨S3x3x2048, .f32⟩
  | .hbm, ⟨7, _⟩ => ⟨S3x1x2048, .f32⟩
  | .hbm, ⟨8, _⟩ => ⟨S32768x2048, .f32⟩
  | .hbm, ⟨9, _⟩ => ⟨S1x2048, .f32⟩
  | .hbm, ⟨10, _⟩ => ⟨S2048x6144, .bf16⟩
  | .hbm, ⟨11, _⟩ => ⟨S1x2048x6144, .bf16⟩
  | .hbm, ⟨12, _⟩ => ⟨S32768x2048, .bf16⟩
  | .hbm, ⟨13, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S3x3x512, .f32⟩
  | .local _ .vmem, ⟨14, _⟩ => ⟨S3x3x512, .f32⟩
  | .local _ .vmem, ⟨15, _⟩ => ⟨S3x1x512, .f32⟩
  | .local _ .vmem, ⟨16, _⟩ => ⟨S3x1x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S544x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== HyenaRefIdeal.lean ====
abbrev S8x4096x2048 : Shape := ⟨3, ![8, 4096, 2048]⟩
abbrev S2048 : Shape := ⟨1, ![2048]⟩
abbrev S2048x6144 : Shape := ⟨2, ![2048, 6144]⟩
abbrev S3x6144 : Shape := ⟨2, ![3, 6144]⟩
abbrev S6144 : Shape := ⟨1, ![6144]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6144 : Shape := ⟨3, ![8, 4096, 6144]⟩
abbrev S8x4098x6144 : Shape := ⟨3, ![8, 4098, 6144]⟩
abbrev S1x6144 : Shape := ⟨2, ![1, 6144]⟩
abbrev S1x1x6144 : Shape := ⟨3, ![1, 1, 6144]⟩
abbrev S32768x2048 : Shape := ⟨2, ![32768, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S3x6144, .f32⟩
  | .hbm, ⟨4, _⟩ => ⟨S6144, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x6144, .f32⟩
  | .hbm, ⟨22, _⟩ => ⟨S_, .i32⟩
  | .hbm, ⟨23, _⟩ => ⟨S_, .f32⟩
  | .hbm, ⟨24, _⟩ => ⟨S8x4098x6144, .f32⟩
  | .hbm, ⟨25, _⟩ => ⟨S8x4096x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S8x4096x6144, .f32⟩
  | .hbm, ⟨30, _⟩ => ⟨S8x4096x6144, .f32⟩
  | .hbm, ⟨31, _⟩ => ⟨S8x4096x6144, .f32⟩
  | .hbm, ⟨32, _⟩ => ⟨S1x6144, .f32⟩
  | .hbm, ⟨33, _⟩ => ⟨S6144, .f32⟩
  | .hbm, ⟨34, _⟩ => ⟨S1x1x6144, .f32⟩
  | .hbm, ⟨35, _⟩ => ⟨S8x4096x6144, .f32⟩
  | .hbm, ⟨36, _⟩ => ⟨S8x4096x6144, .f32⟩
  | .hbm, ⟨37, _⟩ => ⟨S8x4096x6144, .f32⟩
  | .hbm, ⟨38, _⟩ => ⟨S8x4096x6144, .f32⟩
  | .hbm, ⟨39, _⟩ => ⟨S1x6144, .f32⟩
  | .hbm, ⟨40, _⟩ => ⟨S6144, .f32⟩
  | .hbm, ⟨41, _⟩ => ⟨S1x1x6144, .f32⟩
  | .hbm, ⟨42, _⟩ => ⟨S8x4096x6144, .f32⟩
  | .hbm, ⟨43, _⟩ => ⟨S8x4096x6144, .f32⟩
  | .hbm, ⟨44, _⟩ => ⟨S8x4096x6144, .f32⟩
  | .hbm, ⟨45, _⟩ => ⟨S1x1x6144, .f32⟩
  | .hbm, ⟨46, _⟩ => ⟨S8x4096x6144, .f32⟩
  | .hbm, ⟨47, _⟩ => ⟨S8x4096x6144, .f32⟩
  | .hbm, ⟨48, _⟩ => ⟨S8x4096x2048, .f32⟩
  | .hbm, ⟨49, _⟩ => ⟨S8x4096x2048, .f32⟩
  | .hbm, ⟨50, _⟩ => ⟨S8x4096x2048, .f32⟩
  | .hbm, ⟨51, _⟩ => ⟨S8x4096x2048, .f32⟩
  | .hbm, ⟨52, _⟩ => ⟨S32768x2048, .f32⟩
  | .hbm, ⟨53, _⟩ => ⟨S32768x2048, .bf16⟩
  | .hbm, ⟨54, _⟩ => ⟨S32768x2048, .f32⟩
  | .hbm, ⟨55, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Down.lean ====
abbrev S8x4096x2048 : Shape := ⟨3, ![8, 4096, 2048]⟩
abbrev S2048 : Shape := ⟨1, ![2048]⟩
abbrev S2048x1088 : Shape := ⟨2, ![2048, 1088]⟩
abbrev S512 : Shape := ⟨1, ![512]⟩
abbrev S2048x64 : Shape := ⟨2, ![2048, 64]⟩
abbrev S2048x1024 : Shape := ⟨2, ![2048, 1024]⟩
abbrev S_ : Shape := ⟨0, ![]⟩
abbrev S2048x128 : Shape := ⟨2, ![2048, 128]⟩
abbrev S2048x32 : Shape := ⟨2, ![2048, 32]⟩
abbrev S2048x1280 : Shape := ⟨2, ![2048, 1280]⟩
abbrev S32768x2048 : Shape := ⟨2, ![32768, 2048]⟩
abbrev S1x2048 : Shape := ⟨2, ![1, 2048]⟩
abbrev S1x512 : Shape := ⟨2, ![1, 512]⟩
abbrev S32768x512 : Shape := ⟨2, ![32768, 512]⟩
abbrev S32768x256 : Shape := ⟨2, ![32768, 256]⟩
abbrev S512x2048 : Shape := ⟨2, ![512, 2048]⟩
abbrev S512x512 : Shape := ⟨2, ![512, 512]⟩
abbrev S512x256 : Shape := ⟨2, ![512, 256]⟩
abbrev S512x1 : Shape := ⟨2, ![512, 1]⟩
abbrev S512x1280 : Shape := ⟨2, ![512, 1280]⟩

abbrev nBuf : Space → Nat
  | .hbm => 25
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S2048x64, .f32⟩
  | .hbm, ⟨6, _⟩ => ⟨S2048x1024, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x32, .f32⟩
  | .hbm, ⟨11, _⟩ => ⟨S2048x32, .f32⟩
  | .hbm, ⟨12, _⟩ => ⟨S2048x64, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x1280, .f32⟩
  | .hbm, ⟨17, _⟩ => ⟨S2048x1280, .bf16⟩
  | .hbm, ⟨18, _⟩ => ⟨S32768x2048, .f32⟩
  | .hbm, ⟨19, _⟩ => ⟨S1x2048, .f32⟩
  | .hbm, ⟨20, _⟩ => ⟨S1x512, .f32⟩
  | .hbm, ⟨21, _⟩ => ⟨S1x512, .f32⟩
  | .hbm, ⟨22, _⟩ => ⟨S32768x512, .bf16⟩
  | .hbm, ⟨23, _⟩ => ⟨S32768x512, .bf16⟩
  | .hbm, ⟨24, _⟩ => ⟨S32768x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1280, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S8x4096x2048 : Shape := ⟨3, ![8, 4096, 2048]⟩
abbrev S2048 : Shape := ⟨1, ![2048]⟩
abbrev S2048x1088 : Shape := ⟨2, ![2048, 1088]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x1088 : Shape := ⟨3, ![8, 4096, 1088]⟩
abbrev S8x4096x512 : Shape := ⟨3, ![8, 4096, 512]⟩
abbrev S1x1x512 : Shape := ⟨3, ![1, 1, 512]⟩
abbrev S8x4096x64 : Shape := ⟨3, ![8, 4096, 64]⟩
abbrev S8x4096x32 : Shape := ⟨3, ![8, 4096, 32]⟩
abbrev S8x4096x256 : Shape := ⟨3, ![8, 4096, 256]⟩
abbrev S32768x512 : Shape := ⟨2, ![32768, 512]⟩
abbrev S32768x256 : Shape := ⟨2, ![32768, 256]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x1088, .f32⟩
  | .hbm, ⟨3, _⟩ => ⟨S512, .f32⟩
  | .hbm, ⟨4, _⟩ => ⟨S512, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x1088, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x512, .f32⟩
  | .hbm, ⟨35, _⟩ => ⟨S8x4096x512, .f32⟩
  | .hbm, ⟨36, _⟩ => ⟨S1x1x512, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x512, .f32⟩
  | .hbm, ⟨52, _⟩ => ⟨S8x4096x512, .f32⟩
  | .hbm, ⟨53, _⟩ => ⟨S1x1x512, .f32⟩
  | .hbm, ⟨54, _⟩ => ⟨S8x4096x512, .f32⟩
  | .hbm, ⟨55, _⟩ => ⟨S8x4096x512, .f32⟩
  | .hbm, ⟨56, _⟩ => ⟨S8x4096x64, .f32⟩
  | .hbm, ⟨57, _⟩ => ⟨S8x4096x32, .f32⟩
  | .hbm, ⟨58, _⟩ => ⟨S8x4096x32, .f32⟩
  | .hbm, ⟨59, _⟩ => ⟨S_, .f32⟩
  | .hbm, ⟨60, _⟩ => ⟨S8x4096x64, .f32⟩
  | .hbm, ⟨61, _⟩ => ⟨S8x4096x256, .f32⟩
  | .hbm, ⟨62, _⟩ => ⟨S32768x512, .f32⟩
  | .hbm, ⟨63, _⟩ => ⟨S32768x512, .bf16⟩
  | .hbm, ⟨64, _⟩ => ⟨S32768x512, .f32⟩
  | .hbm, ⟨65, _⟩ => ⟨S32768x512, .bf16⟩
  | .hbm, ⟨66, _⟩ => ⟨S32768x256, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Query.lean ====
abbrev S8x4096x512 : Shape := ⟨3, ![8, 4096, 512]⟩
abbrev S512x3072 : Shape := ⟨2, ![512, 3072]⟩
abbrev S192 : Shape := ⟨1, ![192]⟩
abbrev S512x16x192 : Shape := ⟨3, ![512, 16, 192]⟩
abbrev S512x16x64 : Shape := ⟨3, ![512, 16, 64]⟩
abbrev S512x16x128 : Shape := ⟨3, ![512, 16, 128]⟩
abbrev S_ : Shape := ⟨0, ![]⟩
abbrev S512x16x32 : Shape := ⟨3, ![512, 16, 32]⟩
abbrev S512x16x384 : Shape := ⟨3, ![512, 16, 384]⟩
abbrev S512x6144 : Shape := ⟨2, ![512, 6144]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32768x512 : Shape := ⟨2, ![32768, 512]⟩
abbrev S64 : Shape := ⟨1, ![64]⟩
abbrev S128 : Shape := ⟨1, ![128]⟩
abbrev S384 : Shape := ⟨1, ![384]⟩
abbrev S1x384 : Shape := ⟨2, ![1, 384]⟩
abbrev S32768x4096 : Shape := ⟨2, ![32768, 4096]⟩
abbrev S512x512 : Shape := ⟨2, ![512, 512]⟩
abbrev S512x1536 : Shape := ⟨2, ![512, 1536]⟩
abbrev S512x128 : Shape := ⟨2, ![512, 128]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩
abbrev S1x128 : Shape := ⟨2, ![1, 128]⟩

abbrev nBuf : Space → Nat
  | .hbm => 67
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S512x3072, .f32⟩
  | .hbm, ⟨2, _⟩ => ⟨S192, .f32⟩
  | .hbm, ⟨3, _⟩ => ⟨S512x16x192, .f32⟩
  | .hbm, ⟨4, _⟩ => ⟨S512x16x64, .f32⟩
  | .hbm, ⟨5, _⟩ => ⟨S512x16x128, .f32⟩
  | .hbm, ⟨6, _⟩ => ⟨S_, .i32⟩
  | .hbm, ⟨7, _⟩ => ⟨S_, .f32⟩
  | .hbm, ⟨8, _⟩ => ⟨S512x16x128, .f32⟩
  | .hbm, ⟨9, _⟩ => ⟨S512x16x32, .f32⟩
  | .hbm, ⟨10, _⟩ => ⟨S512x16x32, .f32⟩
  | .hbm, ⟨11, _⟩ => ⟨S512x16x64, .f32⟩
  | .hbm, ⟨12, _⟩ => ⟨S_, .i32⟩
  | .hbm, ⟨13, _⟩ => ⟨S_, .f32⟩
  | .hbm, ⟨14, _⟩ => ⟨S512x16x128, .f32⟩
  | .hbm, ⟨15, _⟩ => ⟨S512x16x384, .f32⟩
  | .hbm, ⟨16, _⟩ => ⟨S512x6144, .f32⟩
  | .hbm, ⟨17, _⟩ => ⟨S512x6144, .bf16⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x64, .f32⟩
  | .hbm, ⟨41, _⟩ => ⟨S_, .i32⟩
  | .hbm, ⟨42, _⟩ => ⟨S_, .f32⟩
  | .hbm, ⟨43, _⟩ => ⟨S4096x128, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x64, .f32⟩
  | .hbm, ⟨48, _⟩ => ⟨S_, .i32⟩
  | .hbm, ⟨49, _⟩ => ⟨S_, .f32⟩
  | .hbm, ⟨50, _⟩ => ⟨S4096x128, .f32⟩
  | .hbm, ⟨51, _⟩ => ⟨S32768x512, .f32⟩
  | .hbm, ⟨52, _⟩ => ⟨S32768x512, .bf16⟩
  | .hbm, ⟨53, _⟩ => ⟨S64, .f32⟩
  | .hbm, ⟨54, _⟩ => ⟨S128, .f32⟩
  | .hbm, ⟨55, _⟩ => ⟨S_, .i32⟩
  | .hbm, ⟨56, _⟩ => ⟨S_, .f32⟩
  | .hbm, ⟨57, _⟩ => ⟨S128, .f32⟩
  | .hbm, ⟨58, _⟩ => ⟨S32, .f32⟩
  | .hbm, ⟨59, _⟩ => ⟨S32, .f32⟩
  | .hbm, ⟨60, _⟩ => ⟨S64, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S384, .f32⟩
  | .hbm, ⟨65, _⟩ => ⟨S1x384, .f32⟩
  | .hbm, ⟨66, _⟩ => ⟨S32768x4096, .bf16⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S1x384, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_call4_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_call5_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueryRefIdeal.lean ====
abbrev S8x4096x512 : Shape := ⟨3, ![8, 4096, 512]⟩
abbrev S512x3072 : Shape := ⟨2, ![512, 3072]⟩
abbrev S192 : Shape := ⟨1, ![192]⟩
abbrev S8x4096x3072 : Shape := ⟨3, ![8, 4096, 3072]⟩
abbrev S8x4096x16x192 : Shape := ⟨4, ![8, 4096, 16, 192]⟩
abbrev S_ : Shape := ⟨0, ![]⟩
abbrev S8x4096x16 : Shape := ⟨3, ![8, 4096, 16]⟩
abbrev S8x4096x16x1 : Shape := ⟨4, ![8, 4096, 16, 1]⟩
abbrev S1x1x1x192 : Shape := ⟨4, ![1, 1, 1, 192]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096x16x128 : Shape := ⟨4, ![8, 4096, 16, 128]⟩
abbrev S8x4096x16x64 : Shape := ⟨4, ![8, 4096, 16, 64]⟩
abbrev S8x4096x16x32 : Shape := ⟨4, ![8, 4096, 16, 32]⟩
abbrev S1x4096x1x32 : Shape := ⟨4, ![1, 4096, 1, 32]⟩
abbrev S8x4096x16x256 : Shape := ⟨4, ![8, 4096, 16, 256]⟩
abbrev S32768x4096 : Shape := ⟨2, ![32768, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x3072, .f32⟩
  | .hbm, ⟨2, _⟩ => ⟨S192, .f32⟩
  | .hbm, ⟨3, _⟩ => ⟨S8x4096x3072, .f32⟩
  | .hbm, ⟨4, _⟩ => ⟨S8x4096x16x192, .f32⟩
  | .hbm, ⟨5, _⟩ => ⟨S8x4096x16x192, .f32⟩
  | .hbm, ⟨6, _⟩ => ⟨S_, .f32⟩
  | .hbm, ⟨7, _⟩ => ⟨S8x4096x16, .f32⟩
  | .hbm, ⟨8, _⟩ => ⟨S8x4096x16x1, .f32⟩
  | .hbm, ⟨9, _⟩ => ⟨S_, .f32⟩
  | .hbm, ⟨10, _⟩ => ⟨S8x4096x16x1, .f32⟩
  | .hbm, ⟨11, _⟩ => ⟨S8x4096x16x1, .f32⟩
  | .hbm, ⟨12, _⟩ => ⟨S_, .f32⟩
  | .hbm, ⟨13, _⟩ => ⟨S8x4096x16x1, .f32⟩
  | .hbm, ⟨14, _⟩ => ⟨S8x4096x16x1, .f32⟩
  | .hbm, ⟨15, _⟩ => ⟨S8x4096x16x1, .f32⟩
  | .hbm, ⟨16, _⟩ => ⟨S8x4096x16x192, .f32⟩
  | .hbm, ⟨17, _⟩ => ⟨S8x4096x16x192, .f32⟩
  | .hbm, ⟨18, _⟩ => ⟨S1x1x1x192, .f32⟩
  | .hbm, ⟨19, _⟩ => ⟨S8x4096x16x192, .f32⟩
  | .hbm, ⟨20, _⟩ => ⟨S8x4096x16x192, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4096, .f32⟩
  | .hbm, ⟨36, _⟩ => ⟨S4096x1, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S8x4096x16x128, .f32⟩
  | .hbm, ⟨44, _⟩ => ⟨S8x4096x16x64, .f32⟩
  | .hbm, ⟨45, _⟩ => ⟨S8x4096x16x32, .f32⟩
  | .hbm, ⟨46, _⟩ => ⟨S8x4096x16x32, .f32⟩
  | .hbm, ⟨47, _⟩ => ⟨S1x4096x1x32, .f32⟩
  | .hbm, ⟨48, _⟩ => ⟨S1x4096x1x32, .f32⟩
  | .hbm, ⟨49, _⟩ => ⟨S8x4096x16x32, .f32⟩
  | .hbm, ⟨50, _⟩ => ⟨S8x4096x16x32, .f32⟩
  | .hbm, ⟨51, _⟩ => ⟨S8x4096x16x32, .f32⟩
  | .hbm, ⟨52, _⟩ => ⟨S8x4096x16x32, .f32⟩
  | .hbm, ⟨53, _⟩ => ⟨S8x4096x16x32, .f32⟩
  | .hbm, ⟨54, _⟩ => ⟨S8x4096x16x32, .f32⟩
  | .hbm, ⟨55, _⟩ => ⟨S8x4096x16x32, .f32⟩
  | .hbm, ⟨56, _⟩ => ⟨S8x4096x16x32, .f32⟩
  | .hbm, ⟨57, _⟩ => ⟨S8x4096x16x32, .f32⟩
  | .hbm, ⟨58, _⟩ => ⟨S8x4096x16x32, .f32⟩
  | .hbm, ⟨59, _⟩ => ⟨S8x4096x16x64, .f32⟩
  | .hbm, ⟨60, _⟩ => ⟨S8x4096x16x192, .f32⟩
  | .hbm, ⟨61, _⟩ => ⟨S_, .f32⟩
  | .hbm, ⟨62, _⟩ => ⟨S8x4096x16x192, .f32⟩
  | .hbm, ⟨63, _⟩ => ⟨S8x4096x16x192, .f32⟩
  | .hbm, ⟨64, _⟩ => ⟨S_, .i32⟩
  | .hbm, ⟨65, _⟩ => ⟨S_, .f32⟩
  | .hbm, ⟨66, _⟩ => ⟨S8x4096x16x256, .f32⟩
  | .hbm, ⟨67, _⟩ => ⟨S32768x4096, .f32⟩
  | .hbm, ⟨68, _⟩ => ⟨S32768x4096, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_c : Ref sig .tc := ⟨.hbm, 64, rfl⟩
abbrev main_call0_v0 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Keyval.lean ====
abbrev S8x4096x512 : Shape := ⟨3, ![8, 4096, 512]⟩
abbrev S8x4096x64 : Shape := ⟨3, ![8, 4096, 64]⟩
abbrev S512x4096 : Shape := ⟨2, ![512, 4096]⟩
abbrev S192 : Shape := ⟨1, ![192]⟩
abbrev S32768x64 : Shape := ⟨2, ![32768, 64]⟩
abbrev S_ : Shape := ⟨0, ![]⟩
abbrev S32768x128 : Shape := ⟨2, ![32768, 128]⟩
abbrev S32768x32 : Shape := ⟨2, ![32768, 32]⟩
abbrev S32768x256 : Shape := ⟨2, ![32768, 256]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32768x512 : Shape := ⟨2, ![32768, 512]⟩
abbrev S64 : Shape := ⟨1, ![64]⟩
abbrev S128 : Shape := ⟨1, ![128]⟩
abbrev S384 : Shape := ⟨1, ![384]⟩
abbrev S1x384 : Shape := ⟨2, ![1, 384]⟩
abbrev S32768x4096 : Shape := ⟨2, ![32768, 4096]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 66
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x4096x64, .f32⟩
  | .hbm, ⟨2, _⟩ => ⟨S512x4096, .f32⟩
  | .hbm, ⟨3, _⟩ => ⟨S192, .f32⟩
  | .hbm, ⟨4, _⟩ => ⟨S32768x64, .f32⟩
  | .hbm, ⟨5, _⟩ => ⟨S_, .i32⟩
  | .hbm, ⟨6, _⟩ => ⟨S_, .f32⟩
  | .hbm, ⟨7, _⟩ => ⟨S32768x128, .f32⟩
  | .hbm, ⟨8, _⟩ => ⟨S32768x32, .f32⟩
  | .hbm, ⟨9, _⟩ => ⟨S32768x32, .f32⟩
  | .hbm, ⟨10, _⟩ => ⟨S32768x64, .f32⟩
  | .hbm, ⟨11, _⟩ => ⟨S_, .i32⟩
  | .hbm, ⟨12, _⟩ => ⟨S_, .f32⟩
  | .hbm, ⟨13, _⟩ => ⟨S32768x128, .f32⟩
  | .hbm, ⟨14, _⟩ => ⟨S32768x256, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S4096, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x64, .f32⟩
  | .hbm, ⟨38, _⟩ => ⟨S_, .i32⟩
  | .hbm, ⟨39, _⟩ => ⟨S_, .f32⟩
  | .hbm, ⟨40, _⟩ => ⟨S4096x128, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x64, .f32⟩
  | .hbm, ⟨45, _⟩ => ⟨S_, .i32⟩
  | .hbm, ⟨46, _⟩ => ⟨S_, .f32⟩
  | .hbm, ⟨47, _⟩ => ⟨S4096x128, .f32⟩
  | .hbm, ⟨48, _⟩ => ⟨S32768x512, .f32⟩
  | .hbm, ⟨49, _⟩ => ⟨S32768x512, .bf16⟩
  | .hbm, ⟨50, _⟩ => ⟨S512x4096, .bf16⟩
  | .hbm, ⟨51, _⟩ => ⟨S64, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S32, .f32⟩
  | .hbm, ⟨57, _⟩ => ⟨S32, .f32⟩
  | .hbm, ⟨58, _⟩ => ⟨S64, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S384, .f32⟩
  | .hbm, ⟨63, _⟩ => ⟨S1x384, .f32⟩
  | .hbm, ⟨64, _⟩ => ⟨S32768x4096, .bf16⟩
  | .hbm, ⟨65, _⟩ => ⟨S32768x4096, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1x384, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call2_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_call3_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_call4_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_call5_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KeyvalRefIdeal.lean ====
abbrev S8x4096x512 : Shape := ⟨3, ![8, 4096, 512]⟩
abbrev S8x4096x64 : Shape := ⟨3, ![8, 4096, 64]⟩
abbrev S512x4096 : Shape := ⟨2, ![512, 4096]⟩
abbrev S192 : Shape := ⟨1, ![192]⟩
abbrev S8x4096x4096 : Shape := ⟨3, ![8, 4096, 4096]⟩
abbrev S8x4096x16x256 : Shape := ⟨4, ![8, 4096, 16, 256]⟩
abbrev S8x4096x16x128 : Shape := ⟨4, ![8, 4096, 16, 128]⟩
abbrev S8x4096x1x64 : Shape := ⟨4, ![8, 4096, 1, 64]⟩
abbrev S8x4096x16x64 : Shape := ⟨4, ![8, 4096, 16, 64]⟩
abbrev S8x4096x16x192 : Shape := ⟨4, ![8, 4096, 16, 192]⟩
abbrev S_ : Shape := ⟨0, ![]⟩
abbrev S8x4096x16 : Shape := ⟨3, ![8, 4096, 16]⟩
abbrev S8x4096x16x1 : Shape := ⟨4, ![8, 4096, 16, 1]⟩
abbrev S1x1x1x192 : Shape := ⟨4, ![1, 1, 1, 192]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096x16x32 : Shape := ⟨4, ![8, 4096, 16, 32]⟩
abbrev S1x4096x1x32 : Shape := ⟨4, ![1, 4096, 1, 32]⟩
abbrev S8x4096x16x129 : Shape := ⟨4, ![8, 4096, 16, 129]⟩
abbrev S32768x4096 : Shape := ⟨2, ![32768, 4096]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x64, .f32⟩
  | .hbm, ⟨2, _⟩ => ⟨S512x4096, .f32⟩
  | .hbm, ⟨3, _⟩ => ⟨S192, .f32⟩
  | .hbm, ⟨4, _⟩ => ⟨S8x4096x4096, .f32⟩
  | .hbm, ⟨5, _⟩ => ⟨S8x4096x16x256, .f32⟩
  | .hbm, ⟨6, _⟩ => ⟨S8x4096x16x128, .f32⟩
  | .hbm, ⟨7, _⟩ => ⟨S8x4096x16x128, .f32⟩
  | .hbm, ⟨8, _⟩ => ⟨S8x4096x1x64, .f32⟩
  | .hbm, ⟨9, _⟩ => ⟨S8x4096x16x64, .f32⟩
  | .hbm, ⟨10, _⟩ => ⟨S8x4096x16x192, .f32⟩
  | .hbm, ⟨11, _⟩ => ⟨S8x4096x16x192, .f32⟩
  | .hbm, ⟨12, _⟩ => ⟨S_, .f32⟩
  | .hbm, ⟨13, _⟩ => ⟨S8x4096x16, .f32⟩
  | .hbm, ⟨14, _⟩ => ⟨S8x4096x16x1, .f32⟩
  | .hbm, ⟨15, _⟩ => ⟨S_, .f32⟩
  | .hbm, ⟨16, _⟩ => ⟨S8x4096x16x1, .f32⟩
  | .hbm, ⟨17, _⟩ => ⟨S8x4096x16x1, .f32⟩
  | .hbm, ⟨18, _⟩ => ⟨S_, .f32⟩
  | .hbm, ⟨19, _⟩ => ⟨S8x4096x16x1, .f32⟩
  | .hbm, ⟨20, _⟩ => ⟨S8x4096x16x1, .f32⟩
  | .hbm, ⟨21, _⟩ => ⟨S8x4096x16x1, .f32⟩
  | .hbm, ⟨22, _⟩ => ⟨S8x4096x16x192, .f32⟩
  | .hbm, ⟨23, _⟩ => ⟨S8x4096x16x192, .f32⟩
  | .hbm, ⟨24, _⟩ => ⟨S1x1x1x192, .f32⟩
  | .hbm, ⟨25, _⟩ => ⟨S8x4096x16x192, .f32⟩
  | .hbm, ⟨26, _⟩ => ⟨S8x4096x16x192, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S8x4096x16x128, .f32⟩
  | .hbm, ⟨50, _⟩ => ⟨S8x4096x16x64, .f32⟩
  | .hbm, ⟨51, _⟩ => ⟨S8x4096x16x32, .f32⟩
  | .hbm, ⟨52, _⟩ => ⟨S8x4096x16x32, .f32⟩
  | .hbm, ⟨53, _⟩ => ⟨S1x4096x1x32, .f32⟩
  | .hbm, ⟨54, _⟩ => ⟨S1x4096x1x32, .f32⟩
  | .hbm, ⟨55, _⟩ => ⟨S8x4096x16x32, .f32⟩
  | .hbm, ⟨56, _⟩ => ⟨S8x4096x16x32, .f32⟩
  | .hbm, ⟨57, _⟩ => ⟨S8x4096x16x32, .f32⟩
  | .hbm, ⟨58, _⟩ => ⟨S8x4096x16x32, .f32⟩
  | .hbm, ⟨59, _⟩ => ⟨S8x4096x16x32, .f32⟩
  | .hbm, ⟨60, _⟩ => ⟨S8x4096x16x32, .f32⟩
  | .hbm, ⟨61, _⟩ => ⟨S8x4096x16x32, .f32⟩
  | .hbm, ⟨62, _⟩ => ⟨S8x4096x16x32, .f32⟩
  | .hbm, ⟨63, _⟩ => ⟨S8x4096x16x32, .f32⟩
  | .hbm, ⟨64, _⟩ => ⟨S8x4096x16x32, .f32⟩
  | .hbm, ⟨65, _⟩ => ⟨S8x4096x16x64, .f32⟩
  | .hbm, ⟨66, _⟩ => ⟨S8x4096x16x192, .f32⟩
  | .hbm, ⟨67, _⟩ => ⟨S_, .f32⟩
  | .hbm, ⟨68, _⟩ => ⟨S8x4096x16x1, .f32⟩
  | .hbm, ⟨69, _⟩ => ⟨S8x4096x16x129, .f32⟩
  | .hbm, ⟨70, _⟩ => ⟨S_, .i32⟩
  | .hbm, ⟨71, _⟩ => ⟨S_, .f32⟩
  | .hbm, ⟨72, _⟩ => ⟨S8x4096x16x256, .f32⟩
  | .hbm, ⟨73, _⟩ => ⟨S32768x4096, .f32⟩
  | .hbm, ⟨74, _⟩ => ⟨S32768x4096, .bf16⟩
  | .hbm, ⟨75, _⟩ => ⟨S_, .i32⟩
  | .hbm, ⟨76, _⟩ => ⟨S_, .f32⟩
  | .hbm, ⟨77, _⟩ => ⟨S8x4096x16x256, .f32⟩
  | .hbm, ⟨78, _⟩ => ⟨S32768x4096, .f32⟩
  | .hbm, ⟨79, _⟩ => ⟨S32768x4096, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_c : Ref sig .tc := ⟨.hbm, 70, rfl⟩
abbrev main_call0_v0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_7 : Ref sig .tc := ⟨.hbm, 75, rfl⟩
abbrev main_call1_v0 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Filter.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S64x4096 : Shape := ⟨2, ![64, 4096]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S2047 : Shape := ⟨1, ![2047]⟩
abbrev S2048 : Shape := ⟨1, ![2048]⟩
abbrev S1x2048 : Shape := ⟨2, ![1, 2048]⟩
abbrev S1x4096 : Shape := ⟨2, ![1, 4096]⟩
abbrev S4096x128 : Shape := ⟨2, ![4096, 128]⟩
abbrev S128x128 : Shape := ⟨2, ![128, 128]⟩
abbrev S1x64 : Shape := ⟨2, ![1, 64]⟩
abbrev S1x128 : Shape := ⟨2, ![1, 128]⟩
abbrev S2x128x128 : Shape := ⟨3, ![2, 128, 128]⟩
abbrev S2x128 : Shape := ⟨2, ![2, 128]⟩
abbrev S3x128 : Shape := ⟨2, ![3, 128]⟩
abbrev S128x4096 : Shape := ⟨2, ![128, 4096]⟩
abbrev S4096x4096 : Shape := ⟨2, ![4096, 4096]⟩
abbrev S128x512 : Shape := ⟨2, ![128, 512]⟩
abbrev S1x512 : Shape := ⟨2, ![1, 512]⟩
abbrev S4096x512 : Shape := ⟨2, ![4096, 512]⟩
abbrev S1x128x128 : Shape := ⟨3, ![1, 128, 128]⟩

abbrev nBuf : Space → Nat
  | .hbm => 121
  | .vmem => 13
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S2x64x64, .f32⟩
  | .hbm, ⟨3, _⟩ => ⟨S2x64, .f32⟩
  | .hbm, ⟨4, _⟩ => ⟨S3x64, .f32⟩
  | .hbm, ⟨5, _⟩ => ⟨S64x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4095, .f32⟩
  | .hbm, ⟨14, _⟩ => ⟨S_, .f32⟩
  | .hbm, ⟨15, _⟩ => ⟨S4095, .f32⟩
  | .hbm, ⟨16, _⟩ => ⟨S4095, .f32⟩
  | .hbm, ⟨17, _⟩ => ⟨S1, .f32⟩
  | .hbm, ⟨18, _⟩ => ⟨S_, .f32⟩
  | .hbm, ⟨19, _⟩ => ⟨S4095, .f32⟩
  | .hbm, ⟨20, _⟩ => ⟨S4095, .f32⟩
  | .hbm, ⟨21, _⟩ => ⟨S4095, .f32⟩
  | .hbm, ⟨22, _⟩ => ⟨S4095, .f32⟩
  | .hbm, ⟨23, _⟩ => ⟨S1, .f32⟩
  | .hbm, ⟨24, _⟩ => ⟨S4095, .f32⟩
  | .hbm, ⟨25, _⟩ => ⟨S4095, .f32⟩
  | .hbm, ⟨26, _⟩ => ⟨S4095, .f32⟩
  | .hbm, ⟨27, _⟩ => ⟨S1, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S15, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S1, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S16, .f32⟩
  | .hbm, ⟨53, _⟩ => ⟨S1x16, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x33, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S2047, .f32⟩
  | .hbm, ⟨80, _⟩ => ⟨S_, .f32⟩
  | .hbm, ⟨81, _⟩ => ⟨S2047, .f32⟩
  | .hbm, ⟨82, _⟩ => ⟨S2047, .f32⟩
  | .hbm, ⟨83, _⟩ => ⟨S1, .f32⟩
  | .hbm, ⟨84, _⟩ => ⟨S_, .f32⟩
  | .hbm, ⟨85, _⟩ => ⟨S2047, .f32⟩
  | .hbm, ⟨86, _⟩ => ⟨S2047, .f32⟩
  | .hbm, ⟨87, _⟩ => ⟨S2047, .f32⟩
  | .hbm, ⟨88, _⟩ => ⟨S2047, .f32⟩
  | .hbm, ⟨89, _⟩ => ⟨S1, .f32⟩
  | .hbm, ⟨90, _⟩ => ⟨S2047, .f32⟩
  | .hbm, ⟨91, _⟩ => ⟨S2047, .f32⟩
  | .hbm, ⟨92, _⟩ => ⟨S2047, .f32⟩
  | .hbm, ⟨93, _⟩ => ⟨S1, .f32⟩
  | .hbm, ⟨94, _⟩ => ⟨S2048, .f32⟩
  | .hbm, ⟨95, _⟩ => ⟨S2048, .f32⟩
  | .hbm, ⟨96, _⟩ => ⟨S1x2048, .f32⟩
  | .hbm, ⟨97, _⟩ => ⟨S1x4096, .f32⟩
  | .hbm, ⟨98, _⟩ => ⟨S_, .i32⟩
  | .hbm, ⟨99, _⟩ => ⟨S_, .f32⟩
  | .hbm, ⟨100, _⟩ => ⟨S4096x128, .f32⟩
  | .hbm, ⟨101, _⟩ => ⟨S_, .i32⟩
  | .hbm, ⟨102, _⟩ => ⟨S_, .f32⟩
  | .hbm, ⟨103, _⟩ => ⟨S128x128, .f32⟩
  | .hbm, ⟨104, _⟩ => ⟨S1x64, .f32⟩
  | .hbm, ⟨105, _⟩ => ⟨S_, .i32⟩
  | .hbm, ⟨106, _⟩ => ⟨S_, .f32⟩
  | .hbm, ⟨107, _⟩ => ⟨S1x128, .f32⟩
  | .hbm, ⟨108, _⟩ => ⟨S_, .i32⟩
  | .hbm, ⟨109, _⟩ => ⟨S_, .f32⟩
  | .hbm, ⟨110, _⟩ => ⟨S2x128x128, .f32⟩
  | .hbm, ⟨111, _⟩ => ⟨S_, .i32⟩
  | .hbm, ⟨112, _⟩ => ⟨S_, .f32⟩
  | .hbm, ⟨113, _⟩ => ⟨S2x128, .f32⟩
  | .hbm, ⟨114, _⟩ => ⟨S_, .i32⟩
  | .hbm, ⟨115, _⟩ => ⟨S_, .f32⟩
  | .hbm, ⟨116, _⟩ => ⟨S3x128, .f32⟩
  | .hbm, ⟨117, _⟩ => ⟨S_, .i32⟩
  | .hbm, ⟨118, _⟩ => ⟨S_, .f32⟩
  | .hbm, ⟨119, _⟩ => ⟨S128x4096, .f32⟩
  | .hbm, ⟨120, _⟩ => ⟨S4096x4096, .bf16⟩
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S2x128x128, .f32⟩
  | .local _ .vmem, ⟨4, _⟩ => ⟨S2x128, .f32⟩
  | .local _ .vmem, ⟨5, _⟩ => ⟨S3x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S4096x512, .bf16⟩
  | .local _ .vmem, ⟨11, _⟩ => ⟨S4096x512, .bf16⟩
  | .local _ .vmem, ⟨12, _⟩ => ⟨S4096x128, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_2 : Ref sig .tc := ⟨.hbm, 56, rfl⟩
abbrev main_v6 : Ref sig .tc := ⟨.hbm, 57, rfl⟩
abbrev main_v7 : Ref sig .tc := ⟨.hbm, 58, rfl⟩
abbrev main_cst_3 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_cst_4 : Ref sig .tc := ⟨.hbm, 72, rfl⟩
abbrev main_cst_5 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_cst : Ref sig .tc := ⟨.hbm, 77, rfl⟩
abbrev main_call2_v3 : Ref sig .tc := ⟨.hbm, 78, rfl⟩
abbrev main_call2_v4 : Ref sig .tc := ⟨.hbm, 79, rfl⟩
abbrev main_call2_cst_0 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_v15 : Ref sig .tc := ⟨.hbm, 92, rfl⟩
abbrev main_call2_v16 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_c_6 : Ref sig .tc := ⟨.hbm, 98, rfl⟩
abbrev main_call3_v0 : Ref sig .tc := ⟨.hbm, 99, rfl⟩
abbrev main_v24 : Ref sig .tc := ⟨.hbm, 100, rfl⟩
abbrev main_c_7 : Ref sig .tc := ⟨.hbm, 101, rfl⟩
abbrev main_call4_v0 : Ref sig .tc := ⟨.hbm, 102, rfl⟩
abbrev main_v25 : Ref sig .tc := ⟨.hbm, 103, rfl⟩
abbrev main_v26 : Ref sig .tc := ⟨.hbm, 104, rfl⟩
abbrev main_c_8 : Ref sig .tc := ⟨.hbm, 105, rfl⟩
abbrev main_call5_v0 : Ref sig .tc := ⟨.hbm, 106, rfl⟩
abbrev main_v27 : Ref sig .tc := ⟨.hbm, 107, rfl⟩
abbrev main_c_9 : Ref sig .tc := ⟨.hbm, 108, rfl⟩
abbrev main_call6_v0 : Ref sig .tc := ⟨.hbm, 109, rfl⟩
abbrev main_v28 : Ref sig .tc := ⟨.hbm, 110, rfl⟩
abbrev main_c_10 : Ref sig .tc := ⟨.hbm, 111, rfl⟩
abbrev main_call7_v0 : Ref sig .tc := ⟨.hbm, 112, rfl⟩
abbrev main_v29 : Ref sig .tc := ⟨.hbm, 113, rfl⟩
abbrev main_c_11 : Ref sig .tc := ⟨.hbm, 114, rfl⟩
abbrev main_call8_v0 : Ref sig .tc := ⟨.hbm, 115, rfl⟩
abbrev main_v30 : Ref sig .tc := ⟨.hbm, 116, rfl⟩
abbrev main_c_12 : Ref sig .tc := ⟨.hbm, 117, rfl⟩
abbrev main_call9_v0 : Ref sig .tc := ⟨.hbm, 118, rfl⟩
abbrev main_v31 : Ref sig .tc := ⟨.hbm, 119, rfl⟩
abbrev main_v32 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FilterRefIdeal.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S64x4096 : Shape := ⟨2, ![64, 4096]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S1x64 : Shape := ⟨2, ![1, 64]⟩
abbrev S4096x64 : Shape := ⟨2, ![4096, 64]⟩
abbrev S1x64x64 : Shape := ⟨3, ![1, 64, 64]⟩
abbrev S64x64 : Shape := ⟨2, ![64, 64]⟩
abbrev S4096x4096 : Shape := ⟨2, ![4096, 4096]⟩
abbrev S2047 : Shape := ⟨1, ![2047]⟩
abbrev S2048 : Shape := ⟨1, ![2048]⟩
abbrev S1x2048 : Shape := ⟨2, ![1, 2048]⟩
abbrev S4096x2048 : Shape := ⟨2, ![4096, 2048]⟩
abbrev S4096x2x2048 : Shape := ⟨3, ![4096, 2, 2048]⟩
abbrev S4096x1x2048 : Shape := ⟨3, ![4096, 1, 2048]⟩
abbrev S4095x2048 : Shape := ⟨2, ![4095, 2048]⟩

abbrev nBuf : Space → Nat
  | .hbm => 156
  | .vmem => 0
  | .smem => 0
  | _ => 0

abbrev hbmTy0_0 (i : Nat) : BufTy := match i % 128 with
  | 0 => ⟨S33x64, .f32⟩
  | 1 => ⟨S64, .f32⟩
  | 2 => ⟨S2x64x64, .f32⟩
  | 3 => ⟨S2x64, .f32⟩
  | 4 => ⟨S3x64, .f32⟩
  | 5 => ⟨S64x4096, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S4095, .f32⟩
  | 14 => ⟨S_, .f32⟩
  | 15 => ⟨S4095, .f32⟩
  | 16 => ⟨S4095, .f32⟩
  | 17 => ⟨S1, .f32⟩
  | 18 => ⟨S_, .f32⟩
  | 19 => ⟨S4095, .f32⟩
  | 20 => ⟨S4095, .f32⟩
  | 21 => ⟨S4095, .f32⟩
  | 22 => ⟨S4095, .f32⟩
  | 23 => ⟨S1, .f32⟩
  | 24 => ⟨S4095, .f32⟩
  | 25 => ⟨S4095, .f32⟩
  | 26 => ⟨S4095, .f32⟩
  | 27 => ⟨S1, .f32⟩
  | 28 => ⟨S4096, .f32⟩
  | 29 => ⟨S4096x1, .f32⟩
  | 30 => ⟨S_, .f32⟩
  | 31 => ⟨S_, .i32⟩
  | 32 => ⟨S_, .f32⟩
  | 33 => ⟨S_, .f32⟩
  | 34 => ⟨S_, .f32⟩
  | 35 => ⟨S_, .f32⟩
  | 36 => ⟨S_, .f32⟩
  | 37 => ⟨S15, .f32⟩
  | 38 => ⟨S_, .f32⟩
  | 39 => ⟨S15, .f32⟩
  | 40 => ⟨S15, .f32⟩
  | 41 => ⟨S1, .f32⟩
  | 42 => ⟨S_, .f32⟩
  | 43 => ⟨S15, .f32⟩
  | 44 => ⟨S15, .f32⟩
  | 45 => ⟨S15, .f32⟩
  | 46 => ⟨S15, .f32⟩
  | 47 => ⟨S1, .f32⟩
  | 48 => ⟨S15, .f32⟩
  | 49 => ⟨S15, .f32⟩
  | 50 => ⟨S15, .f32⟩
  | 51 => ⟨S1, .f32⟩
  | 52 => ⟨S16, .f32⟩
  | 53 => ⟨S1x16, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x16, .f32⟩
  | 63 => ⟨S4096x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x33, .f32⟩
  | 72 => ⟨S1x64, .f32⟩
  | 73 => ⟨S64, .f32⟩
  | 74 => ⟨S4096x64, .f32⟩
  | 75 => ⟨S1x64, .f32⟩
  | 76 => ⟨S4096x64, .f32⟩
  | 77 => ⟨S4096x64, .f32⟩
  | 78 => ⟨S1x64, .f32⟩
  | 79 => ⟨S4096x64, .f32⟩
  | 80 => ⟨S4096x64, .f32⟩
  | 81 => ⟨S4096x64, .f32⟩
  | 82 => ⟨S1x64, .f32⟩
  | 83 => ⟨S64, .f32⟩
  | 84 => ⟨S1x64x64, .f32⟩
  | 85 => ⟨S64x64, .f32⟩
  | 86 => ⟨S4096x64, .f32⟩
  | 87 => ⟨S1x64, .f32⟩
  | 88 => ⟨S64, .f32⟩
  | 89 => ⟨S1x64, .f32⟩
  | 90 => ⟨S4096x64, .f32⟩
  | 91 => ⟨S4096x64, .f32⟩
  | 92 => ⟨S1x64, .f32⟩
  | 93 => ⟨S4096x64, .f32⟩
  | 94 => ⟨S4096x64, .f32⟩
  | 95 => ⟨S4096x64, .f32⟩
  | 96 => ⟨S1x64, .f32⟩
  | 97 => ⟨S64, .f32⟩
  | 98 => ⟨S1x64x64, .f32⟩
  | 99 => ⟨S64x64, .f32⟩
  | 100 => ⟨S4096x64, .f32⟩
  | 101 => ⟨S1x64, .f32⟩
  | 102 => ⟨S64, .f32⟩
  | 103 => ⟨S1x64, .f32⟩
  | 104 => ⟨S4096x64, .f32⟩
  | 105 => ⟨S4096x64, .f32⟩
  | 106 => ⟨S1x64, .f32⟩
  | 107 => ⟨S4096x64, .f32⟩
  | 108 => ⟨S4096x64, .f32⟩
  | 109 => ⟨S4096x64, .f32⟩
  | 110 => ⟨S4096x4096, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S2047, .f32⟩
  | 119 => ⟨S_, .f32⟩
  | 120 => ⟨S2047, .f32⟩
  | 121 => ⟨S2047, .f32⟩
  | 122 => ⟨S1, .f32⟩
  | 123 => ⟨S_, .f32⟩
  | 124 => ⟨S2047, .f32⟩
  | 125 => ⟨S2047, .f32⟩
  | 126 => ⟨S2047, .f32⟩
  | 127 => ⟨S2047, .f32⟩
  | _ => ⟨S33x64, .f32⟩

abbrev hbmTy0_1 (i : Nat) : BufTy := match i % 128 with
  | 0 => ⟨S1, .f32⟩
  | 1 => ⟨S2047, .f32⟩
  | 2 => ⟨S2047, .f32⟩
  | 3 => ⟨S2047, .f32⟩
  | 4 => ⟨S1, .f32⟩
  | 5 => ⟨S2048, .f32⟩
  | 6 => ⟨S2048, .f32⟩
  | 7 => ⟨S4096x1, .f32⟩
  | 8 => ⟨S1x2048, .f32⟩
  | 9 => ⟨S4096x2048, .f32⟩
  | 10 => ⟨S4096x2048, .f32⟩
  | 11 => ⟨S4096x2048, .f32⟩
  | 12 => ⟨S4096x2048, .f32⟩
  | 13 => ⟨S4096x2x2048, .f32⟩
  | 14 => ⟨S4096x1x2048, .f32⟩
  | 15 => ⟨S4096x2x2048, .f32⟩
  | 16 => ⟨S4096x2x2048, .f32⟩
  | 17 => ⟨S4096x1x2048, .f32⟩
  | 18 => ⟨S4096x2048, .f32⟩
  | 19 => ⟨S4096x1x2048, .f32⟩
  | 20 => ⟨S4096x2048, .f32⟩
  | 21 => ⟨S1x2048, .f32⟩
  | 22 => ⟨S_, .f32⟩
  | 23 => ⟨S1x2048, .f32⟩
  | 24 => ⟨S4095x2048, .f32⟩
  | 25 => ⟨S4096x2048, .f32⟩
  | 26 => ⟨S4096x4096, .f32⟩
  | 27 => ⟨S4096x4096, .bf16⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_2 : Ref sig .tc := ⟨.hbm, 56, rfl⟩
abbrev main_v6 : Ref sig .tc := ⟨.hbm, 57, rfl⟩
abbrev main_v7 : Ref sig .tc := ⟨.hbm, 58, rfl⟩
abbrev main_cst_3 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_4 : Ref sig .tc := ⟨.hbm, 111, rfl⟩
abbrev main_cst_5 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_cst : Ref sig .tc := ⟨.hbm, 116, rfl⟩
abbrev main_call2_v3 : Ref sig .tc := ⟨.hbm, 117, rfl⟩
abbrev main_call2_v4 : Ref sig .tc := ⟨.hbm, 118, rfl⟩
abbrev main_call2_cst_0 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_v12 : Ref sig .tc := ⟨.hbm, 128, rfl⟩
abbrev main_call2_v13 : Ref sig .tc := ⟨.hbm, 129, rfl⟩
abbrev main_call2_v14 : Ref sig .tc := ⟨.hbm, 130, rfl⟩
abbrev main_call2_v15 : Ref sig .tc := ⟨.hbm, 131, rfl⟩
abbrev main_call2_v16 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_cst_6 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩

abbrev nD : Nat := 1
abbrev τ : Topo := Topo.v7x

variable {F : FTy → Type} [FloatOps F]
-- ==== Proof.Prepared.lean ====
/- The attention call's operands as the host code lays them out, read at a batch, a position, a head and a coordinate. -/
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Prepared

open Cert.KernelIdeal Cert.KernelIdeal.Gen Idealize.ShloMosaic Idealize.ShloMosaic.TcCoe Idealize.SL.Sem

variable (m : (ℓ : Loc nD τ sig) → Buf (Elt Ideal) ℓ)

/-- Row `b·4096 + r` of the token-major arrays. -/
def row (b : Fin 8) (r : Fin 4096) : Fin 32768 := ⟨b.val * 4096 + r.val, by omega⟩

/-- Column `h·256 + d` of an array whose heads are 256 columns wide. -/
def col (h : Fin 16) (d : Fin 256) : Fin 4096 := ⟨h.val * 256 + d.val, by omega⟩

theorem zero_word : FloatOps.sitofp (F := Ideal) (w := 32) FTy.f32 0#32 = (0 : EReal) := by
  show (((0#32).toInt : ℝ) : EReal) = 0
  simp

theorem coords (b : Fin 8) (r : Fin 4096) (h : Fin 16) (d : Fin 256) :
    (row b r).val / 4096 = b.val ∧ (row b r).val % 4096 = r.val ∧ (col h d).val / 256 = h.val ∧ (col h d).val % 256 = d.val := by
  simp only [row, col]; omega

theorem q_dite (c : Dev nD) (i : Fin 32768) (j : Fin 4096) :
    (show EReal from V m c main_v8 (ix2 i j))
      = if hd : j.val % 256 < 192 then
          (show EReal from m ((c : Thread nD τ).loc main_arg0) (ix4 (⟨i.val / 4096, by omega⟩ : Fin 8) (⟨i.val % 4096, by omega⟩ : Fin 4096) (⟨j.val / 256, by omega⟩ : Fin 16) (⟨j.val % 256, hd⟩ : Fin 192)))
            * Ideal.ofBits .f32 0x3D93CD3A#32
        else 0 := by
  unfold V
  after_reads_at
  by_cases hd : j.val % 256 < 192
  · refine (dif_pos ⟨by omega, by omega, by omega, hd⟩).trans (Eq.trans ?_ (dif_pos hd).symm)
    exact Ideal.mul_congr rfl rfl
  · refine (dif_neg (fun h => hd h.2.2.2)).trans (zero_word.trans (Eq.symm ?_))
    exact dif_neg hd

theorem k_dite (c : Dev nD) (i : Fin 32768) (j : Fin 4096) (hd : j.val % 256 < 192) :
    (show EReal from V m c main_v10 (ix2 i j))
      = m ((c : Thread nD τ).loc main_arg1) (ix4 (⟨i.val / 4096, by omega⟩ : Fin 8) (⟨i.val % 4096, by omega⟩ : Fin 4096) (⟨j.val / 256, by omega⟩ : Fin 16) (⟨j.val % 256, hd⟩ : Fin 192)) := by
  unfold V
  after_reads_at
  rw [dif_pos ⟨by omega, by omega, by omega, hd⟩]

theorem v_dite (c : Dev nD) (i : Fin 32768) (j : Fin 4096) (hd : j.val % 256 < 128) :
    (show EReal from V m c main_v12 (ix2 i j))
      = m ((c : Thread nD τ).loc main_arg2) (ix4 (⟨i.val / 4096, by omega⟩ : Fin 8) (⟨i.val % 4096, by omega⟩ : Fin 4096) (⟨j.val / 256, by omega⟩ : Fin 16) (⟨j.val % 256, hd⟩ : Fin 128)) := by
  unfold V
  after_reads_at
  after_reads_at
  rw [dif_pos hd]

theorem v_one (c : Dev nD) (i : Fin 32768) (j : Fin 4096) (hd : j.val % 256 = 128) :
    (show EReal from V m c main_v12 (ix2 i j)) = 1 := by
  unfold V
  after_reads_at
  after_reads_at
  rw [dif_neg (by omega), dif_pos ⟨by omega, by omega, by omega, by omega⟩]

/-- The queries: scaled in the first 192 columns of a head, zero in the others. -/
theorem q_at (c : Dev nD) (b : Fin 8) (r : Fin 4096) (h : Fin 16) (d : Fin 256) (hd : d.val < 192) :
    (show EReal from V m c main_v8 (ix2 (row b r) (col h d)))
      = (show EReal from m ((c : Thread nD τ).loc main_arg0) (ix4 b r h (⟨d.val, hd⟩ : Fin 192))) * Ideal.ofBits .f32 0x3D93CD3A#32 := by
  obtain ⟨h0, h1, h2, h3⟩ := coords b r h d
  refine (q_dite m c (row b r) (col h d)).trans ?_
  rw [dif_pos (by omega)]
  simp only [h0, h1, h2, h3]

theorem q_pad (c : Dev nD) (b : Fin 8) (r : Fin 4096) (h : Fin 16) (d : Fin 256) (hd : 192 ≤ d.val) :
    (show EReal from V m c main_v8 (ix2 (row b r) (col h d))) = 0 := by
  obtain ⟨h0, h1, h2, h3⟩ := coords b r h d
  refine (q_dite m c (row b r) (col h d)).trans ?_
  rw [dif_neg (by omega)]

/-- The keys, in the first 192 columns of a head. -/
theorem k_at (c : Dev nD) (b : Fin 8) (r : Fin 4096) (h : Fin 16) (d : Fin 256) (hd : d.val < 192) :
    (show EReal from V m c main_v10 (ix2 (row b r) (col h d)))
      = m ((c : Thread nD τ).loc main_arg1) (ix4 b r h (⟨d.val, hd⟩ : Fin 192)) := by
  obtain ⟨h0, h1, h2, h3⟩ := coords b r h d
  refine (k_dite m c (row b r) (col h d) (by omega)).trans ?_
  simp only [h0, h1, h2, h3]

/-- The values, in the first 128 columns of a head; the column after them holds ones. -/
theorem v_at (c : Dev nD) (b : Fin 8) (r : Fin 4096) (h : Fin 16) (d : Fin 256) (hd : d.val < 128) :
    (show EReal from V m c main_v12 (ix2 (row b r) (col h d)))
      = m ((c : Thread nD τ).loc main_arg2) (ix4 b r h (⟨d.val, hd⟩ : Fin 128)) := by
  obtain ⟨h0, h1, h2, h3⟩ := coords b r h d
  refine (v_dite m c (row b r) (col h d) (by omega)).trans ?_
  simp only [h0, h1, h2, h3]

theorem v_ones (c : Dev nD) (b : Fin 8) (r : Fin 4096) (h : Fin 16) (d : Fin 256) (hd : d.val = 128) :
    (show EReal from V m c main_v12 (ix2 (row b r) (col h d))) = 1 :=
  v_one m c (row b r) (col h d) (by have := (coords b r h d).2.2.2; omega)

end Cert.KernelIdeal.Prepared

end
-- ==== Proof.OnlineSoftmax.lean ====
/- Softmax over real scores, on the extended reals: the weighted sum over the weights' sum is the same from any real
   shift, and the running form that goes through the scores chunk by chunk keeps it. Plain mathematics: no program. -/
module

public import Idealize.ShloMosaic.Lib.Pointwise

@[expose] public section

noncomputable section

namespace Cert.OnlineSoftmax

open Idealize.ShloMosaic

/-- An extended real that is a real number. -/
def IsReal (x : EReal) : Prop := ∃ r : ℝ, x = (r : EReal)

theorem isReal_of_ne {x : EReal} (ht : x ≠ ⊤) (hb : x ≠ ⊥) : IsReal x := ⟨x.toReal, (EReal.coe_toReal ht hb).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- The maximum of finitely many real numbers, started at `⊥`, is a real number as soon as there is one of them. -/
theorem isReal_fold_max {ι : Type*} [DecidableEq ι] (s : Finset ι) (hs : s.Nonempty) (f : ι → EReal) (h : ∀ i ∈ s, IsReal (f i)) :
    IsReal (s.fold max ⊥ f) := by
  induction hs using Finset.Nonempty.cons_induction with
  | singleton a =>
    rw [Finset.fold_singleton, max_eq_left bot_le]
    exact h a (Finset.mem_singleton_self a)
  | cons a s ha hs ih =>
    rw [Finset.fold_cons]
    exact (h a (Finset.mem_cons_self a s)).max (ih fun i hi => h i (Finset.mem_cons_of_mem hi))

/-- Multiplying by a real that is not negative goes through a finite sum of extended reals. -/
theorem mul_sum {ι : Type*} {c : ℝ} (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- A finite sum of real numbers, as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, EReal.coe_add, ih]

/-- `exp (a - c) = exp (b - c) * exp (a - b)` for real numbers. -/
theorem exp_shift {a b c : EReal} (ha : IsReal a) (hb : IsReal b) (hc : IsReal c) :
    Ideal.exp (a - c) = Ideal.exp (b - c) * Ideal.exp (a - b) := by
  obtain ⟨a, rfl⟩ := ha; obtain ⟨b, rfl⟩ := hb; obtain ⟨c, rfl⟩ := hc
  rw [← EReal.coe_sub, ← EReal.coe_sub, ← EReal.coe_sub, Ideal.exp_coe, Ideal.exp_coe, Ideal.exp_coe, ← EReal.coe_mul, ← Real.exp_add]
  congr 2; ring

/-- The exponential of a difference of real numbers is a positive real. -/
theorem exp_pos {a b : EReal} (ha : IsReal a) (hb : IsReal b) : ∃ r : ℝ, 0 < r ∧ Ideal.exp (a - b) = (r : EReal) := by
  obtain ⟨a, rfl⟩ := ha; obtain ⟨b, rfl⟩ := hb
  exact ⟨Real.exp (a - b), Real.exp_pos _, by rw [← EReal.coe_sub, Ideal.exp_coe]⟩

/-- Changing the shift of a weighted sum multiplies it by the exponential of the difference. -/
theorem sum_shift {ι : Type*} (t : Finset ι) (s v : ι → EReal) (hs : ∀ i ∈ t, IsReal (s i)) {a b : EReal} (ha : IsReal a) (hb : IsReal b) :
    Ideal.exp (a - b) * ∑ i ∈ t, Ideal.exp (s i - a) * v i = ∑ i ∈ t, Ideal.exp (s i - b) * v i := by
  obtain ⟨r, hr, he⟩ := exp_pos ha hb
  rw [he, mul_sum hr.le, ← he]
  refine Finset.sum_congr rfl fun i hi => ?_
  rw [exp_shift (hs i hi) ha hb, mul_assoc]

/-- The softmax average from the weighted sum and the sum of the weights, both with shift `a`, is the sum of the
    normalized weights with shift `b`, times the values. The scores and the shifts are real; the values are anything. -/
theorem average_eq {n : ℕ} (hn : 0 < n) (s v : Fin n → EReal) (hs : ∀ i, IsReal (s i)) {a b : EReal} (ha : IsReal a) (hb : IsReal b) :
    (∑ i, Ideal.exp (s i - a) * v i) * Ideal.div 1 (∑ i, Ideal.exp (s i - a) * 1)
      = ∑ i, v i * Ideal.div (Ideal.exp (s i - b)) (∑ j, Ideal.exp (s j - b)) := by
  haveI : Nonempty (Fin n) := ⟨⟨0, hn⟩⟩
  have hz : ∀ c : EReal, IsReal c → ∃ z : ℝ, 0 < z ∧ (∑ i, Ideal.exp (s i - c)) = (z : EReal) := by
    intro c hc
    choose f hf he using fun i => exp_pos (hs i) hc
    exact ⟨∑ i, f i, Finset.sum_pos (fun i _ => hf i) Finset.univ_nonempty, by simp only [he, coe_sum]⟩
  obtain ⟨za, hza, hea⟩ := hz a ha
  obtain ⟨zb, hzb, heb⟩ := hz b hb
  obtain ⟨r, hr, he⟩ := exp_pos ha hb
  have hab : r * za = zb := by
    have h := sum_shift Finset.univ s (fun _ => 1) (fun i _ => hs i) ha hb
    simp only [mul_one] at h
    rw [he, hea, heb, ← EReal.coe_mul] at h
    exact EReal.coe_injective h
  simp only [mul_one]
  rw [hea, heb, Ideal.div_coe hza.ne', one_mul]
  simp only [Ideal.div_coe hzb.ne']
  have h1 : ((1 / za : ℝ) : EReal) = ((1 / zb : ℝ) : EReal) * Ideal.exp (a - b) := by
    rw [he, ← EReal.coe_mul, ← hab]; congr 1; field_simp
  rw [h1, mul_comm, mul_assoc, sum_shift Finset.univ s v (fun i _ => hs i) ha hb, mul_sum (by positivity)]
  refine Finset.sum_congr rfl fun i _ => ?_
  rw [mul_comm (v i), mul_left_comm, mul_assoc]

/-- The running weighted sum after the chunks before `n`: the sum over all of them, with the current shift. -/
def partialSum {J : ℕ} (S V : ℕ → Fin J → EReal) (a : EReal) (n : ℕ) : EReal := ∑ i ∈ Finset.range n, ∑ j, Ideal.exp (S i j - a) * V i j

/-- One step of the running form: rescale by the exponential of the shifts' difference, then add the next chunk. -/
theorem partialSum_succ {J : ℕ} (S V : ℕ → Fin J → EReal) (hS : ∀ i j, IsReal (S i j)) {a b : EReal} (ha : IsReal a) (hb : IsReal b) (n : ℕ) :
    Ideal.exp (a - b) * partialSum S V a n + ∑ j, Ideal.exp (S n j - b) * V n j = partialSum S V b (n + 1) := by
  obtain ⟨r, hr, he⟩ := exp_pos ha hb
  unfold partialSum
  rw [Finset.sum_range_succ]
  congr 1
  rw [he, mul_sum hr.le, ← he]
  exact Finset.sum_congr rfl fun i _ => sum_shift Finset.univ (S i) (V i) (fun j _ => hS i j) ha hb

end Cert.OnlineSoftmax

end
-- ==== Proof.Chunks.lean ====
/- The attention kernel's arithmetic on one block of queries, chunk of keys by chunk of keys: what the running maximum and
   the running weighted sum hold after each chunk, and what is stored in the end. -/
module

public import proofs.«01_k».proof.Proof.Gen.KernelIdeal.Skeleton
public import proofs.«01_k».proof.Proof.OnlineSoftmax

@[expose] public section

set_option maxRecDepth 16384

noncomputable section

namespace Cert.KernelIdeal.Chunks

open Cert.KernelIdeal Cert.KernelIdeal.Gen Idealize.ShloMosaic Idealize.ShloMosaic.TcCoe
open Cert.OnlineSoftmax

theorem ofBits_neg_inf : Ideal.ofBits .f32 0xFF800000#32 = ⊥ := by simp [Ideal.ofBits, Ideal.ieee]

/-! ## The stored values at an index -/

theorem pay5_at (q : FVec Ideal S1024x256 .bf16) (k : FVec Ideal S512x256 .bf16) (r : Fin 1024) :
    k0_pay5 (F := Ideal) q k (ix2 r (0 : Fin 1)) = Finset.univ.fold max ⊥ fun j : Fin 512 => ∑ d : Fin 256, q (ix2 r d) * k (ix2 j d) := by
  pointwise [k0_pay5, k0_pay4, k0_pay3, ofBits_neg_inf]

theorem pay6_at (q : FVec Ideal S1024x256 .bf16) (k v : FVec Ideal S512x256 .bf16) (r : Fin 1024) (d : Fin 256) :
    k0_pay6 (F := Ideal) q k v (ix2 r d)
      = ∑ j : Fin 512, Ideal.exp ((∑ e : Fin 256, q (ix2 r e) * k (ix2 j e)) - k0_pay5 (F := Ideal) q k (ix2 r (0 : Fin 1))) * v (ix2 j d) := by
  pointwise [k0_pay6, k0_pay4, k0_pay3]

theorem pay12_at (q : FVec Ideal S1024x256 .bf16) (M : FVec Ideal S1024x1 .f32) (k : FVec Ideal S512x256 .bf16) (r : Fin 1024) :
    k0_pay12 (F := Ideal) q M k (ix2 r (0 : Fin 1))
      = max (M (ix2 r (0 : Fin 1))) (Finset.univ.fold max ⊥ fun j : Fin 512 => ∑ d : Fin 256, q (ix2 r d) * k (ix2 j d)) := by
  pointwise [k0_pay12, k0_pay11, ofBits_neg_inf]

theorem pay13_at (q : FVec Ideal S1024x256 .bf16) (M : FVec Ideal S1024x1 .f32) (k v : FVec Ideal S512x256 .bf16) (A : FVec Ideal S1024x256 .f32) (r : Fin 1024) (d : Fin 256) :
    k0_pay13 (F := Ideal) q M k v A (ix2 r d)
      = Ideal.exp (M (ix2 r (0 : Fin 1)) - k0_pay12 (F := Ideal) q M k (ix2 r (0 : Fin 1))) * A (ix2 r d)
        + ∑ j : Fin 512, Ideal.exp ((∑ e : Fin 256, q (ix2 r e) * k (ix2 j e)) - k0_pay12 (F := Ideal) q M k (ix2 r (0 : Fin 1))) * v (ix2 j d) := by
  pointwise [k0_pay13, k0_pay11]

theorem pay2_at (A : FVec Ideal S1024x256 .f32) (r : Fin 1024) (d : Fin 128) :
    k0_pay2 (F := Ideal) A (ix2 r d) = A (ix2 r (⟨d.val, by omega⟩ : Fin 256)) * Ideal.div 1 (A (ix2 r (⟨128, by omega⟩ : Fin 256))) := by
  pointwise [k0_pay2]

/-! ## The running form -/

/-- The score of query `r` of the block and key `j` of chunk `n`. -/
def score (q : FVec Ideal S1024x256 .bf16) (K : ℕ → Fin 512 → Fin 256 → EReal) (r : Fin 1024) (n : ℕ) (j : Fin 512) : EReal :=
  ∑ d : Fin 256, q (ix2 r d) * K n j d

/-- After `n` chunks: the running maximum is real and the accumulator is the weighted sum of the values so far, shifted by it. -/
def After (q : FVec Ideal S1024x256 .bf16) (K V : ℕ → Fin 512 → Fin 256 → EReal) (n : ℕ) (M : FVec Ideal S1024x1 .f32) (A : FVec Ideal S1024x256 .f32) : Prop :=
  ∀ r : Fin 1024, IsReal (M (ix2 r (0 : Fin 1)))
    ∧ ∀ d : Fin 256, A (ix2 r d) = partialSum (score q K r) (fun i j => V i j d) (M (ix2 r (0 : Fin 1))) n

variable {q : FVec Ideal S1024x256 .bf16} {K V : ℕ → Fin 512 → Fin 256 → EReal}

/-- The first chunk. -/
theorem After.first (hS : ∀ r n j, IsReal (score q K r n j)) {k v : FVec Ideal S512x256 .bf16}
    (hk : ∀ j d, k (ix2 j d) = K 0 j d) (hv : ∀ j d, v (ix2 j d) = V 0 j d) :
    After q K V 1 (k0_pay5 (F := Ideal) q k) (k0_pay6 (F := Ideal) q k v) := by
  intro r
  refine ⟨?_, fun d => ?_⟩
  · rw [pay5_at]
    refine isReal_fold_max _ ⟨0, Finset.mem_univ _⟩ _ fun j _ => ?_
    simp only [hk]; exact hS r 0 j
  · rw [pay6_at]
    simp only [hk, hv, partialSum, Finset.range_one, Finset.sum_singleton]
    rfl

/-- Every further chunk. -/
theorem After.next (hS : ∀ r n j, IsReal (score q K r n j)) {n : ℕ} {M : FVec Ideal S1024x1 .f32} {A : FVec Ideal S1024x256 .f32}
    (h : After q K V n M A) {k v : FVec Ideal S512x256 .bf16} (hk : ∀ j d, k (ix2 j d) = K n j d) (hv : ∀ j d, v (ix2 j d) = V n j d) :
    After q K V (n + 1) (k0_pay12 (F := Ideal) q M k) (k0_pay13 (F := Ideal) q M k v A) := by
  intro r
  have hM : IsReal (k0_pay12 (F := Ideal) q M k (ix2 r (0 : Fin 1))) := by
    rw [pay12_at]
    refine (h r).1.max (isReal_fold_max _ ⟨0, Finset.mem_univ _⟩ _ fun j _ => ?_)
    simp only [hk]; exact hS r n j
  refine ⟨hM, fun d => ?_⟩
  rw [pay13_at, (h r).2 d, ← partialSum_succ (score q K r) (fun i j => V i j d) (fun i j => hS r i j) (h r).1 hM n]
  simp only [hk, hv]
  rfl

/-- What is stored in the end, after `n` chunks: the weighted sum times the reciprocal of the column that holds the weights' sum. -/
theorem After.stored {n : ℕ} {M : FVec Ideal S1024x1 .f32} {A : FVec Ideal S1024x256 .f32} (h : After q K V n M A) (r : Fin 1024) (d : Fin 128) :
    ∃ a, IsReal a ∧ k0_pay2 (F := Ideal) A (ix2 r d)
      = partialSum (score q K r) (fun i j => V i j ⟨d.val, by omega⟩) a n
        * Ideal.div 1 (partialSum (score q K r) (fun i j => V i j ⟨128, by omega⟩) a n) :=
  ⟨_, (h r).1, by rw [pay2_at, (h r).2, (h r).2]⟩

/-! ## The whole body -/

theorem pay3_eq (x : FVec Ideal S1024x256 .bf16) : k0_pay3 (F := Ideal) x = x := by
  funext i
  pointwise [k0_pay3]

/-- What the body stores, from the block of queries and the eight chunks of keys and values, as the program composes it. -/
def body (x : FVec Ideal S1024x256 .bf16) (k0 k1 k2 k3 k4 k5 k6 k7 v0 v1 v2 v3 v4 v5 v6 v7 : FVec Ideal S512x256 .bf16) : FVec Ideal S1024x128 .bf16 :=
  let q := k0_pay3 (F := Ideal) x
  let m1 := k0_pay8 (F := Ideal) x k0 k1
  let a1 := k0_pay10 (F := Ideal) (k0_pay9 (F := Ideal) x k0 k1 v1 (k0_pay6 (F := Ideal) x k0 v0))
  let m2 := k0_pay12 (F := Ideal) q m1 k2
  let a2 := k0_pay13 (F := Ideal) q m1 k2 v2 a1
  let m3 := k0_pay15 (F := Ideal) q m1 k2 k3
  let a3 := k0_pay17 (F := Ideal) m2 m3 (k0_pay16 (F := Ideal) q m1 k2 k3 v3) a2
  let m4 := k0_pay19 (F := Ideal) q m3 k4
  let a4 := k0_pay20 (F := Ideal) q m3 k4 v4 a3
  let m5 := k0_pay22 (F := Ideal) q m3 k4 k5
  let a5 := k0_pay24 (F := Ideal) m4 m5 (k0_pay23 (F := Ideal) q m3 k4 k5) v5 a4
  let m6 := k0_pay26 (F := Ideal) q m5 k6
  let a6 := k0_pay27 (F := Ideal) q m5 k6 v6 a5
  k0_pay2 (F := Ideal) (k0_pay1 (F := Ideal) q m6 (k0_pay28 (F := Ideal) k7) v7 a6)

/-- The body is the first chunk's step and seven times the same further step. -/
theorem body_eq (x : FVec Ideal S1024x256 .bf16) (k0 k1 k2 k3 k4 k5 k6 k7 v0 v1 v2 v3 v4 v5 v6 v7 : FVec Ideal S512x256 .bf16) :
    body x k0 k1 k2 k3 k4 k5 k6 k7 v0 v1 v2 v3 v4 v5 v6 v7 =
      let q := k0_pay3 (F := Ideal) x
      let m0 := k0_pay5 (F := Ideal) x k0
      let a0 := k0_pay6 (F := Ideal) x k0 v0
      let m1 := k0_pay12 (F := Ideal) q m0 k1
      let a1 := k0_pay13 (F := Ideal) q m0 k1 v1 a0
      let m2 := k0_pay12 (F := Ideal) q m1 k2
      let a2 := k0_pay13 (F := Ideal) q m1 k2 v2 a1
      let m3 := k0_pay12 (F := Ideal) q m2 k3
      let a3 := k0_pay13 (F := Ideal) q m2 k3 v3 a2
      let m4 := k0_pay12 (F := Ideal) q m3 k4
      let a4 := k0_pay13 (F := Ideal) q m3 k4 v4 a3
      let m5 := k0_pay12 (F := Ideal) q m4 k5
      let a5 := k0_pay13 (F := Ideal) q m4 k5 v5 a4
      let m6 := k0_pay12 (F := Ideal) q m5 k6
      let a6 := k0_pay13 (F := Ideal) q m5 k6 v6 a5
      let m7 := k0_pay12 (F := Ideal) q m6 k7
      let a7 := k0_pay13 (F := Ideal) q m6 k7 v7 a6
      k0_pay2 (F := Ideal) a7 := rfl

/-- What the body stores: the weighted sum of all the values, times the reciprocal of the column of the weights' sum. -/
theorem body_at (hS : ∀ r n j, IsReal (score q K r n j)) {k0 k1 k2 k3 k4 k5 k6 k7 v0 v1 v2 v3 v4 v5 v6 v7 : FVec Ideal S512x256 .bf16}
    (hk0 : ∀ j d, k0 (ix2 j d) = K 0 j d) (hk1 : ∀ j d, k1 (ix2 j d) = K 1 j d) (hk2 : ∀ j d, k2 (ix2 j d) = K 2 j d) (hk3 : ∀ j d, k3 (ix2 j d) = K 3 j d) (hk4 : ∀ j d, k4 (ix2 j d) = K 4 j d) (hk5 : ∀ j d, k5 (ix2 j d) = K 5 j d) (hk6 : ∀ j d, k6 (ix2 j d) = K 6 j d) (hk7 : ∀ j d, k7 (ix2 j d) = K 7 j d)
    (hv0 : ∀ j d, v0 (ix2 j d) = V 0 j d) (hv1 : ∀ j d, v1 (ix2 j d) = V 1 j d) (hv2 : ∀ j d, v2 (ix2 j d) = V 2 j d) (hv3 : ∀ j d, v3 (ix2 j d) = V 3 j d) (hv4 : ∀ j d, v4 (ix2 j d) = V 4 j d) (hv5 : ∀ j d, v5 (ix2 j d) = V 5 j d) (hv6 : ∀ j d, v6 (ix2 j d) = V 6 j d) (hv7 : ∀ j d, v7 (ix2 j d) = V 7 j d) (r : Fin 1024) (d : Fin 128) :
    ∃ a, IsReal a ∧ body q k0 k1 k2 k3 k4 k5 k6 k7 v0 v1 v2 v3 v4 v5 v6 v7 (ix2 r d)
      = partialSum (score q K r) (fun i j => V i j ⟨d.val, by omega⟩) a 8
        * Ideal.div 1 (partialSum (score q K r) (fun i j => V i j ⟨128, by omega⟩) a 8) := by
  rw [body_eq]
  dsimp only
  rw [pay3_eq]
  exact ((((((((After.first hS hk0 hv0).next hS hk1 hv1).next hS hk2 hv2).next hS hk3 hv3).next hS hk4 hv4).next hS hk5 hv5).next hS hk6 hv6).next hS hk7 hv7).stored r d

end Cert.KernelIdeal.Chunks

end
-- ==== Proof.Ref.lean ====
/- The reference's attention read at a batch, a position, a head and a coordinate. -/
module

public import proofs.«01_k».proof.Proof.Gen.ReferenceIdeal.Read
public import proofs.«01_k».proof.Proof.OnlineSoftmax

@[expose] public section

set_option maxRecDepth 16384

noncomputable section

namespace Cert.ReferenceIdeal.At

open Cert.ReferenceIdeal Cert.ReferenceIdeal.Gen Cert.ReferenceIdeal.Read Idealize.ShloMosaic Idealize.ShloMosaic.TcCoe
open Cert.OnlineSoftmax

variable (q k : FVec Ideal S8x4096x16x192 .f32) (v : FVec Ideal S8x4096x16x128 .f32)

/-- The score of query `r` and key `j` of head `h` in batch `b`. -/
def score (b : Fin 8) (h : Fin 16) (r j : Fin 4096) : EReal :=
  (∑ d : Fin 192, q (ix4 b r h d) * k (ix4 b j h d)) * Ideal.ofBits .f32 0x3D93CD3A#32

theorem score_at (b : Fin 8) (h : Fin 16) (r j : Fin 4096) : val_main_v2 (F := Ideal) q k (ix4 b h r j) = score q k b h r j := by
  rw [val_main_v2_apply, val_main_v0_apply, val_main_v1_apply, val_main_cst_apply]
  refine Ideal.mul_congr (Finset.sum_congr rfl fun d _ => ?_) rfl
  exact Ideal.mul_congr (congrArg q (eq_ix4 _)) (congrArg k (eq_ix4 _))

/-- The largest score of a row, as the reference takes it. -/
def top (b : Fin 8) (h : Fin 16) (r : Fin 4096) : EReal := val_main_v5 (F := Ideal) q k (ix3 b h r)

theorem top_real (hS : ∀ b h r j, IsReal (score q k b h r j)) (b : Fin 8) (h : Fin 16) (r : Fin 4096) : IsReal (top q k b h r) := by
  unfold top
  rw [val_main_v5_apply, val_main_v4_apply, val_main_cst_1_apply]
  have hb' : Ideal.ofBits .f32 0xFF800000#32 = (⊥ : EReal) := by simp [Ideal.ofBits, Ideal.ieee]
  have hb : (FloatOps.ofBits (F := Ideal) .f32 0xFF800000#32) = (⊥ : EReal) := hb'
  have h3 : val_main_v3 (F := Ideal) q k (ix3 b h r) = Finset.univ.fold max ⊥ fun j : Fin 4096 => score q k b h r j := by
    simp only [← score_at]
    unfold val_main_v3
    generalize val_main_v2 (F := Ideal) q k = s
    pointwise [val_main_cst_0]
    rw [hb']
  rw [h3, hb]
  show IsReal (max _ _)
  rw [max_eq_right bot_le]
  exact isReal_fold_max _ ⟨0, Finset.mem_univ _⟩ _ fun j _ => hS b h r j

theorem weight_at (b : Fin 8) (h : Fin 16) (r j : Fin 4096) :
    val_main_v9 (F := Ideal) q k (ix4 b h r j) = Ideal.exp (score q k b h r j - top q k b h r) := by
  rw [val_main_v9_apply, val_main_v8_apply, score_at, val_main_v7_apply, val_main_v6_apply,
    show idx_main_v6 (idx_main_v7 (ix4 b h r j)) = ix3 b h r from eq_ix3 _]
  rfl

theorem total_at (b : Fin 8) (h : Fin 16) (r : Fin 4096) :
    val_main_v10 (F := Ideal) q k (ix3 b h r) = ∑ j : Fin 4096, Ideal.exp (score q k b h r j - top q k b h r) := by
  rw [val_main_v10_apply, val_main_cst_2_apply]
  refine (congrArg₂ (· + ·) (show FloatOps.ofBits (F := Ideal) .f32 0x00000000#32 = (0 : EReal) from Ideal.ofBits_zero_f32) rfl).trans ((zero_add _).trans ?_)
  refine Finset.sum_congr rfl fun j _ => ?_
  rw [← weight_at]
  exact congrArg (val_main_v9 (F := Ideal) q k) (eq_ix4 _)

/-- The reference's result: the values averaged with the normalized weights. -/
theorem result_at (b : Fin 8) (r : Fin 4096) (h : Fin 16) (d : Fin 128) :
    val_main_v17 (F := Ideal) q k v (ix2 (⟨b.val * 4096 + r.val, by omega⟩ : Fin 32768) (⟨h.val * 128 + d.val, by omega⟩ : Fin 2048))
      = ∑ j : Fin 4096, v (ix4 b j h d)
          * Ideal.div (Ideal.exp (score q k b h r j - top q k b h r)) (∑ i : Fin 4096, Ideal.exp (score q k b h r i - top q k b h r)) := by
  rw [val_main_v17_apply, val_main_v16_apply, val_main_v15_apply]
  have hi : idx_main_v15 (idx_main_v16 (ix2 (⟨b.val * 4096 + r.val, by omega⟩ : Fin 32768) (⟨h.val * 128 + d.val, by omega⟩ : Fin 2048))) = ix4 b h d r := by
    funext a
    match a with
    | ⟨0, _⟩ => exact Fin.ext (by show ((b.val * 4096 + r.val) * 2048 + (h.val * 128 + d.val)) / 8388608 = b.val; omega)
    | ⟨1, _⟩ => exact Fin.ext (by show ((b.val * 4096 + r.val) * 2048 + (h.val * 128 + d.val)) / 128 % 16 = h.val; omega)
    | ⟨2, _⟩ => exact Fin.ext (by show ((b.val * 4096 + r.val) * 2048 + (h.val * 128 + d.val)) % 128 = d.val; omega)
    | ⟨3, _⟩ => exact Fin.ext (by show ((b.val * 4096 + r.val) * 2048 + (h.val * 128 + d.val)) / 2048 % 4096 = r.val; omega)
  rw [hi, val_main_v14_apply]
  show (∑ j : Fin 4096, _) = _
  refine Finset.sum_congr rfl fun j _ => ?_
  refine Ideal.mul_congr (congrArg v (eq_ix4 _)) ?_
  rw [show ridx_main_v14 (ix4 b h d r) j = ix4 b h r j from eq_ix4 _, val_main_v13_apply, weight_at, val_main_v12_apply, val_main_v11_apply,
    show idx_main_v11 (idx_main_v12 (ix4 b h r j)) = ix3 b h r from eq_ix3 _, total_at]
  rfl

end Cert.ReferenceIdeal.At
end
-- ==== Proof.Final.lean ====
/- What the attention kernel writes is the reference's attention. -/
module

public import proofs.«01_k».proof.Proof.Prepared
public import proofs.«01_k».proof.Proof.Chunks
public import proofs.«01_k».proof.Proof.Ref

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.OnlineSoftmax Cert.KernelIdeal.Chunks Cert.KernelIdeal.Prepared

variable (m : (ℓ : Loc nD τ sig) → Buf (Elt Ideal) ℓ)

/-- The blocks of every window at every grid point. -/
theorem idx : ∀ t : Fin cfg0.N,
    win0_0.index t = ![t.val / 64 * 4 + t.val % 4, t.val / 4 % 16] ∧ win0_1.index t = ![t.val / 64, t.val / 4 % 16]
      ∧ win0_2.index t = ![t.val / 64, t.val / 4 % 16] ∧ win0_3.index t = ![t.val / 64 * 4 + t.val % 4, t.val / 4 % 16] :=
  (by decide +kernel : ∀ t : Fin grid0.N, _)

/-- The batch, the head and the block of queries of a grid point. -/
def bat (t : Fin 512) : Fin 8 := ⟨t.val / 64, by omega⟩
def hd (t : Fin 512) : Fin 16 := ⟨t.val / 4 % 16, by omega⟩
def pos (t : Fin 512) (r : Fin 1024) : Fin 4096 := ⟨t.val % 4 * 1024 + r.val, by omega⟩

/-- The query blocks. -/
theorem q_blk (c : Dev nD) (t : Fin 512) (r : Fin 1024) (d : Fin 256) :
    (show EReal from iblk m c 0 t (ix2 r d)) = V m c main_v8 (ix2 (row (bat t) (pos t r)) (col (hd t) d)) := by
  blk_ext [iblk, idx t, row, col, bat, hd, pos]

/-- Key `n·512 + j` of the point's head. -/
def key (n : ℕ) (j : Fin 512) : Fin 4096 := ⟨(n * 512 + j.val) % 4096, Nat.mod_lt _ (by norm_num)⟩

theorem k_blk (c : Dev nD) (t : Fin 512) (r : Fin 4096) (d : Fin 256) :
    (show EReal from iblk m c 1 t (ix2 r d)) = V m c main_v10 (ix2 (row (bat t) r) (col (hd t) d)) := by
  blk_ext [iblk, idx t, row, col, bat, hd]

theorem v_blk (c : Dev nD) (t : Fin 512) (r : Fin 4096) (d : Fin 256) :
    (show EReal from iblk m c 2 t (ix2 r d)) = V m c main_v12 (ix2 (row (bat t) r) (col (hd t) d)) := by
  blk_ext [iblk, idx t, row, col, bat, hd]

/-- A sum over the 256 columns of a padded head is the sum over its 192 columns, the others being zero. -/
theorem sum_pad (f : Fin 256 → EReal) (g : Fin 192 → EReal) (hf : ∀ d : Fin 192, f ⟨d.val, by omega⟩ = g d) (h0 : ∀ d : Fin 256, 192 ≤ d.val → f d = 0) :
    ∑ d, f d = ∑ d, g d := by
  rw [Fin.sum_univ_add (a := 192) (b := 64) f]
  have h1 : ∀ d : Fin 64, f (Fin.natAdd 192 d) = 0 := fun d => h0 _ (by simp [Fin.natAdd])
  simp only [h1, Finset.sum_const_zero, add_zero]
  exact Finset.sum_congr rfl fun d _ => hf d

/-- Eight chunks of 512 keys are the 4096 keys. -/
theorem sum_keys (s w : Fin 4096 → EReal) (a : EReal) :
    partialSum (fun n j => s (key n j)) (fun n j => w (key n j)) a 8 = ∑ k, Ideal.exp (s k - a) * w k := by
  unfold partialSum
  rw [Finset.sum_range, Fin.sum_univ_tiles 8 512 rfl fun k => Ideal.exp (s k - a) * w k]
  refine Finset.sum_congr rfl fun n _ => Finset.sum_congr rfl fun j _ => ?_
  have hk : key n.val j = (⟨n.val * 512 + j.val, by omega⟩ : Fin 4096) := Fin.ext (Nat.mod_eq_of_lt (by omega))
  simp only [hk]

/-- The scale is a real number that is not negative. -/
theorem scale_real : ∃ r : ℝ, 0 ≤ r ∧ Ideal.ofBits .f32 0x3D93CD3A#32 = (r : EReal) := by
  refine ⟨9686330 * (2 ^ 27)⁻¹, by positivity, ?_⟩
  simp [Ideal.ofBits, Ideal.ieee, ← EReal.coe_mul]

/-- The kernel's score is the reference's: the scale goes through the sum. -/
theorem scaled (f g : Fin 192 → EReal) :
    ∑ d, f d * Ideal.ofBits .f32 0x3D93CD3A#32 * g d = (∑ d, f d * g d) * Ideal.ofBits .f32 0x3D93CD3A#32 := by
  obtain ⟨r, hr, h⟩ := scale_real
  rw [h, mul_comm _ (r : EReal), mul_sum hr]
  refine Finset.sum_congr rfl fun d _ => ?_
  rw [mul_comm (f d), mul_assoc]

/-- The arguments and the block of queries, at their shapes. -/
abbrev argQ (c : Dev nD) : FVec Ideal S8x4096x16x192 .f32 := m ((c : Thread nD τ).loc main_arg0)
abbrev argK (c : Dev nD) : FVec Ideal S8x4096x16x192 .f32 := m ((c : Thread nD τ).loc main_arg1)
abbrev argV (c : Dev nD) : FVec Ideal S8x4096x16x128 .f32 := m ((c : Thread nD τ).loc main_arg2)
abbrev blkQ (c : Dev nD) (t : Fin 512) : FVec Ideal S1024x256 .bf16 := iblk m c 0 t

/-- The keys and values of the point's head, chunk by chunk, as the prepared arrays hold them. -/
def chunkK (c : Dev nD) (t : Fin 512) (n : ℕ) (j : Fin 512) (d : Fin 256) : EReal := V m c main_v10 (ix2 (row (bat t) (key n j)) (col (hd t) d))
def chunkV (c : Dev nD) (t : Fin 512) (n : ℕ) (j : Fin 512) (d : Fin 256) : EReal := V m c main_v12 (ix2 (row (bat t) (key n j)) (col (hd t) d))

theorem score_eq (c : Dev nD) (t : Fin 512) (r : Fin 1024) (n : ℕ) (j : Fin 512) :
    Chunks.score (blkQ m c t) (chunkK m c t) r n j
      = Cert.ReferenceIdeal.At.score (argQ m c) (argK m c) (bat t) (hd t) (pos t r) (key n j) := by
  unfold Chunks.score Cert.ReferenceIdeal.At.score
  refine (sum_pad _ (fun d => argQ m c (ix4 (bat t) (pos t r) (hd t) d) * Ideal.ofBits .f32 0x3D93CD3A#32 * argK m c (ix4 (bat t) (key n j) (hd t) d))
    (fun d => ?_) fun d hd' => ?_).trans (scaled _ _)
  · exact Ideal.mul_congr ((q_blk m c t r _).trans (q_at m c (bat t) (pos t r) (hd t) _ d.isLt)) (k_at m c (bat t) (key n j) (hd t) _ d.isLt)
  · exact (Ideal.mul_congr ((q_blk m c t r d).trans (q_pad m c (bat t) (pos t r) (hd t) d hd')) rfl).trans (zero_mul _)

/-- A score of real queries and keys is real. -/
theorem score_real {q k : FVec Ideal Cert.ReferenceIdeal.S8x4096x16x192 .f32} (hq : ∀ i, IsReal (q i)) (hk : ∀ i, IsReal (k i)) (b : Fin 8) (h : Fin 16) (r j : Fin 4096) :
    IsReal (Cert.ReferenceIdeal.At.score q k b h r j) := by
  unfold Cert.ReferenceIdeal.At.score
  obtain ⟨s, -, hs⟩ := scale_real
  exact (IsReal.sum _ _ fun d _ => (hq _).mul (hk _)).mul ⟨s, hs⟩

/-- The reference's result over the kernel's arguments. -/
abbrev REF (c : Dev nD) : FVec Ideal Cert.ReferenceIdeal.S32768x2048 .bf16 :=
  Cert.ReferenceIdeal.Read.val_main_v17 (F := Ideal) (m ((c : Thread nD τ).loc main_arg0)) (m ((c : Thread nD τ).loc main_arg1)) (m ((c : Thread nD τ).loc main_arg2))

/-- Where a block's element sits in the result. -/
theorem out_emb (t : Fin 512) (r : Fin 1024) (d : Fin 128) :
    (((cfg0.win 3).blk t).view.emb (ix2 r d))
      = ix2 (⟨(bat t).val * 4096 + (pos t r).val, by omega⟩ : Fin 32768) (⟨(hd t).val * 128 + d.val, by omega⟩ : Fin 2048) := by
  blk_ext [idx t, bat, pos, hd]

/-- A chunk of keys or values read from the staged block. -/
theorem chunkK_eq (c : Dev nD) (t : Fin 512) (n : ℕ) (hn : n < 8) (j : Fin 512) (d : Fin 256) (i : Fin 4096) (hi : i.val = n * 512 + j.val) :
    (show EReal from iblk m c 1 t (ix2 i d)) = chunkK m c t n j d := by
  have hk : i = key n j := Fin.ext (hi.trans (Nat.mod_eq_of_lt (by omega)).symm)
  rw [hk]
  exact k_blk m c t _ d

theorem chunkV_eq (c : Dev nD) (t : Fin 512) (n : ℕ) (hn : n < 8) (j : Fin 512) (d : Fin 256) (i : Fin 4096) (hi : i.val = n * 512 + j.val) :
    (show EReal from iblk m c 2 t (ix2 i d)) = chunkV m c t n j d := by
  have hk : i = key n j := Fin.ext (hi.trans (Nat.mod_eq_of_lt (by omega)).symm)
  rw [hk]
  exact v_blk m c t _ d

/-- The kernel's quotient at an element is the reference's average. -/
theorem average (c : Dev nD) (t : Fin 512) (r : Fin 1024) (d : Fin 128) (hq : ∀ i, IsReal (argQ m c i)) (hk : ∀ i, IsReal (argK m c i)) (a : EReal) (ha : IsReal a) :
    partialSum (Chunks.score (blkQ m c t) (chunkK m c t) r) (fun i j => chunkV m c t i j ⟨d.val, by omega⟩) a 8
        * Ideal.div 1 (partialSum (Chunks.score (blkQ m c t) (chunkK m c t) r) (fun i j => chunkV m c t i j ⟨128, by omega⟩) a 8)
      = REF m c (ix2 (⟨(bat t).val * 4096 + (pos t r).val, by omega⟩ : Fin 32768) (⟨(hd t).val * 128 + d.val, by omega⟩ : Fin 2048)) := by
  have hS := score_real hq hk
  have h1 : Chunks.score (blkQ m c t) (chunkK m c t) r
      = fun n j => (fun i => Cert.ReferenceIdeal.At.score (argQ m c) (argK m c) (bat t) (hd t) (pos t r) i) (key n j) :=
    funext fun n => funext fun j => score_eq m c t r n j
  have h2 : (fun i j => chunkV m c t i j ⟨d.val, by omega⟩) = fun n j => (fun i => argV m c (ix4 (bat t) i (hd t) d)) (key n j) :=
    funext fun n => funext fun j => v_at m c (bat t) (key n j) (hd t) _ d.isLt
  have h3 : (fun i j => chunkV m c t i j ⟨128, by omega⟩) = fun n j => (fun _ : Fin 4096 => (1 : EReal)) (key n j) :=
    funext fun n => funext fun j => v_ones m c (bat t) (key n j) (hd t) _ rfl
  rw [h1, h2, h3]
  generalize hs : (fun i => Cert.ReferenceIdeal.At.score (argQ m c) (argK m c) (bat t) (hd t) (pos t r) i) = s
  generalize hw : (fun i => argV m c (ix4 (bat t) i (hd t) d)) = w
  rw [sum_keys s w a, sum_keys s (fun _ => 1) a]
  have hsr : ∀ i, IsReal (s i) := fun i => hs ▸ hS _ _ _ i
  rw [average_eq (by norm_num) s w hsr ha (Cert.ReferenceIdeal.At.top_real (argQ m c) (argK m c) hS (bat t) (hd t) (pos t r)), ← hs, ← hw]
  exact (Cert.ReferenceIdeal.At.result_at (argQ m c) (argK m c) (argV m c) (bat t) (pos t r) (hd t) d).symm

/-- The kernel's result array is the reference's. -/
theorem final (c : Dev nD) (hq : ∀ i, IsReal (argQ m c i)) (hk : ∀ i, IsReal (argK m c i)) :
    (dats m 0 c).arrAt 3 (cfgs 0).N = REF m c := by
  refine (dats m 0 c).arrAt_eq_of_covers 3 _ (by decide +kernel) fun t _ y => ?_
  blk_simp
  rw [after0_3]
  unfold outsAt0 out0_A_3
  frame_out
  obtain ⟨r, d, rfl⟩ : ∃ (r : Fin 1024) (d : Fin 128), y = ix2 r d := ⟨y 0, y 1, eq_ix2 y⟩
  refine Eq.trans ?_ (congrArg (REF m c) (out_emb t r d)).symm
  refine Exists.elim (Chunks.body_at (q := blkQ m c t) (K := chunkK m c t) (V := chunkV m c t)
    (fun r n j => (congrArg IsReal (score_eq m c t r n j)).mpr (score_real hq hk _ _ _ _))
    (k0 := View.ld (iblk m c 1 t) (Rect.unit ![0, 0] ![512, 256] inb_S4096x256_S512x256_0_0))
    (v0 := View.ld (iblk m c 2 t) (Rect.unit ![0, 0] ![512, 256] inb_S4096x256_S512x256_0_0))
    (k1 := View.ld (iblk m c 1 t) (Rect.unit ![512, 0] ![512, 256] inb_S4096x256_S512x256_512_0))
    (v1 := View.ld (iblk m c 2 t) (Rect.unit ![512, 0] ![512, 256] inb_S4096x256_S512x256_512_0))
    (k2 := View.ld (iblk m c 1 t) (Rect.unit ![1024, 0] ![512, 256] inb_S4096x256_S512x256_1024_0))
    (v2 := View.ld (iblk m c 2 t) (Rect.unit ![1024, 0] ![512, 256] inb_S4096x256_S512x256_1024_0))
    (k3 := View.ld (iblk m c 1 t) (Rect.unit ![1536, 0] ![512, 256] inb_S4096x256_S512x256_1536_0))
    (v3 := View.ld (iblk m c 2 t) (Rect.unit ![1536, 0] ![512, 256] inb_S4096x256_S512x256_1536_0))
    (k4 := View.ld (iblk m c 1 t) (Rect.unit ![2048, 0] ![512, 256] inb_S4096x256_S512x256_2048_0))
    (v4 := View.ld (iblk m c 2 t) (Rect.unit ![2048, 0] ![512, 256] inb_S4096x256_S512x256_2048_0))
    (k5 := View.ld (iblk m c 1 t) (Rect.unit ![2560, 0] ![512, 256] inb_S4096x256_S512x256_2560_0))
    (v5 := View.ld (iblk m c 2 t) (Rect.unit ![2560, 0] ![512, 256] inb_S4096x256_S512x256_2560_0))
    (k6 := View.ld (iblk m c 1 t) (Rect.unit ![3072, 0] ![512, 256] inb_S4096x256_S512x256_3072_0))
    (v6 := View.ld (iblk m c 2 t) (Rect.unit ![3072, 0] ![512, 256] inb_S4096x256_S512x256_3072_0))
    (k7 := View.ld (iblk m c 1 t) (Rect.unit ![3584, 0] ![512, 256] inb_S4096x256_S512x256_3584_0))
    (v7 := View.ld (iblk m c 2 t) (Rect.unit ![3584, 0] ![512, 256] inb_S4096x256_S512x256_3584_0))
    ?_ ?_ ?_ ?_ ?_ ?_ ?_ ?_ ?_ ?_ ?_ ?_ ?_ ?_ ?_ ?_ r d) fun a ha => Eq.trans ha.2 (average m c t r d hq hk a ha.1)
  · intro j d
    pointwise
    exact chunkK_eq m c t 0 (by norm_num) j d _ (by simp)
  · intro j d
    pointwise
    exact chunkK_eq m c t 1 (by norm_num) j d _ rfl
  · intro j d
    pointwise
    exact chunkK_eq m c t 2 (by norm_num) j d _ rfl
  · intro j d
    pointwise
    exact chunkK_eq m c t 3 (by norm_num) j d _ rfl
  · intro j d
    pointwise
    exact chunkK_eq m c t 4 (by norm_num) j d _ rfl
  · intro j d
    pointwise
    exact chunkK_eq m c t 5 (by norm_num) j d _ rfl
  · intro j d
    pointwise
    exact chunkK_eq m c t 6 (by norm_num) j d _ rfl
  · intro j d
    pointwise
    exact chunkK_eq m c t 7 (by norm_num) j d _ rfl
  · intro j d
    pointwise
    exact chunkV_eq m c t 0 (by norm_num) j d _ (by simp)
  · intro j d
    pointwise
    exact chunkV_eq m c t 1 (by norm_num) j d _ rfl
  · intro j d
    pointwise
    exact chunkV_eq m c t 2 (by norm_num) j d _ rfl
  · intro j d
    pointwise
    exact chunkV_eq m c t 3 (by norm_num) j d _ rfl
  · intro j d
    pointwise
    exact chunkV_eq m c t 4 (by norm_num) j d _ rfl
  · intro j d
    pointwise
    exact chunkV_eq m c t 5 (by norm_num) j d _ rfl
  · intro j d
    pointwise
    exact chunkV_eq m c t 6 (by norm_num) j d _ rfl
  · intro j d
    pointwise
    exact chunkV_eq m c t 7 (by norm_num) j d _ rfl

end Cert.KernelIdeal.Final
end
-- ==== Proof.Finite.lean ====
/- What the precondition says: every query and key is a real number. -/
module

public import proofs.«01_k».proof.Pre_finite_scores
public import proofs.«01_k».proof.Proof.OnlineSoftmax

@[expose] public section

noncomputable section

namespace Cert.Pre_finite_scores.Finite

open Cert.Pre_finite_scores Cert.OnlineSoftmax Idealize.ShloMosaic

theorem facts : Facts where
  bcast_S_S8x4096x16x192 := by decide

attribute [local instance] facts

/-- A number of absolute value under infinity is real. -/
theorem real_of_abs {x : EReal} (h : FloatOps.absf (F := Ideal) (φ := .f32) x < Ideal.ofBits .f32 0x7F800000#32) : IsReal x := by
  have ht : Ideal.ofBits .f32 0x7F800000#32 = ⊤ := by simp [Ideal.ofBits, Ideal.ieee]
  have h' : max x (-x) < (⊤ : EReal) := ht ▸ h
  refine isReal_of_ne (fun hb => ?_) fun hb => ?_ <;> subst hb <;> simp at h'

/-- The precondition makes every query and every key real. -/
theorem real_of_fn {q k : FVec Ideal S8x4096x16x192 .f32} {v : FVec Ideal S8x4096x16x128 .f32} (h : fn (F := Ideal) q k v = fun _ => 1#1) (i : S8x4096x16x192.Idx) :
    IsReal (q i) ∧ IsReal (k i) := by
  have h1 := congrFun h i
  revert h1
  unfold fn
  pointwise
  intro h1
  by_cases hq : FloatOps.absf (q i) < Ideal.ofBits FTy.f32 0x7F800000#32
  · by_cases hk : FloatOps.absf (k i) < Ideal.ofBits FTy.f32 0x7F800000#32
    · exact ⟨real_of_abs hq, real_of_abs hk⟩
    · rw [decide_eq_false hk] at h1
      revert h1
      cases decide (FloatOps.absf (q i) < Ideal.ofBits FTy.f32 0x7F800000#32) <;> exact fun h2 => absurd h2 (by decide)
  · rw [decide_eq_false hq] at h1
    revert h1
    cases decide (FloatOps.absf (k i) < Ideal.ofBits FTy.f32 0x7F800000#32) <;> exact fun h2 => absurd h2 (by decide)

end Cert.Pre_finite_scores.Finite
end
-- ==== Proof.Conv.Out.lean ====
/- The output projection `_matmul_res`: what the kernel writes is `x + y · w`. -/
module

public import proofs.«01_k».proof.Proof.Gen.OutIdeal.Value
public import proofs.«01_k».proof.Proof.Gen.OutRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OutIdeal.Final

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The block stored: residual plus product. -/
theorem pay_at (r : FVec Ideal S1024x1024 .f32) (y : FVec Ideal S1024x2048 .bf16) (w : FVec Ideal S1x2048x1024 .bf16) (i : Fin 1024) (j : Fin 1024) :
    k0_pay1 (F := Ideal) r y w (ix2 i j) = r (ix2 i j) + ∑ k : Fin 2048, y (ix2 i k) * w (ix3 (0 : Fin 1) k j) := by
  pointwise [k0_pay1]

/-- The blocks of every window at every grid point. -/
theorem idx : ∀ t : Fin cfg0.N,
    win0_0.index t = ![t.val / 2, 0] ∧ win0_1.index t = ![0, 0, t.val % 2] ∧ win0_2.index t = ![t.val / 2, t.val % 2] ∧ win0_3.index t = ![t.val / 2, t.val % 2] :=
  (by decide +kernel : ∀ t : Fin grid0.N, _)

/-- The reference's result over the kernel's arguments. -/
abbrev REF (c : Dev nD) : FVec Ideal Cert.OutRefIdeal.S32768x2048 .f32 :=
  Cert.OutRefIdeal.Read.val_main_v2 (F := Ideal) (m ((c : Thread nD τ).loc main_arg0)) (m ((c : Thread nD τ).loc main_arg1)) (m ((c : Thread nD τ).loc main_arg2))

/-- Row `i` of the token-major arrays is position `i % 4096` of batch `i / 4096`. -/
abbrev tok (i : Fin 32768) (k : Fin 2048) : S8x4096x2048.Idx := ix3 (⟨i.val / 4096, by omega⟩ : Fin 8) (⟨i.val % 4096, by omega⟩ : Fin 4096) k

theorem y_at (c : Dev nD) (i : Fin 32768) (k : Fin 2048) :
    (show EReal from V m c main_v1 (ix2 i k)) = m ((c : Thread nD τ).loc main_arg0) (tok i k) := by
  unfold V
  after_reads_at

theorem w_at (c : Dev nD) (k j : Fin 2048) :
    (show EReal from V m c main_v3 (ix3 (0 : Fin 1) k j)) = m ((c : Thread nD τ).loc main_arg1) (ix2 k j) := by
  unfold V
  after_reads_at

theorem x_at (c : Dev nD) (i : Fin 32768) (k : Fin 2048) :
    (show EReal from V m c main_v4 (ix2 i k)) = m ((c : Thread nD τ).loc main_arg2) (tok i k) := by
  unfold V
  after_reads_at

/-- The reference's result at a row and a column. -/
theorem ref_at (c : Dev nD) (i : Fin 32768) (j : Fin 2048) :
    REF m c (ix2 i j) = (show EReal from m ((c : Thread nD τ).loc main_arg2) (tok i j))
      + ∑ k : Fin 2048, (show EReal from m ((c : Thread nD τ).loc main_arg0) (tok i k)) * (show EReal from m ((c : Thread nD τ).loc main_arg1) (ix2 k j)) := by
  unfold REF
  rw [Cert.OutRefIdeal.Read.val_main_v2_apply, Cert.OutRefIdeal.Read.val_main_v1_apply, Cert.OutRefIdeal.Read.val_main_v0_apply]
  have e : Cert.OutRefIdeal.Read.idx_main_v2 (ix2 i j) = tok i j := by
    funext a
    match a with
    | ⟨0, _⟩ => exact Fin.ext (show (i.val * 2048 + j.val) / 8388608 = i.val / 4096 by omega)
    | ⟨1, _⟩ => exact Fin.ext (show (i.val * 2048 + j.val) / 2048 % 4096 = i.val % 4096 by omega)
    | ⟨2, _⟩ => exact Fin.ext (show (i.val * 2048 + j.val) % 2048 = j.val by omega)
  rw [e]
  refine congrArg₂ (· + ·) rfl (Finset.sum_congr rfl fun k _ => ?_)
  exact Ideal.mul_congr (congrArg _ (eq_ix3 _)) (congrArg _ (eq_ix2 _))

/-- The blocks read at an index of the arrays. -/
def row (t : Fin 64) (i : Fin 1024) : Fin 32768 := ⟨t.val / 2 * 1024 + i.val, by omega⟩
def col (t : Fin 64) (j : Fin 1024) : Fin 2048 := ⟨t.val % 2 * 1024 + j.val, by omega⟩

theorem y_blk (c : Dev nD) (t : Fin 64) (i : Fin 1024) (k : Fin 2048) :
    (show EReal from iblk m c 0 t (ix2 i k)) = V m c main_v1 (ix2 (row t i) k) := by
  blk_ext [iblk, idx t, row]

theorem w_blk (c : Dev nD) (t : Fin 64) (k : Fin 2048) (j : Fin 1024) :
    (show EReal from iblk m c 1 t (ix3 (0 : Fin 1) k j)) = V m c main_v3 (ix3 (0 : Fin 1) k (col t j)) := by
  blk_ext [iblk, idx t, col]

theorem x_blk (c : Dev nD) (t : Fin 64) (i : Fin 1024) (j : Fin 1024) :
    (show EReal from iblk m c 2 t (ix2 i j)) = V m c main_v4 (ix2 (row t i) (col t j)) := by
  blk_ext [iblk, idx t, row, col]

theorem out_emb (t : Fin 64) (i : Fin 1024) (j : Fin 1024) :
    (((cfg0.win 3).blk t).view.emb (ix2 i j)) = ix2 (row t i) (col t j) := by
  blk_ext [idx t, row, col]

/-- An element of the stored block is the reference's. -/
theorem block_at (c : Dev nD) (t : Fin 64) (i : Fin 1024) (j : Fin 1024) :
    k0_pay1 (F := Ideal) (iblk m c 2 t) (iblk m c 0 t) (iblk m c 1 t) (ix2 i j) = REF m c (ix2 (row t i) (col t j)) := by
  rw [ref_at]
  refine (pay_at _ _ _ i j).trans (congrArg₂ (· + ·) ((x_blk m c t i j).trans (x_at m c _ _)) (Finset.sum_congr rfl fun k _ => ?_))
  exact Ideal.mul_congr ((y_blk m c t i k).trans (y_at m c _ _)) ((w_blk m c t k j).trans (w_at m c _ _))

/-- The kernel's result array is the reference's. -/
theorem final (c : Dev nD) : (dats m 0 c).arrAt 3 (cfgs 0).N = REF m c := by
  refine (dats m 0 c).arrAt_eq_of_covers 3 _ (by decide +kernel) fun t _ y => ?_
  blk_simp
  rw [after0_3]
  unfold out0_3
  frame_out
  obtain ⟨i, j, rfl⟩ : ∃ (i : Fin 1024) (j : Fin 1024), y = ix2 i j := ⟨y 0, y 1, eq_ix2 y⟩
  exact (block_at m c t i j).trans (congrArg (REF m c) (out_emb t i j)).symm

end Cert.OutIdeal.Final
end
-- ==== Proof.Conv.Rows.lean ====
/- Rows of the token-major arrays: a normalised row, a convolution of three taps along the sequence, and the same
   convolution taken inside a tile of rows that carries sixteen rows of either neighbour. -/
module

public import Idealize.ShloMosaic.Lib.Pipeline.ValueKit
public import Idealize.ShloMosaic.Lib.Pointwise

@[expose] public section

set_option maxRecDepth 16384

noncomputable section

namespace Cert.Rows

open Idealize.ShloMosaic

/-- The bit pattern of zero is zero. -/
theorem ofBits_zero : Ideal.ofBits .f32 0x00000000#32 = 0 := Ideal.ofBits_zero_f32

/-- Coordinate `d` of the row `x` over the root of its mean square, times `g`. -/
def normed (x g : Fin 2048 → EReal) (d : Fin 2048) : EReal :=
  x d * Ideal.rsqrt (Ideal.div (∑ k, x k * x k) (Ideal.ofBits .f32 0x45000000#32) + Ideal.ofBits .f32 0x358637BD#32) * g d

/-- Three taps along the sequence at row `R`; a sequence is 4096 rows, and outside it the taps see zero. -/
def conv3 (z : Fin 32768 → EReal) (w0 w1 w2 : EReal) (R : Fin 32768) : EReal :=
  (if R.val % 4096 = 0 then 0 else z ⟨R.val - 1, by omega⟩ * w0) + z R * w1
    + (if h : R.val % 4096 = 4095 then 0 else z ⟨R.val + 1, by omega⟩ * w2)

/-- The row of the array that row `r` of tile `i` holds: sixteen rows before the tile, its 512 rows, sixteen after it,
    kept inside the array at either end. -/
def src (i : Fin 64) (r : Fin 544) : Fin 32768 :=
  ⟨if r.val < 16 then (i.val * 32 - 1) * 16 + r.val else if r.val < 528 then i.val * 512 + (r.val - 16) else min ((i.val + 1) * 32) 2047 * 16 + (r.val - 528),
    by split; omega; split <;> omega⟩

/-- Row `p` of tile `i`. -/
def tileRow (i : Fin 64) (p : Fin 512) : Fin 32768 := ⟨i.val * 512 + p.val, by omega⟩

/-- The first row of a tile not masked, and the first masked behind it. -/
def lo (i : ℕ) : BitVec 32 := if i % 8 = 0 then 16#32 else 0#32
def hi (i : ℕ) : BitVec 32 := if i % 8 = 7 then 528#32 else 544#32

theorem mask_first (r : Fin 544) : (IntOp.cmpi .slt (BitVec.ofNat 32 r.val) 16#32 = if r.val < 16 then 1#1 else 0#1) ∧ IntOp.cmpi .slt (BitVec.ofNat 32 r.val) 0#32 = 0#1 := by
  revert r; decide +kernel

theorem mask_last (r : Fin 544) : (IntOp.cmpi .sge (BitVec.ofNat 32 r.val) 528#32 = if 528 ≤ r.val then 1#1 else 0#1) ∧ IntOp.cmpi .sge (BitVec.ofNat 32 r.val) 544#32 = 0#1 := by
  revert r; decide +kernel

/-- A value under the mask: zero outside the sequence of the tile. -/
theorem masked (i : ℕ) (r : Fin 544) (a : EReal) :
    Scalar.select (IntOp.ori (IntOp.cmpi .slt (BitVec.ofNat 32 r.val) (lo i)) (IntOp.cmpi .sge (BitVec.ofNat 32 r.val) (hi i))) 0 a
      = if (i % 8 = 0 ∧ r.val < 16) ∨ (i % 8 = 7 ∧ 528 ≤ r.val) then 0 else a := by
  obtain ⟨h1, h2⟩ := mask_first r
  obtain ⟨h3, h4⟩ := mask_last r
  unfold lo hi
  by_cases hf : i % 8 = 0 <;> by_cases hl : i % 8 = 7 <;> by_cases ha : r.val < 16 <;> by_cases hb : 528 ≤ r.val <;>
    simp_all [Scalar.select, IntOp.ori]

/-- The convolution inside a tile is the convolution of the whole array. -/
theorem tile_conv (i : Fin 64) (p : Fin 512) (z : Fin 32768 → EReal) (w0 w1 w2 : EReal) (r0 r1 r2 : Fin 544)
    (h0 : r0.val = 15 + p.val) (h1 : r1.val = 16 + p.val) (h2 : r2.val = 17 + p.val) :
    Scalar.select (IntOp.ori (IntOp.cmpi .slt (BitVec.ofNat 32 r0.val) (lo i)) (IntOp.cmpi .sge (BitVec.ofNat 32 r0.val) (hi i))) 0 (z (src i r0) * w0)
      + Scalar.select (IntOp.ori (IntOp.cmpi .slt (BitVec.ofNat 32 r1.val) (lo i)) (IntOp.cmpi .sge (BitVec.ofNat 32 r1.val) (hi i))) 0 (z (src i r1) * w1)
      + Scalar.select (IntOp.ori (IntOp.cmpi .slt (BitVec.ofNat 32 r2.val) (lo i)) (IntOp.cmpi .sge (BitVec.ofNat 32 r2.val) (hi i))) 0 (z (src i r2) * w2)
      = conv3 z w0 w1 w2 (tileRow i p) := by
  rw [masked, masked, masked]
  unfold conv3
  refine congrArg₂ (· + ·) (congrArg₂ (· + ·) ?_ ?_) ?_
  · by_cases h : i.val % 8 = 0 ∧ p.val = 0
    · rw [if_pos (Or.inl ⟨h.1, by omega⟩), if_pos (by simp only [tileRow]; omega)]
    · rw [if_neg (by omega), if_neg (by simp only [tileRow]; omega)]
      refine congrArg (fun R => z R * w0) (Fin.ext ?_)
      simp only [src, tileRow]
      split_ifs <;> omega
  · rw [if_neg (by omega)]
    refine congrArg (fun R => z R * w1) (Fin.ext ?_)
    simp only [src, tileRow]
    split_ifs <;> omega
  · by_cases h : i.val % 8 = 7 ∧ p.val = 511
    · rw [if_pos (Or.inr ⟨h.1, by omega⟩), dif_pos (by simp only [tileRow]; omega)]
    · rw [if_neg (by omega), dif_neg (by simp only [tileRow]; omega)]
      refine congrArg (fun R => z R * w2) (Fin.ext ?_)
      simp only [src, tileRow]
      split_ifs <;> omega

end Cert.Rows
end
-- ==== Proof.Conv.SconvRef.lean ====
/- The reference of the short convolution's first half, read at a row and a column. -/
module

public import proofs.«01_k».proof.Proof.Gen.SconvRefIdeal.Read
public import proofs.«01_k».proof.Proof.Conv.Rows

@[expose] public section

set_option maxRecDepth 16384

noncomputable section

namespace Cert.SconvRefIdeal.At

open Cert.SconvRefIdeal Cert.SconvRefIdeal.Gen Cert.SconvRefIdeal.Read Idealize.ShloMosaic Idealize.ShloMosaic.TcCoe
open Cert.Rows

variable (x : FVec Ideal S8x4096x2048 .f32) (g : FVec Ideal S2048 .f32) (w : FVec Ideal S2048x6144 .f32) (cw : FVec Ideal S3x2048 .f32)

/-- A normalised row. -/
theorem norm_at (b : Fin 8) (l : Fin 4096) (d : Fin 2048) :
    val_main_v12 (F := Ideal) x g (ix3 b l d) = normed (fun k => x (ix3 b l k)) (fun k => g (ix1 k)) d := by
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply,
    val_main_cst_apply]
  refine Ideal.mul_congr (Ideal.mul_congr rfl (congrArg Ideal.rsqrt (congrArg₂ (· + ·) (congrArg₂ Ideal.div ?_ rfl) rfl))) (congrArg g (eq_ix1 _))
  refine ((congrArg (· + _) ofBits_zero).trans (zero_add _)).trans (Finset.sum_congr rfl fun k _ => ?_)
  exact Ideal.mul_congr (congrArg x (eq_ix3 _)) (congrArg x (eq_ix3 _))

/-- A coordinate of the product with the input weights. -/
def proj (b : Fin 8) (l : Fin 4096) (j : Fin 6144) : EReal :=
  ∑ k : Fin 2048, normed (fun k => x (ix3 b l k)) (fun k => g (ix1 k)) k * w (ix2 k j)

theorem proj_at (b : Fin 8) (l : Fin 4096) (j : Fin 6144) : val_main_v13 (F := Ideal) x g w (ix3 b l j) = proj x g w b l j := by
  rw [val_main_v13_apply]
  refine Finset.sum_congr rfl fun k _ => Ideal.mul_congr ?_ (congrArg w (eq_ix2 _))
  exact (congrArg (val_main_v12 (F := Ideal) x g) (eq_ix3 _)).trans (norm_at x g b l k)

/-- The gated value the convolution runs over. -/
def gated (d : Fin 2048) (R : Fin 32768) : EReal :=
  proj x g w ⟨R.val / 4096, by omega⟩ ⟨R.val % 4096, by omega⟩ ⟨2048 + d.val, by omega⟩
    * proj x g w ⟨R.val / 4096, by omega⟩ ⟨R.val % 4096, by omega⟩ ⟨4096 + d.val, by omega⟩

theorem gated_at (b : Fin 8) (l : Fin 4096) (d : Fin 2048) (R : Fin 32768) (hR : R.val = b.val * 4096 + l.val) :
    val_main_v17 (F := Ideal) x g w (ix3 b l d) = gated x g w d R := by
  obtain rfl : b = ⟨R.val / 4096, by clear hR; omega⟩ := Fin.ext (by show b.val = R.val / 4096; omega)
  obtain rfl : l = ⟨R.val % 4096, by clear hR; omega⟩ := Fin.ext (by show l.val = R.val % 4096; omega)
  rw [val_main_v17_apply, val_main_v15_apply, val_main_v16_apply]
  exact Ideal.mul_congr ((congrArg (val_main_v13 (F := Ideal) x g w) (eq_ix3 _)).trans (proj_at x g w _ _ _))
    ((congrArg (val_main_v13 (F := Ideal) x g w) (eq_ix3 _)).trans (proj_at x g w _ _ _))

theorem zero_word : val_main_call0_v0 (F := Ideal) (Shape.Idx.first h_S_) = (0 : EReal) := by
  show (((0#32).toInt : ℝ) : EReal) = 0
  simp

/-- The padded array. -/
theorem pad_at (b : Fin 8) (l : Fin 4098) (d : Fin 2048) :
    val_main_v18 (F := Ideal) x g w (ix3 b l d)
      = if h : 1 ≤ l.val ∧ l.val - 1 < 4096 then gated x g w d ⟨b.val * 4096 + (l.val - 1), by omega⟩ else 0 := by
  unfold val_main_v18
  have e := fun (l : Fin 4096) R hR => gated_at x g w b l d R hR
  revert e
  generalize val_main_v17 (F := Ideal) x g w = y
  intro e
  pointwise
  by_cases h : 1 ≤ l.val ∧ l.val - 1 < 4096
  · refine (dif_pos h).trans (Eq.trans ?_ (dif_pos h).symm)
    exact e ⟨l.val - 1, h.2⟩ _ rfl
  · refine (dif_neg h).trans (Eq.trans ?_ (dif_neg h).symm)
    exact zero_word

/-- A tap's weight. -/
theorem tap0 (b : Fin 8) (l : Fin 4096) (d : Fin 2048) : val_main_v23 (F := Ideal) cw (ix3 b l d) = cw (ix2 (0 : Fin 3) d) := by
  rw [val_main_v23_apply, val_main_v22_apply, val_main_v21_apply, val_main_v20_apply]
  refine congrArg cw (funext fun a => ?_)
  match a with
  | ⟨0, _⟩ => rfl
  | ⟨1, _⟩ => exact Fin.ext (Nat.mod_eq_of_lt d.isLt)
theorem tap1 (b : Fin 8) (l : Fin 4096) (d : Fin 2048) : val_main_v29 (F := Ideal) cw (ix3 b l d) = cw (ix2 (1 : Fin 3) d) := by
  rw [val_main_v29_apply, val_main_v28_apply, val_main_v27_apply, val_main_v26_apply]
  refine congrArg cw (funext fun a => ?_)
  match a with
  | ⟨0, _⟩ => rfl
  | ⟨1, _⟩ => exact Fin.ext (Nat.mod_eq_of_lt d.isLt)
theorem tap2 (b : Fin 8) (l : Fin 4096) (d : Fin 2048) : val_main_v36 (F := Ideal) cw (ix3 b l d) = cw (ix2 (2 : Fin 3) d) := by
  rw [val_main_v36_apply, val_main_v35_apply, val_main_v34_apply, val_main_v33_apply]
  refine congrArg cw (funext fun a => ?_)
  match a with
  | ⟨0, _⟩ => rfl
  | ⟨1, _⟩ => exact Fin.ext (Nat.mod_eq_of_lt d.isLt)

/-- The convolution of the padded array. -/
theorem conv_at (R : Fin 32768) (d : Fin 2048) :
    val_main_v38 (F := Ideal) x g w cw (ix3 (⟨R.val / 4096, by omega⟩ : Fin 8) (⟨R.val % 4096, by omega⟩ : Fin 4096) d)
      = conv3 (gated x g w d) (cw (ix2 (0 : Fin 3) d)) (cw (ix2 (1 : Fin 3) d)) (cw (ix2 (2 : Fin 3) d)) R := by
  rw [val_main_v38_apply, val_main_v31_apply, val_main_v24_apply, val_main_v30_apply, val_main_v37_apply, tap0, tap1, tap2,
    val_main_v19_apply, val_main_v25_apply, val_main_v32_apply]
  unfold conv3
  refine congrArg₂ (· + ·) (congrArg₂ (· + ·) ?_ ?_) ?_
  · refine (Ideal.mul_congr ((congrArg (val_main_v18 (F := Ideal) x g w) (eq_ix3 _)).trans (pad_at x g w _ _ _)) rfl).trans ?_
    by_cases h : R.val % 4096 = 0
    · rw [if_pos h]
      exact (Ideal.mul_congr (dif_neg (fun hh => absurd hh.1 (by show ¬ 1 ≤ R.val % 4096; omega))) rfl).trans (zero_mul _)
    · rw [if_neg h]
      refine Ideal.mul_congr ((dif_pos ⟨by show 1 ≤ R.val % 4096; omega, by show R.val % 4096 - 1 < 4096; omega⟩).trans (congrArg (gated x g w d) (Fin.ext ?_))) rfl
      show R.val / 4096 * 4096 + (R.val % 4096 - 1) = R.val - 1
      omega
  · refine Ideal.mul_congr ((congrArg (val_main_v18 (F := Ideal) x g w) (eq_ix3 _)).trans ((pad_at x g w _ _ _).trans ?_)) rfl
    refine (dif_pos ⟨by show 1 ≤ 1 + R.val % 4096; omega, by show 1 + R.val % 4096 - 1 < 4096; omega⟩).trans (congrArg (gated x g w d) (Fin.ext ?_))
    show R.val / 4096 * 4096 + (1 + R.val % 4096 - 1) = R.val
    omega
  · refine (Ideal.mul_congr ((congrArg (val_main_v18 (F := Ideal) x g w) (eq_ix3 _)).trans (pad_at x g w _ _ _)) rfl).trans ?_
    by_cases h : R.val % 4096 = 4095
    · rw [dif_pos h]
      exact (Ideal.mul_congr (dif_neg (fun hh => absurd hh.2 (by show ¬ 2 + R.val % 4096 - 1 < 4096; omega))) rfl).trans (zero_mul _)
    · rw [dif_neg h]
      refine Ideal.mul_congr ((dif_pos ⟨by show 1 ≤ 2 + R.val % 4096; omega, by show 2 + R.val % 4096 - 1 < 4096; omega⟩).trans (congrArg (gated x g w d) (Fin.ext ?_))) rfl
      show R.val / 4096 * 4096 + (2 + R.val % 4096 - 1) = R.val + 1
      omega

/-- The result. -/
theorem result_at (R : Fin 32768) (d : Fin 2048) :
    val_main_v41 (F := Ideal) x g w cw (ix2 R d)
      = proj x g w ⟨R.val / 4096, by omega⟩ ⟨R.val % 4096, by omega⟩ ⟨d.val, by omega⟩
        * conv3 (gated x g w d) (cw (ix2 (0 : Fin 3) d)) (cw (ix2 (1 : Fin 3) d)) (cw (ix2 (2 : Fin 3) d)) R := by
  rw [val_main_v41_apply, val_main_v40_apply]
  have e : idx_main_v40 (ix2 R d) = ix3 (⟨R.val / 4096, by omega⟩ : Fin 8) (⟨R.val % 4096, by omega⟩ : Fin 4096) d := by
    funext a
    match a with
    | ⟨0, _⟩ => exact Fin.ext (show (R.val * 2048 + d.val) / 8388608 = R.val / 4096 by omega)
    | ⟨1, _⟩ => exact Fin.ext (show (R.val * 2048 + d.val) / 2048 % 4096 = R.val % 4096 by omega)
    | ⟨2, _⟩ => exact Fin.ext (show (R.val * 2048 + d.val) % 2048 = d.val by omega)
  rw [e, val_main_v39_apply, conv_at, val_main_v14_apply]
  exact Ideal.mul_congr ((congrArg (val_main_v13 (F := Ideal) x g w) (eq_ix3 _)).trans (proj_at x g w _ _ _)) rfl

end Cert.SconvRefIdeal.At
end
-- ==== Proof.Conv.Sconv.lean ====
/- The short convolution's first half: what the kernel writes is the reference's gated convolution. -/
module

public import proofs.«01_k».proof.Proof.Gen.SconvIdeal.Value
public import proofs.«01_k».proof.Proof.Conv.SconvRef
public import Idealize.ShloMosaic.Lib.StableHlo.ReadAt

@[expose] public section

set_option maxRecDepth 16384

noncomputable section

namespace Cert.SconvIdeal.Final

open Cert.SconvIdeal Cert.SconvIdeal.Gen Idealize.ShloMosaic Idealize.ShloMosaic.TcCoe Idealize.SL.Sem
open Idealize.ShloMosaic.Pipeline (Dat)
open Cert.Rows

/-! ## The stored values at an index -/

theorem halo_at (g : FVec Ideal S1x2048 .f32) (x : FVec Ideal S16x2048 .f32) (p : Fin 16) (d : Fin 2048) :
    k0_pay3 (F := Ideal) g x (ix2 p d) = normed (fun k => x (ix2 p k)) (fun k => g (ix2 (0 : Fin 1) k)) d := by
  unfold normed
  pointwise [k0_pay3, k0_pay2]

theorem tile_at (g : FVec Ideal S1x2048 .f32) (x : FVec Ideal S512x2048 .f32) (p : Fin 512) (d : Fin 2048) :
    k0_pay4 (F := Ideal) g x (ix2 p d) = normed (fun k => x (ix2 p k)) (fun k => g (ix2 (0 : Fin 1) k)) d := by
  unfold normed
  pointwise [k0_pay4, k0_pay2]

theorem halo'_at (g : FVec Ideal S1x2048 .f32) (x : FVec Ideal S16x2048 .f32) (p : Fin 16) (d : Fin 2048) :
    k0_pay6 (F := Ideal) (k0_pay2 (F := Ideal) g) (k0_pay5 (F := Ideal) x) (ix2 p d) = normed (fun k => x (ix2 p k)) (fun k => g (ix2 (0 : Fin 1) k)) d := by
  unfold normed
  pointwise [k0_pay6, k0_pay5, k0_pay2]

/-- A row of the kernel's scratch times a column of a weight block. -/
def dot (h : FVec Ideal S544x2048 .bf16) (w : FVec Ideal S1x2048x512 .bf16) (r : Fin 544) (q : Fin 512) : EReal :=
  ∑ k : Fin 2048, h (ix2 r k) * w (ix3 (0 : Fin 1) k q)

theorem gate_at (h : FVec Ideal S544x2048 .bf16) (w : FVec Ideal S1x2048x512 .bf16) (p q : Fin 512) :
    k0_pay7 (F := Ideal) h w (ix2 p q) = dot h w ⟨16 + p.val, by omega⟩ q := by
  unfold dot
  pointwise [k0_pay7]

theorem pair_at (h : FVec Ideal S544x2048 .bf16) (w w' : FVec Ideal S1x2048x512 .bf16) (r : Fin 544) (q : Fin 512) :
    k0_pay8 (F := Ideal) h w w' (ix2 r q) = dot h w r q * dot h w' r q := by
  unfold dot
  pointwise [k0_pay8]

/-- The stored block: a gate times three taps of the masked rows. -/
theorem block_at (i : Fin 64) (a : FVec Ideal S512x512 .f32) (z : FVec Ideal S544x512 .f32) (cw : FVec Ideal S1x3x512 .f32) (p q : Fin 512)
    (Z : Fin 32768 → EReal) (hZ : ∀ r : Fin 544, z (ix2 r q) = Z (src i r)) :
    k0_pay1 (F := Ideal) (lo i) (hi i) a z cw (ix2 p q)
      = a (ix2 p q) * conv3 Z (cw (ix3 (0 : Fin 1) (0 : Fin 3) q)) (cw (ix3 (0 : Fin 1) (1 : Fin 3) q)) (cw (ix3 (0 : Fin 1) (2 : Fin 3) q)) (tileRow i p) := by
  pointwise [k0_pay1]
  simp only [hZ]
  refine congrArg (a (ix2 p q) * ·) ?_
  exact tile_conv i p Z _ _ _ ⟨(16 + p.val + 544 - 1) % 544, by omega⟩ ⟨16 + p.val, by omega⟩ ⟨(16 + p.val + 544 - 543) % 544, by omega⟩
    (by show (16 + p.val + 544 - 1) % 544 = _; omega) rfl (by show (16 + p.val + 544 - 543) % 544 = _; omega)

/-! ## The operands -/

variable (m : (ℓ : Loc nD τ sig) → Buf (Elt Ideal) ℓ)

/-- The arguments at their shapes. -/
abbrev argX (c : Dev nD) : FVec Ideal S8x4096x2048 .f32 := m ((c : Thread nD τ).loc main_arg0)
abbrev argG (c : Dev nD) : FVec Ideal S2048 .f32 := m ((c : Thread nD τ).loc main_arg1)
abbrev argW (c : Dev nD) : FVec Ideal S2048x6144 .f32 := m ((c : Thread nD τ).loc main_arg2)
abbrev argC (c : Dev nD) : FVec Ideal S3x2048 .f32 := m ((c : Thread nD τ).loc main_arg3)

/-- Row `R` of the token-major arrays is position `R % 4096` of batch `R / 4096`. -/
abbrev tok (R : Fin 32768) (k : Fin 2048) : S8x4096x2048.Idx := ix3 (⟨R.val / 4096, by omega⟩ : Fin 8) (⟨R.val % 4096, by omega⟩ : Fin 4096) k

theorem x_at (c : Dev nD) (R : Fin 32768) (k : Fin 2048) : (show EReal from V m c main_v0 (ix2 R k)) = argX m c (tok R k) := by
  unfold V
  after_reads_at

/-- The blocks of every window at every grid point. -/
theorem idx : ∀ t : Fin cfg0.N,
    win0_0.index t = ![t.val / 4, 0] ∧ win0_1.index t = ![t.val / 4 * 32 - 1, 0] ∧ win0_2.index t = ![min ((t.val / 4 + 1) * 32) 2047, 0] ∧ win0_3.index t = ![0, 0]
      ∧ win0_4.index t = ![0, 0, t.val % 4] ∧ win0_5.index t = ![0, 0, 4 + t.val % 4] ∧ win0_6.index t = ![0, 0, 8 + t.val % 4] ∧ win0_7.index t = ![0, 0, t.val % 4]
      ∧ win0_9.index t = ![t.val / 4, t.val % 4] :=
  (by decide +kernel : ∀ t : Fin grid0.N, _)

theorem g_at (c : Dev nD) (k : Fin 2048) : (show EReal from V m c main_v1 (ix2 (0 : Fin 1) k)) = argG m c (ix1 k) := by
  unfold V
  after_reads_at

theorem w_at (c : Dev nD) (k : Fin 2048) (j : Fin 6144) : (show EReal from V m c main_v3 (ix3 (0 : Fin 1) k j)) = argW m c (ix2 k j) := by
  unfold V
  after_reads_at

theorem c_at (c : Dev nD) (a : Fin 3) (j : Fin 2048) : (show EReal from V m c main_v4 (ix3 (0 : Fin 1) a j)) = argC m c (ix2 a j) := by
  unfold V
  after_reads_at

/-- The tile of rows and the column block of a grid point. -/
def til (t : Fin 256) : Fin 64 := ⟨t.val / 4, by omega⟩
def colOf (t : Fin 256) (q : Fin 512) : Fin 2048 := ⟨t.val % 4 * 512 + q.val, by omega⟩

theorem tile_blk (c : Dev nD) (t : Fin 256) (p : Fin 512) (d : Fin 2048) (r : Fin 544) (hr : r.val = 16 + p.val) :
    (show EReal from iblk m c 0 t (ix2 p d)) = argX m c (tok (src (til t) r) d) := by
  have e : src (til t) r = (⟨t.val / 4 * 512 + p.val, by omega⟩ : Fin 32768) := Fin.ext (by simp only [src, til]; split_ifs <;> omega)
  rw [e]
  refine Eq.trans ?_ (x_at m c _ d)
  blk_ext [iblk, idx t]

theorem before_blk (c : Dev nD) (t : Fin 256) (p : Fin 16) (d : Fin 2048) (r : Fin 544) (hr : r.val = p.val) :
    (show EReal from iblk m c 1 t (ix2 p d)) = argX m c (tok (src (til t) r) d) := by
  have e : src (til t) r = (⟨(t.val / 4 * 32 - 1) * 16 + p.val, by omega⟩ : Fin 32768) := Fin.ext (by simp only [src, til]; split_ifs <;> omega)
  rw [e]
  refine Eq.trans ?_ (x_at m c _ d)
  blk_ext [iblk, idx t]

theorem after_blk (c : Dev nD) (t : Fin 256) (p : Fin 16) (d : Fin 2048) (r : Fin 544) (hr : r.val = 528 + p.val) :
    (show EReal from iblk m c 2 t (ix2 p d)) = argX m c (tok (src (til t) r) d) := by
  have e : src (til t) r = (⟨min ((t.val / 4 + 1) * 32) 2047 * 16 + p.val, by omega⟩ : Fin 32768) := Fin.ext (by simp only [src, til]; split_ifs <;> omega)
  rw [e]
  refine Eq.trans ?_ (x_at m c _ d)
  blk_ext [iblk, idx t]

theorem g_blk (c : Dev nD) (t : Fin 256) (k : Fin 2048) : (show EReal from iblk m c 3 t (ix2 (0 : Fin 1) k)) = argG m c (ix1 k) := by
  refine Eq.trans ?_ (g_at m c k)
  blk_ext [iblk, idx t]

theorem wa_blk (c : Dev nD) (t : Fin 256) (k : Fin 2048) (q : Fin 512) :
    (show EReal from iblk m c 4 t (ix3 (0 : Fin 1) k q)) = argW m c (ix2 k (⟨(colOf t q).val, by omega⟩ : Fin 6144)) := by
  refine Eq.trans ?_ (w_at m c k _)
  blk_ext [iblk, idx t, colOf]

theorem wb_blk (c : Dev nD) (t : Fin 256) (k : Fin 2048) (q : Fin 512) :
    (show EReal from iblk m c 5 t (ix3 (0 : Fin 1) k q)) = argW m c (ix2 k (⟨2048 + (colOf t q).val, by omega⟩ : Fin 6144)) := by
  refine Eq.trans ?_ (w_at m c k _)
  blk_ext [iblk, idx t, colOf]

theorem wc_blk (c : Dev nD) (t : Fin 256) (k : Fin 2048) (q : Fin 512) :
    (show EReal from iblk m c 6 t (ix3 (0 : Fin 1) k q)) = argW m c (ix2 k (⟨4096 + (colOf t q).val, by omega⟩ : Fin 6144)) := by
  refine Eq.trans ?_ (w_at m c k _)
  blk_ext [iblk, idx t, colOf]

theorem c_blk (c : Dev nD) (t : Fin 256) (a : Fin 3) (q : Fin 512) :
    (show EReal from iblk m c 7 t (ix3 (0 : Fin 1) a q)) = argC m c (ix2 a (colOf t q)) := by
  refine Eq.trans ?_ (c_at m c a _)
  blk_ext [iblk, idx t, colOf]

theorem out_emb (t : Fin 256) (p q : Fin 512) :
    (((cfg0.win 9).blk t).view.emb (ix2 p q)) = ix2 (tileRow (til t) p) (colOf t q) := by
  blk_ext [idx t, til, tileRow, colOf]

/-! ## The scratch -/

/-- The normalised row `R` of the input. -/
def nrm (c : Dev nD) (R : Fin 32768) (d : Fin 2048) : EReal := normed (fun k => argX m c (tok R k)) (fun k => argG m c (ix1 k)) d

/-- The scratch after a grid point. -/
def scr (c : Dev nD) (t : Fin 256) : FVec Ideal S544x2048 .bf16 := (outsAt0 m c t.val t.isLt).2

theorem halo_nrm (c : Dev nD) (t : Fin 256) (p : Fin 16) (d : Fin 2048) (r : Fin 544) (hr : r.val = p.val) :
    k0_pay3 (F := Ideal) (iblk m c 3 t) (iblk m c 1 t) (ix2 p d) = nrm m c (src (til t) r) d :=
  (halo_at _ _ p d).trans (congrArg₂ (fun a b => normed a b d) (funext fun k => before_blk m c t p k r hr) (funext fun k => g_blk m c t k))

theorem tile_nrm (c : Dev nD) (t : Fin 256) (p : Fin 512) (d : Fin 2048) (r : Fin 544) (hr : r.val = 16 + p.val) :
    k0_pay4 (F := Ideal) (iblk m c 3 t) (iblk m c 0 t) (ix2 p d) = nrm m c (src (til t) r) d :=
  (tile_at _ _ p d).trans (congrArg₂ (fun a b => normed a b d) (funext fun k => tile_blk m c t p k r hr) (funext fun k => g_blk m c t k))

theorem halo'_nrm (c : Dev nD) (t : Fin 256) (p : Fin 16) (d : Fin 2048) (r : Fin 544) (hr : r.val = 528 + p.val) :
    k0_pay6 (F := Ideal) (k0_pay2 (F := Ideal) (iblk m c 3 t)) (k0_pay5 (F := Ideal) (iblk m c 2 t)) (ix2 p d) = nrm m c (src (til t) r) d :=
  (halo'_at _ _ p d).trans (congrArg₂ (fun a b => normed a b d) (funext fun k => after_blk m c t p k r hr) (funext fun k => g_blk m c t k))

theorem scr_first (c : Dev nD) (t : Fin 256) (h : t.val % 4 = 0) (r : Fin 544) (d : Fin 2048) :
    scr m c t (ix2 r d) = nrm m c (src (til t) r) d := by
  unfold scr
  rw [outsAt0_A m c t h]
  dsimp only
  unfold sout0_A_0
  frame_out
  clear h
  canon_tiles x h using (by
    by_cases h1 : r.val < 16
    · refine ⟨_, List.mem_cons_of_mem _ (List.mem_cons_of_mem _ List.mem_cons_self), ?_⟩
      refine (Rect.mem_set_unit (inb := inb_S544x2048_S16x2048_0_0)).2 fun a => ?_
      match a with
      | ⟨0, _⟩ => exact ⟨Nat.zero_le _, by show r.val < 0 + 16; omega⟩
      | ⟨1, _⟩ => exact ⟨Nat.zero_le _, by show d.val < 0 + 2048; omega⟩
    · by_cases h2 : r.val < 528
      · refine ⟨_, List.mem_cons_of_mem _ List.mem_cons_self, ?_⟩
        refine (Rect.mem_set_unit (inb := inb_S544x2048_S512x2048_16_0)).2 fun a => ?_
        match a with
        | ⟨0, _⟩ => exact ⟨by show 16 ≤ r.val; omega, by show r.val < 16 + 512; omega⟩
        | ⟨1, _⟩ => exact ⟨Nat.zero_le _, by show d.val < 0 + 2048; omega⟩
      · refine ⟨_, List.mem_cons_self, ?_⟩
        refine (Rect.mem_set_unit (inb := inb_S544x2048_S16x2048_528_0)).2 fun a => ?_
        match a with
        | ⟨0, _⟩ => exact ⟨by show 528 ≤ r.val; omega, by show r.val < 528 + 16; omega⟩
        | ⟨1, _⟩ => exact ⟨Nat.zero_le _, by show d.val < 0 + 2048; omega⟩)
  case piece0 =>
    obtain ⟨p, e, rfl⟩ : ∃ (p : Fin 16) (e : Fin 2048), x = ix2 p e := ⟨x 0, x 1, eq_ix2 x⟩
    obtain rfl : d = e := Fin.ext h1
    exact halo'_nrm m c t p d r h0
  case piece1 =>
    obtain ⟨p, e, rfl⟩ : ∃ (p : Fin 512) (e : Fin 2048), x = ix2 p e := ⟨x 0, x 1, eq_ix2 x⟩
    obtain rfl : d = e := Fin.ext h1
    exact tile_nrm m c t p d r h0
  case piece2 =>
    obtain ⟨p, e, rfl⟩ : ∃ (p : Fin 16) (e : Fin 2048), x = ix2 p e := ⟨x 0, x 1, eq_ix2 x⟩
    obtain rfl : d = e := Fin.ext h1
    exact halo_nrm m c t p d r h0

theorem scr_next (c : Dev nD) (n : ℕ) (h : n + 1 < 256) (h4 : ¬(n + 1) % 4 = 0) : scr m c ⟨n + 1, h⟩ = scr m c ⟨n, by omega⟩ := by
  unfold scr
  rw [outsAt0_B m c ⟨n + 1, h⟩ h4]
  rfl

/-- The scratch holds the normalised rows of the point's tile. -/
theorem scr_at (c : Dev nD) (n : ℕ) (h : n < 256) (r : Fin 544) (d : Fin 2048) : scr m c ⟨n, h⟩ (ix2 r d) = nrm m c (src (til ⟨n, h⟩) r) d := by
  induction n with
  | zero => exact scr_first m c ⟨0, h⟩ rfl r d
  | succ n ih =>
    by_cases h4 : (n + 1) % 4 = 0
    · exact scr_first m c ⟨n + 1, h⟩ h4 r d
    · have e : til ⟨n + 1, h⟩ = til ⟨n, by omega⟩ := Fin.ext (by simp only [til]; omega)
      rw [scr_next m c n h h4, e]
      exact ih (by omega)

/-! ## The stored block -/

theorem lo_at : ∀ t : Fin cfg0.N,
      (Scalar.select
        (Scalar.cmpi CmpIPredicate.eq
          (Scalar.select
            (Scalar.andi
              (Scalar.xori
                (Scalar.cmpi CmpIPredicate.slt (Scalar.remsi (BitVec.ofNat 32 (grid0.coords t 0).val) 8#32) 0#32) 0#1)
              (Scalar.cmpi CmpIPredicate.ne (Scalar.remsi (BitVec.ofNat 32 (grid0.coords t 0).val) 8#32) 0#32))
            (Scalar.addi (Scalar.remsi (BitVec.ofNat 32 (grid0.coords t 0).val) 8#32) 8#32)
            (Scalar.remsi (BitVec.ofNat 32 (grid0.coords t 0).val) 8#32))
          0#32)
        16#32 0#32) = lo (t.val / 4) :=
  (by decide +kernel : ∀ t : Fin grid0.N, _)

theorem hi_at : ∀ t : Fin cfg0.N,
      (Scalar.select
        (Scalar.cmpi CmpIPredicate.eq
          (Scalar.select
            (Scalar.andi
              (Scalar.xori
                (Scalar.cmpi CmpIPredicate.slt (Scalar.remsi (BitVec.ofNat 32 (grid0.coords t 0).val) 8#32) 0#32) 0#1)
              (Scalar.cmpi CmpIPredicate.ne (Scalar.remsi (BitVec.ofNat 32 (grid0.coords t 0).val) 8#32) 0#32))
            (Scalar.addi (Scalar.remsi (BitVec.ofNat 32 (grid0.coords t 0).val) 8#32) 8#32)
            (Scalar.remsi (BitVec.ofNat 32 (grid0.coords t 0).val) 8#32))
          7#32)
        528#32 544#32) = hi (t.val / 4) :=
  (by decide +kernel : ∀ t : Fin grid0.N, _)

/-- What a grid point stores, over the scratch it leaves. -/
def stored (c : Dev nD) (t : Fin 256) : FVec Ideal S512x512 .bf16 :=
  k0_pay1 (F := Ideal) (lo (til t)) (hi (til t)) (k0_pay7 (F := Ideal) (scr m c t) (iblk m c 4 t)) (k0_pay8 (F := Ideal) (scr m c t) (iblk m c 5 t) (iblk m c 6 t)) (iblk m c 7 t)

theorem stored_congr (c : Dev nD) (t : Fin 256) (l h : BitVec 32) (s s' : FVec Ideal S544x2048 .bf16)
    (el : l = lo (t.val / 4)) (eh : h = hi (t.val / 4)) (es : s = scr m c t) (es' : s' = scr m c t) :
    k0_pay1 (F := Ideal) l h (k0_pay7 (F := Ideal) s (iblk m c 4 t)) (k0_pay8 (F := Ideal) s' (iblk m c 5 t) (iblk m c 6 t)) (iblk m c 7 t) = stored m c t := by
  subst el eh es es'
  rfl

theorem out_first (c : Dev nD) (t : Fin 256) (h : t.val % 4 = 0) : (outsAt0 m c t.val t.isLt).1 = stored m c t := by
  have e : ∀ y : S544x2048.Idx, (Rect.unit ![0, 0] ![544, 2048] inb_S544x2048_S544x2048_0_0 : Rect S544x2048).toLoadRect.idx y = y := fun y =>
    funext fun a => Fin.ext (by match a with | ⟨0, _⟩ => exact (Rect.idx_unit_val _ _ _ _ _).trans (Nat.zero_add _) | ⟨1, _⟩ => exact (Rect.idx_unit_val _ _ _ _ _).trans (Nat.zero_add _))
  rw [outsAt0_A m c t h]
  dsimp only
  unfold out0_A_9
  frame_out
  refine stored_congr m c t _ _ _ _ (lo_at t) (hi_at t) ?_ ?_
  all_goals
    refine (View.readCov_eq_canon' _ _ _).trans (funext fun y => ?_)
    unfold scr
    rw [outsAt0_A m c t h]
    dsimp only
    unfold sout0_A_0
    frame_out
    exact congrArg _ (e y)

theorem out_next (c : Dev nD) (t : Fin 256) (h : ¬t.val % 4 = 0) : (outsAt0 m c t.val t.isLt).1 = stored m c t := by
  rw [outsAt0_B m c t h]
  dsimp only
  unfold out0_B_9
  frame_out
  refine stored_congr m c t _ _ _ _ (lo_at t) (hi_at t) ?_ ?_
  all_goals
    unfold scr
    rw [outsAt0_B m c t h]
    exact Memref.IsWhole.read_unread _ _

/-- The reference's result over the kernel's arguments. -/
abbrev REF (c : Dev nD) : FVec Ideal Cert.SconvRefIdeal.S32768x2048 .bf16 :=
  Cert.SconvRefIdeal.Read.val_main_v41 (F := Ideal) (m ((c : Thread nD τ).loc main_arg0)) (m ((c : Thread nD τ).loc main_arg1)) (m ((c : Thread nD τ).loc main_arg2)) (m ((c : Thread nD τ).loc main_arg3))

/-- A scratch row times a weight column is the reference's projection. -/
theorem dot_eq (c : Dev nD) (t : Fin 256) (w : FVec Ideal S1x2048x512 .bf16) (r : Fin 544) (q : Fin 512) (j : Fin 6144)
    (hw : ∀ k : Fin 2048, w (ix3 (0 : Fin 1) k q) = argW m c (ix2 k j)) :
    dot (scr m c t) w r q
      = Cert.SconvRefIdeal.At.proj (argX m c) (argG m c) (argW m c) ⟨(src (til t) r).val / 4096, by omega⟩ ⟨(src (til t) r).val % 4096, by omega⟩ j :=
  Finset.sum_congr rfl fun k _ => Ideal.mul_congr (scr_at m c t.val t.isLt r k) (hw k)

/-- An element of the stored block is the reference's. -/
theorem stored_at (c : Dev nD) (t : Fin 256) (p q : Fin 512) : stored m c t (ix2 p q) = REF m c (ix2 (tileRow (til t) p) (colOf t q)) := by
  refine Eq.trans ?_ (Cert.SconvRefIdeal.At.result_at (argX m c) (argG m c) (argW m c) (argC m c) (tileRow (til t) p) (colOf t q)).symm
  refine (block_at (til t) _ _ _ p q (Cert.SconvRefIdeal.At.gated (argX m c) (argG m c) (argW m c) (colOf t q)) fun r => ?_).trans ?_
  · refine (pair_at _ _ _ r q).trans (Ideal.mul_congr ?_ ?_)
    · exact dot_eq m c t _ r q _ fun k => wb_blk m c t k q
    · exact dot_eq m c t _ r q _ fun k => wc_blk m c t k q
  · refine Ideal.mul_congr ((gate_at _ _ p q).trans ((dot_eq m c t _ _ q _ fun k => wa_blk m c t k q).trans ?_)) ?_
    · have e : src (til t) ⟨16 + p.val, by omega⟩ = tileRow (til t) p := Fin.ext (by simp only [src, tileRow]; split_ifs <;> omega)
      simp only [e]
    · rw [show ((iblk m c 7 t) : FVec Ideal S1x3x512 .f32) (ix3 (0 : Fin 1) (0 : Fin 3) q) = argC m c (ix2 (0 : Fin 3) (colOf t q)) from c_blk m c t 0 q,
        show ((iblk m c 7 t) : FVec Ideal S1x3x512 .f32) (ix3 (0 : Fin 1) (1 : Fin 3) q) = argC m c (ix2 (1 : Fin 3) (colOf t q)) from c_blk m c t 1 q,
        show ((iblk m c 7 t) : FVec Ideal S1x3x512 .f32) (ix3 (0 : Fin 1) (2 : Fin 3) q) = argC m c (ix2 (2 : Fin 3) (colOf t q)) from c_blk m c t 2 q]

/-- The kernel's result array is the reference's. -/
theorem final (c : Dev nD) : (dats m 0 c).arrAt 9 (cfgs 0).N = REF m c := by
  refine (dats m 0 c).arrAt_eq_of_covers 9 _ (by decide +kernel) fun t _ y => ?_
  blk_simp
  rw [after0_9]
  obtain ⟨p, q, rfl⟩ : ∃ (p : Fin 512) (q : Fin 512), y = ix2 p q := ⟨y 0, y 1, eq_ix2 y⟩
  refine Eq.trans ?_ ((stored_at m c t p q).trans (congrArg (REF m c) (out_emb t p q)).symm)
  by_cases h : t.val % 4 = 0
  · exact congrFun (out_first m c t h) (ix2 p q)
  · exact congrFun (out_next m c t h) (ix2 p q)

end Cert.SconvIdeal.Final
end
-- ==== Proof.Conv.HyenaRef.lean ====
/- The reference of the Hyena layer's first half, read at a row and a column. -/
module

public import proofs.«01_k».proof.Proof.Gen.HyenaRefIdeal.Read
public import proofs.«01_k».proof.Proof.Conv.Rows

@[expose] public section

set_option maxRecDepth 16384

noncomputable section

namespace Cert.HyenaRefIdeal.At

open Cert.HyenaRefIdeal Cert.HyenaRefIdeal.Gen Cert.HyenaRefIdeal.Read Idealize.ShloMosaic Idealize.ShloMosaic.TcCoe
open Cert.Rows

variable (x : FVec Ideal S8x4096x2048 .f32) (g : FVec Ideal S2048 .f32) (w : FVec Ideal S2048x6144 .f32) (cw : FVec Ideal S3x6144 .f32)
  (cb : FVec Ideal S6144 .f32)

/-- A normalised row. -/
theorem norm_at (b : Fin 8) (l : Fin 4096) (d : Fin 2048) :
    val_main_v12 (F := Ideal) x g (ix3 b l d) = normed (fun k => x (ix3 b l k)) (fun k => g (ix1 k)) d := by
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply,
    val_main_cst_apply]
  refine Ideal.mul_congr (Ideal.mul_congr rfl (congrArg Ideal.rsqrt (congrArg₂ (· + ·) (congrArg₂ Ideal.div ?_ rfl) rfl))) (congrArg g (eq_ix1 _))
  refine ((congrArg (· + _) ofBits_zero).trans (zero_add _)).trans (Finset.sum_congr rfl fun k _ => ?_)
  exact Ideal.mul_congr (congrArg x (eq_ix3 _)) (congrArg x (eq_ix3 _))

/-- A coordinate of the product with the input weights. -/
def proj (b : Fin 8) (l : Fin 4096) (j : Fin 6144) : EReal :=
  ∑ k : Fin 2048, normed (fun k => x (ix3 b l k)) (fun k => g (ix1 k)) k * w (ix2 k j)

theorem proj_at (b : Fin 8) (l : Fin 4096) (j : Fin 6144) : val_main_v13 (F := Ideal) x g w (ix3 b l j) = proj x g w b l j := by
  rw [val_main_v13_apply]
  refine Finset.sum_congr rfl fun k _ => Ideal.mul_congr ?_ (congrArg w (eq_ix2 _))
  exact (congrArg (val_main_v12 (F := Ideal) x g) (eq_ix3 _)).trans (norm_at x g b l k)

/-- The projected value column `j` convolves, at a row of the token-major arrays. -/
def col (j : Fin 6144) (R : Fin 32768) : EReal := proj x g w ⟨R.val / 4096, by omega⟩ ⟨R.val % 4096, by omega⟩ j

theorem col_at (b : Fin 8) (l : Fin 4096) (j : Fin 6144) (R : Fin 32768) (hR : R.val = b.val * 4096 + l.val) :
    val_main_v13 (F := Ideal) x g w (ix3 b l j) = col x g w j R := by
  obtain rfl : b = ⟨R.val / 4096, by clear hR; omega⟩ := Fin.ext (by show b.val = R.val / 4096; omega)
  obtain rfl : l = ⟨R.val % 4096, by clear hR; omega⟩ := Fin.ext (by show l.val = R.val % 4096; omega)
  exact proj_at x g w _ _ _

theorem zero_word : val_main_call0_v0 (F := Ideal) (Shape.Idx.first h_S_) = (0 : EReal) := by
  show (((0#32).toInt : ℝ) : EReal) = 0
  simp

/-- The padded array. -/
theorem pad_at (b : Fin 8) (l : Fin 4098) (j : Fin 6144) :
    val_main_v14 (F := Ideal) x g w (ix3 b l j)
      = if h : 1 ≤ l.val ∧ l.val - 1 < 4096 then col x g w j ⟨b.val * 4096 + (l.val - 1), by omega⟩ else 0 := by
  unfold val_main_v14
  have e := fun (l : Fin 4096) R hR => col_at x g w b l j R hR
  revert e
  generalize val_main_v13 (F := Ideal) x g w = y
  intro e
  pointwise
  by_cases h : 1 ≤ l.val ∧ l.val - 1 < 4096
  · refine (dif_pos h).trans (Eq.trans ?_ (dif_pos h).symm)
    exact e ⟨l.val - 1, h.2⟩ _ rfl
  · refine (dif_neg h).trans (Eq.trans ?_ (dif_neg h).symm)
    exact zero_word

/-- A tap's weight. -/
theorem tap0 (b : Fin 8) (l : Fin 4096) (j : Fin 6144) : val_main_v19 (F := Ideal) cw (ix3 b l j) = cw (ix2 (0 : Fin 3) j) := by
  rw [val_main_v19_apply, val_main_v18_apply, val_main_v17_apply, val_main_v16_apply]
  refine congrArg cw (funext fun a => ?_)
  match a with
  | ⟨0, _⟩ => rfl
  | ⟨1, _⟩ => exact Fin.ext (Nat.mod_eq_of_lt j.isLt)
theorem tap1 (b : Fin 8) (l : Fin 4096) (j : Fin 6144) : val_main_v25 (F := Ideal) cw (ix3 b l j) = cw (ix2 (1 : Fin 3) j) := by
  rw [val_main_v25_apply, val_main_v24_apply, val_main_v23_apply, val_main_v22_apply]
  refine congrArg cw (funext fun a => ?_)
  match a with
  | ⟨0, _⟩ => rfl
  | ⟨1, _⟩ => exact Fin.ext (Nat.mod_eq_of_lt j.isLt)
theorem tap2 (b : Fin 8) (l : Fin 4096) (j : Fin 6144) : val_main_v32 (F := Ideal) cw (ix3 b l j) = cw (ix2 (2 : Fin 3) j) := by
  rw [val_main_v32_apply, val_main_v31_apply, val_main_v30_apply, val_main_v29_apply]
  refine congrArg cw (funext fun a => ?_)
  match a with
  | ⟨0, _⟩ => rfl
  | ⟨1, _⟩ => exact Fin.ext (Nat.mod_eq_of_lt j.isLt)

/-- The convolution of the padded array, with its bias. -/
theorem conv_at (R : Fin 32768) (j : Fin 6144) :
    val_main_v37 (F := Ideal) x g w cw cb (ix3 (⟨R.val / 4096, by omega⟩ : Fin 8) (⟨R.val % 4096, by omega⟩ : Fin 4096) j)
      = conv3 (col x g w j) (cw (ix2 (0 : Fin 3) j)) (cw (ix2 (1 : Fin 3) j)) (cw (ix2 (2 : Fin 3) j)) R + cb (ix1 j) := by
  rw [val_main_v37_apply, val_main_v36_apply, val_main_v35_apply, val_main_v34_apply, val_main_v27_apply, val_main_v20_apply, val_main_v26_apply,
    val_main_v33_apply, tap0, tap1, tap2, val_main_v15_apply, val_main_v21_apply, val_main_v28_apply]
  refine congrArg₂ (· + ·) ?_ (congrArg cb (eq_ix1 _))
  unfold conv3
  refine congrArg₂ (· + ·) (congrArg₂ (· + ·) ?_ ?_) ?_
  · refine (Ideal.mul_congr ((congrArg (val_main_v14 (F := Ideal) x g w) (eq_ix3 _)).trans (pad_at x g w _ _ _)) rfl).trans ?_
    by_cases h : R.val % 4096 = 0
    · rw [if_pos h]
      exact (Ideal.mul_congr (dif_neg (fun hh => absurd hh.1 (by show ¬ 1 ≤ R.val % 4096; omega))) rfl).trans (zero_mul _)
    · rw [if_neg h]
      refine Ideal.mul_congr ((dif_pos ⟨by show 1 ≤ R.val % 4096; omega, by show R.val % 4096 - 1 < 4096; omega⟩).trans (congrArg (col x g w j) (Fin.ext ?_))) rfl
      show R.val / 4096 * 4096 + (R.val % 4096 - 1) = R.val - 1
      omega
  · refine Ideal.mul_congr ((congrArg (val_main_v14 (F := Ideal) x g w) (eq_ix3 _)).trans ((pad_at x g w _ _ _).trans ?_)) rfl
    refine (dif_pos ⟨by show 1 ≤ 1 + R.val % 4096; omega, by show 1 + R.val % 4096 - 1 < 4096; omega⟩).trans (congrArg (col x g w j) (Fin.ext ?_))
    show R.val / 4096 * 4096 + (1 + R.val % 4096 - 1) = R.val
    omega
  · refine (Ideal.mul_congr ((congrArg (val_main_v14 (F := Ideal) x g w) (eq_ix3 _)).trans (pad_at x g w _ _ _)) rfl).trans ?_
    by_cases h : R.val % 4096 = 4095
    · rw [dif_pos h]
      exact (Ideal.mul_congr (dif_neg (fun hh => absurd hh.2 (by show ¬ 2 + R.val % 4096 - 1 < 4096; omega))) rfl).trans (zero_mul _)
    · rw [dif_neg h]
      refine Ideal.mul_congr ((dif_pos ⟨by show 1 ≤ 2 + R.val % 4096; omega, by show 2 + R.val % 4096 - 1 < 4096; omega⟩).trans (congrArg (col x g w j) (Fin.ext ?_))) rfl
      show R.val / 4096 * 4096 + (2 + R.val % 4096 - 1) = R.val + 1
      omega

/-- Column `j` of the convolution at row `R`, with its bias. -/
def cv (j : Fin 6144) (R : Fin 32768) : EReal :=
  conv3 (col x g w j) (cw (ix2 (0 : Fin 3) j)) (cw (ix2 (1 : Fin 3) j)) (cw (ix2 (2 : Fin 3) j)) R + cb (ix1 j)

theorem row_idx (R : Fin 32768) (d : Fin 2048) : idx_main_v42 (ix2 R d) = ix3 (⟨R.val / 4096, by omega⟩ : Fin 8) (⟨R.val % 4096, by omega⟩ : Fin 4096) d := by
  funext a
  match a with
  | ⟨0, _⟩ => exact Fin.ext (show (R.val * 2048 + d.val) / 8388608 = R.val / 4096 by omega)
  | ⟨1, _⟩ => exact Fin.ext (show (R.val * 2048 + d.val) / 2048 % 4096 = R.val % 4096 by omega)
  | ⟨2, _⟩ => exact Fin.ext (show (R.val * 2048 + d.val) % 2048 = d.val by omega)

/-- The first result: the first third of the columns. -/
theorem first_at (R : Fin 32768) (d : Fin 2048) :
    val_main_v43 (F := Ideal) x g w cw cb (ix2 R d) = cv x g w cw cb ⟨d.val, by omega⟩ R := by
  rw [val_main_v43_apply, val_main_v42_apply, row_idx, val_main_v38_apply]
  exact (congrArg (val_main_v37 (F := Ideal) x g w cw cb) (eq_ix3 _)).trans (conv_at x g w cw cb R _)

/-- The second result: the last third times the middle one. -/
theorem second_at (R : Fin 32768) (d : Fin 2048) :
    val_main_v45 (F := Ideal) x g w cw cb (ix2 R d) = cv x g w cw cb ⟨4096 + d.val, by omega⟩ R * cv x g w cw cb ⟨2048 + d.val, by omega⟩ R := by
  rw [val_main_v45_apply, val_main_v44_apply, show idx_main_v44 (ix2 R d) = _ from row_idx R d, val_main_v41_apply, val_main_v40_apply, val_main_v39_apply]
  exact Ideal.mul_congr ((congrArg (val_main_v37 (F := Ideal) x g w cw cb) (eq_ix3 _)).trans (conv_at x g w cw cb R _))
    ((congrArg (val_main_v37 (F := Ideal) x g w cw cb) (eq_ix3 _)).trans (conv_at x g w cw cb R _))

end Cert.HyenaRefIdeal.At
end
-- ==== Proof.Conv.Hyena.lean ====
/- The Hyena layer's first half: what the kernel writes is the reference's convolved columns and their product. -/
module

public import proofs.«01_k».proof.Proof.Gen.HyenaIdeal.Frame
public import proofs.«01_k».proof.Proof.Conv.HyenaRef
public import Idealize.ShloMosaic.Lib.StableHlo.ReadAt
public import Idealize.ShloMosaic.Lib.Pipeline.Value
public import Idealize.ShloMosaic.Lib.Pipeline.ValueKit
public import Idealize.ShloMosaic.Lib.Pointwise

@[expose] public section

set_option maxRecDepth 16384

noncomputable section

namespace Cert.HyenaIdeal.Final

open Cert.HyenaIdeal Cert.HyenaIdeal.Gen Idealize.ShloMosaic Idealize.ShloMosaic.TcCoe Idealize.SL.Sem
open Idealize.ShloMosaic.Pipeline (Dat)
open Cert.Rows

/-! ## The stored values at an index -/

theorem halo_at (g : FVec Ideal S1x2048 .f32) (x : FVec Ideal S16x2048 .f32) (p : Fin 16) (d : Fin 2048) :
    k0_pay2 (F := Ideal) g x (ix2 p d) = normed (fun k => x (ix2 p k)) (fun k => g (ix2 (0 : Fin 1) k)) d := by
  unfold normed
  pointwise [k0_pay2, k0_pay1]

theorem tile_at (g : FVec Ideal S1x2048 .f32) (x : FVec Ideal S512x2048 .f32) (p : Fin 512) (d : Fin 2048) :
    k0_pay3 (F := Ideal) g x (ix2 p d) = normed (fun k => x (ix2 p k)) (fun k => g (ix2 (0 : Fin 1) k)) d := by
  unfold normed
  pointwise [k0_pay3, k0_pay1]

theorem halo'_at (g : FVec Ideal S1x2048 .f32) (x : FVec Ideal S16x2048 .f32) (p : Fin 16) (d : Fin 2048) :
    k0_pay5 (F := Ideal) (k0_pay1 (F := Ideal) g) (k0_pay4 (F := Ideal) x) (ix2 p d) = normed (fun k => x (ix2 p k)) (fun k => g (ix2 (0 : Fin 1) k)) d := by
  unfold normed
  pointwise [k0_pay5, k0_pay4, k0_pay1]

/-- A row of the kernel's scratch times a column of a weight block. -/
def dot (h : FVec Ideal S544x2048 .bf16) (w : FVec Ideal S1x2048x512 .bf16) (r : Fin 544) (q : Fin 512) : EReal :=
  ∑ k : Fin 2048, h (ix2 r k) * w (ix3 (0 : Fin 1) k q)

theorem first_dot (h : FVec Ideal S544x2048 .bf16) (w : FVec Ideal S1x2048x512 .bf16) (r : Fin 544) (q : Fin 512) :
    k0_pay6 (F := Ideal) h w (ix2 r q) = dot h w r q := by
  unfold dot
  pointwise [k0_pay6]

theorem second_dot (h : FVec Ideal S544x2048 .bf16) (w : FVec Ideal S1x2048x512 .bf16) (r : Fin 544) (q : Fin 512) :
    k0_pay7 (F := Ideal) h w (ix2 r q) = dot h w r q := by
  unfold dot
  pointwise [k0_pay7]

theorem third_dot (h : FVec Ideal S544x2048 .bf16) (w : FVec Ideal S1x2048x512 .bf16) (r : Fin 544) (q : Fin 512) :
    k0_pay8 (F := Ideal) h w (ix2 r q) = dot h w r q := by
  unfold dot
  pointwise [k0_pay8]

/-- The three taps of the rows `Z` at row `p` of tile `i`, and the bias. -/
def tapped (i : Fin 64) (Z : Fin 32768 → EReal) (cw : FVec Ideal S1x3x512 .f32) (cb : FVec Ideal S1x1x512 .f32) (p q : Fin 512) : EReal :=
  conv3 Z (cw (ix3 (0 : Fin 1) (0 : Fin 3) q)) (cw (ix3 (0 : Fin 1) (1 : Fin 3) q)) (cw (ix3 (0 : Fin 1) (2 : Fin 3) q)) (tileRow i p)
    + cb (ix3 (0 : Fin 1) (0 : Fin 1) q)

/-- The first stored block: the taps of the masked rows and the bias. -/
theorem first_block (i : Fin 64) (z : FVec Ideal S544x512 .f32) (cw : FVec Ideal S1x3x512 .f32) (cb : FVec Ideal S1x1x512 .f32) (p q : Fin 512)
    (Z : Fin 32768 → EReal) (hZ : ∀ r : Fin 544, z (ix2 r q) = Z (src i r)) :
    k0_pay14 (F := Ideal) (k0_pay9 (F := Ideal) (lo i) (hi i) z cw cb) (ix2 p q) = tapped i Z cw cb p q := by
  unfold tapped
  pointwise [k0_pay14, k0_pay9]
  simp only [hZ]
  refine congrArg (· + _) ?_
  exact tile_conv i p Z _ _ _ ⟨(16 + p.val + 544 - 1) % 544, by omega⟩ ⟨16 + p.val, by omega⟩ ⟨(16 + p.val + 544 - 543) % 544, by omega⟩
    (by show (16 + p.val + 544 - 1) % 544 = _; omega) rfl (by show (16 + p.val + 544 - 543) % 544 = _; omega)

/-- The second stored block: two such values multiplied. -/
theorem second_block (i : Fin 64) (z z' : FVec Ideal S544x512 .f32) (cw cw' : FVec Ideal S1x3x512 .f32) (cb cb' : FVec Ideal S1x1x512 .f32) (p q : Fin 512)
    (Z Z' : Fin 32768 → EReal) (hZ : ∀ r : Fin 544, z (ix2 r q) = Z (src i r)) (hZ' : ∀ r : Fin 544, z' (ix2 r q) = Z' (src i r)) :
    k0_pay15 (F := Ideal) (lo i) (hi i) z' (k0_pay10 (F := Ideal) cw) (k0_pay12 (F := Ideal) (lo i) (hi i) z) (k0_pay13 (F := Ideal) (lo i) (hi i) z cw) cb cw' cb' (ix2 p q)
      = tapped i Z' cw' cb' p q * tapped i Z cw cb p q := by
  unfold tapped
  pointwise [k0_pay15, k0_pay10, k0_pay12, k0_pay11, k0_pay13]
  simp only [hZ, hZ']
  refine Ideal.mul_congr (congrArg (· + _) ?_) (congrArg (· + _) ?_)
  all_goals
    exact tile_conv i p _ _ _ _ ⟨(16 + p.val + 544 - 1) % 544, by omega⟩ ⟨16 + p.val, by omega⟩ ⟨(16 + p.val + 544 - 543) % 544, by omega⟩
      (by show (16 + p.val + 544 - 1) % 544 = _; omega) rfl (by show (16 + p.val + 544 - 543) % 544 = _; omega)

/-! ## The operands -/

variable (m : (ℓ : Loc nD τ sig) → Buf (Elt Ideal) ℓ)

/-- The arguments at their shapes. -/
abbrev argX (c : Dev nD) : FVec Ideal S8x4096x2048 .f32 := m ((c : Thread nD τ).loc main_arg0)
abbrev argG (c : Dev nD) : FVec Ideal S2048 .f32 := m ((c : Thread nD τ).loc main_arg1)
abbrev argW (c : Dev nD) : FVec Ideal S2048x6144 .f32 := m ((c : Thread nD τ).loc main_arg2)
abbrev argC (c : Dev nD) : FVec Ideal S3x6144 .f32 := m ((c : Thread nD τ).loc main_arg3)
abbrev argB (c : Dev nD) : FVec Ideal S6144 .f32 := m ((c : Thread nD τ).loc main_arg4)

/-- Row `R` of the token-major arrays is position `R % 4096` of batch `R / 4096`. -/
abbrev tok (R : Fin 32768) (k : Fin 2048) : S8x4096x2048.Idx := ix3 (⟨R.val / 4096, by omega⟩ : Fin 8) (⟨R.val % 4096, by omega⟩ : Fin 4096) k

theorem x_at (c : Dev nD) (R : Fin 32768) (k : Fin 2048) : (show EReal from V m c main_v3 (ix2 R k)) = argX m c (tok R k) := by
  unfold V
  after_reads_at

/-- The blocks of every window at every grid point. -/
theorem idx : ∀ t : Fin cfg0.N,
    win0_0.index t = ![t.val / 4, 0] ∧ win0_1.index t = ![t.val / 4 * 32 - 1, 0] ∧ win0_2.index t = ![min ((t.val / 4 + 1) * 32) 2047, 0] ∧ win0_3.index t = ![0, 0]
      ∧ win0_4.index t = ![0, 0, t.val % 4] ∧ win0_5.index t = ![0, 0, 4 + t.val % 4] ∧ win0_6.index t = ![0, 0, 8 + t.val % 4] ∧ win0_7.index t = ![0, 0, t.val % 4]
      ∧ win0_8.index t = ![0, 0, t.val % 4] ∧ win0_9.index t = ![t.val / 4, t.val % 4] ∧ win0_10.index t = ![t.val / 4, t.val % 4] :=
  (by decide +kernel : ∀ t : Fin grid0.N, _)

theorem g_at (c : Dev nD) (k : Fin 2048) : (show EReal from V m c main_v4 (ix2 (0 : Fin 1) k)) = argG m c (ix1 k) := by
  unfold V
  after_reads_at

theorem w_at (c : Dev nD) (k : Fin 2048) (j : Fin 6144) : (show EReal from V m c main_v6 (ix3 (0 : Fin 1) k j)) = argW m c (ix2 k j) := by
  unfold V
  after_reads_at

theorem c_at (c : Dev nD) (e : Fin 3) (a : Fin 3) (j : Fin 2048) :
    (show EReal from V m c main_v1 (ix3 e a j)) = argC m c (ix2 a (⟨e.val * 2048 + j.val, by omega⟩ : Fin 6144)) := by
  unfold V
  after_reads_at

theorem b_at (c : Dev nD) (e : Fin 3) (j : Fin 2048) :
    (show EReal from V m c main_v2 (ix3 e (0 : Fin 1) j)) = argB m c (ix1 (⟨e.val * 2048 + j.val, by omega⟩ : Fin 6144)) := by
  unfold V
  after_reads_at

/-- The tile of rows and the column block of a grid point. -/
def til (t : Fin 256) : Fin 64 := ⟨t.val / 4, by omega⟩
def colOf (t : Fin 256) (q : Fin 512) : Fin 2048 := ⟨t.val % 4 * 512 + q.val, by omega⟩

theorem tile_blk (c : Dev nD) (t : Fin 256) (p : Fin 512) (d : Fin 2048) (r : Fin 544) (hr : r.val = 16 + p.val) :
    (show EReal from iblk m c 0 t (ix2 p d)) = argX m c (tok (src (til t) r) d) := by
  have e : src (til t) r = (⟨t.val / 4 * 512 + p.val, by omega⟩ : Fin 32768) := Fin.ext (by simp only [src, til]; split_ifs <;> omega)
  rw [e]
  refine Eq.trans ?_ (x_at m c _ d)
  blk_ext [iblk, idx t]

theorem before_blk (c : Dev nD) (t : Fin 256) (p : Fin 16) (d : Fin 2048) (r : Fin 544) (hr : r.val = p.val) :
    (show EReal from iblk m c 1 t (ix2 p d)) = argX m c (tok (src (til t) r) d) := by
  have e : src (til t) r = (⟨(t.val / 4 * 32 - 1) * 16 + p.val, by omega⟩ : Fin 32768) := Fin.ext (by simp only [src, til]; split_ifs <;> omega)
  rw [e]
  refine Eq.trans ?_ (x_at m c _ d)
  blk_ext [iblk, idx t]

theorem after_blk (c : Dev nD) (t : Fin 256) (p : Fin 16) (d : Fin 2048) (r : Fin 544) (hr : r.val = 528 + p.val) :
    (show EReal from iblk m c 2 t (ix2 p d)) = argX m c (tok (src (til t) r) d) := by
  have e : src (til t) r = (⟨min ((t.val / 4 + 1) * 32) 2047 * 16 + p.val, by omega⟩ : Fin 32768) := Fin.ext (by simp only [src, til]; split_ifs <;> omega)
  rw [e]
  refine Eq.trans ?_ (x_at m c _ d)
  blk_ext [iblk, idx t]

theorem g_blk (c : Dev nD) (t : Fin 256) (k : Fin 2048) : (show EReal from iblk m c 3 t (ix2 (0 : Fin 1) k)) = argG m c (ix1 k) := by
  refine Eq.trans ?_ (g_at m c k)
  blk_ext [iblk, idx t]

theorem wa_blk (c : Dev nD) (t : Fin 256) (k : Fin 2048) (q : Fin 512) :
    (show EReal from iblk m c 4 t (ix3 (0 : Fin 1) k q)) = argW m c (ix2 k (⟨(colOf t q).val, by omega⟩ : Fin 6144)) := by
  refine Eq.trans ?_ (w_at m c k _)
  blk_ext [iblk, idx t, colOf]

theorem wb_blk (c : Dev nD) (t : Fin 256) (k : Fin 2048) (q : Fin 512) :
    (show EReal from iblk m c 5 t (ix3 (0 : Fin 1) k q)) = argW m c (ix2 k (⟨2048 + (colOf t q).val, by omega⟩ : Fin 6144)) := by
  refine Eq.trans ?_ (w_at m c k _)
  blk_ext [iblk, idx t, colOf]

theorem wc_blk (c : Dev nD) (t : Fin 256) (k : Fin 2048) (q : Fin 512) :
    (show EReal from iblk m c 6 t (ix3 (0 : Fin 1) k q)) = argW m c (ix2 k (⟨4096 + (colOf t q).val, by omega⟩ : Fin 6144)) := by
  refine Eq.trans ?_ (w_at m c k _)
  blk_ext [iblk, idx t, colOf]

/-- The taps and the bias of a group of columns in a point's blocks. -/
theorem c_blk (c : Dev nD) (t : Fin 256) (e : Fin 3) (a : Fin 3) (q : Fin 512) :
    (show EReal from iblk m c 7 t (ix3 e a q)) = argC m c (ix2 a (⟨e.val * 2048 + (colOf t q).val, by omega⟩ : Fin 6144)) := by
  refine Eq.trans ?_ (c_at m c e a _)
  blk_ext [iblk, idx t, colOf]

theorem b_blk (c : Dev nD) (t : Fin 256) (e : Fin 3) (q : Fin 512) :
    (show EReal from iblk m c 8 t (ix3 e (0 : Fin 1) q)) = argB m c (ix1 (⟨e.val * 2048 + (colOf t q).val, by omega⟩ : Fin 6144)) := by
  refine Eq.trans ?_ (b_at m c e _)
  blk_ext [iblk, idx t, colOf]

theorem out_emb (t : Fin 256) (p q : Fin 512) :
    (((cfg0.win 9).blk t).view.emb (ix2 p q)) = ix2 (tileRow (til t) p) (colOf t q) := by
  blk_ext [idx t, til, tileRow, colOf]

theorem out_emb' (t : Fin 256) (p q : Fin 512) :
    (((cfg0.win 10).blk t).view.emb (ix2 p q)) = ix2 (tileRow (til t) p) (colOf t q) := by
  blk_ext [idx t, til, tileRow, colOf]

/-! ## The scratch -/

/-- The normalised row `R` of the input. -/
def nrm (c : Dev nD) (R : Fin 32768) (d : Fin 2048) : EReal := normed (fun k => argX m c (tok R k)) (fun k => argG m c (ix1 k)) d

/-- The scratch after a grid point. -/
def scr (c : Dev nD) (t : Fin 256) : FVec Ideal S544x2048 .bf16 := (outsAt0 m c t.val t.isLt).2.2

theorem halo_nrm (c : Dev nD) (t : Fin 256) (p : Fin 16) (d : Fin 2048) (r : Fin 544) (hr : r.val = p.val) :
    k0_pay2 (F := Ideal) (iblk m c 3 t) (iblk m c 1 t) (ix2 p d) = nrm m c (src (til t) r) d :=
  (halo_at _ _ p d).trans (congrArg₂ (fun a b => normed a b d) (funext fun k => before_blk m c t p k r hr) (funext fun k => g_blk m c t k))

theorem tile_nrm (c : Dev nD) (t : Fin 256) (p : Fin 512) (d : Fin 2048) (r : Fin 544) (hr : r.val = 16 + p.val) :
    k0_pay3 (F := Ideal) (iblk m c 3 t) (iblk m c 0 t) (ix2 p d) = nrm m c (src (til t) r) d :=
  (tile_at _ _ p d).trans (congrArg₂ (fun a b => normed a b d) (funext fun k => tile_blk m c t p k r hr) (funext fun k => g_blk m c t k))

theorem halo'_nrm (c : Dev nD) (t : Fin 256) (p : Fin 16) (d : Fin 2048) (r : Fin 544) (hr : r.val = 528 + p.val) :
    k0_pay5 (F := Ideal) (k0_pay1 (F := Ideal) (iblk m c 3 t)) (k0_pay4 (F := Ideal) (iblk m c 2 t)) (ix2 p d) = nrm m c (src (til t) r) d :=
  (halo'_at _ _ p d).trans (congrArg₂ (fun a b => normed a b d) (funext fun k => after_blk m c t p k r hr) (funext fun k => g_blk m c t k))

theorem scr_first (c : Dev nD) (t : Fin 256) (h : t.val % 4 = 0) (r : Fin 544) (d : Fin 2048) :
    scr m c t (ix2 r d) = nrm m c (src (til t) r) d := by
  unfold scr
  rw [outsAt0_A m c t h]
  dsimp only
  unfold sout0_A_0
  frame_out
  clear h
  canon_tiles x h using (by
    by_cases h1 : r.val < 16
    · refine ⟨_, List.mem_cons_of_mem _ (List.mem_cons_of_mem _ List.mem_cons_self), ?_⟩
      refine (Rect.mem_set_unit (inb := inb_S544x2048_S16x2048_0_0)).2 fun a => ?_
      match a with
      | ⟨0, _⟩ => exact ⟨Nat.zero_le _, by show r.val < 0 + 16; omega⟩
      | ⟨1, _⟩ => exact ⟨Nat.zero_le _, by show d.val < 0 + 2048; omega⟩
    · by_cases h2 : r.val < 528
      · refine ⟨_, List.mem_cons_of_mem _ List.mem_cons_self, ?_⟩
        refine (Rect.mem_set_unit (inb := inb_S544x2048_S512x2048_16_0)).2 fun a => ?_
        match a with
        | ⟨0, _⟩ => exact ⟨by show 16 ≤ r.val; omega, by show r.val < 16 + 512; omega⟩
        | ⟨1, _⟩ => exact ⟨Nat.zero_le _, by show d.val < 0 + 2048; omega⟩
      · refine ⟨_, List.mem_cons_self, ?_⟩
        refine (Rect.mem_set_unit (inb := inb_S544x2048_S16x2048_528_0)).2 fun a => ?_
        match a with
        | ⟨0, _⟩ => exact ⟨by show 528 ≤ r.val; omega, by show r.val < 528 + 16; omega⟩
        | ⟨1, _⟩ => exact ⟨Nat.zero_le _, by show d.val < 0 + 2048; omega⟩)
  case piece0 =>
    obtain ⟨p, e, rfl⟩ : ∃ (p : Fin 16) (e : Fin 2048), x = ix2 p e := ⟨x 0, x 1, eq_ix2 x⟩
    obtain rfl : d = e := Fin.ext h1
    exact halo'_nrm m c t p d r h0
  case piece1 =>
    obtain ⟨p, e, rfl⟩ : ∃ (p : Fin 512) (e : Fin 2048), x = ix2 p e := ⟨x 0, x 1, eq_ix2 x⟩
    obtain rfl : d = e := Fin.ext h1
    exact tile_nrm m c t p d r h0
  case piece2 =>
    obtain ⟨p, e, rfl⟩ : ∃ (p : Fin 16) (e : Fin 2048), x = ix2 p e := ⟨x 0, x 1, eq_ix2 x⟩
    obtain rfl : d = e := Fin.ext h1
    exact halo_nrm m c t p d r h0

theorem scr_next (c : Dev nD) (n : ℕ) (h : n + 1 < 256) (h4 : ¬(n + 1) % 4 = 0) : scr m c ⟨n + 1, h⟩ = scr m c ⟨n, by omega⟩ := by
  unfold scr
  rw [outsAt0_B m c ⟨n + 1, h⟩ h4]
  rfl

/-- The scratch holds the normalised rows of the point's tile. -/
theorem scr_at (c : Dev nD) (n : ℕ) (h : n < 256) (r : Fin 544) (d : Fin 2048) : scr m c ⟨n, h⟩ (ix2 r d) = nrm m c (src (til ⟨n, h⟩) r) d := by
  induction n with
  | zero => exact scr_first m c ⟨0, h⟩ rfl r d
  | succ n ih =>
    by_cases h4 : (n + 1) % 4 = 0
    · exact scr_first m c ⟨n + 1, h⟩ h4 r d
    · have e : til ⟨n + 1, h⟩ = til ⟨n, by omega⟩ := Fin.ext (by simp only [til]; omega)
      rw [scr_next m c n h h4, e]
      exact ih (by omega)

/-! ## The stored block -/

theorem lo_at : ∀ t : Fin cfg0.N,
      (Scalar.select
        (Scalar.cmpi CmpIPredicate.eq
          (Scalar.select
            (Scalar.andi
              (Scalar.xori
                (Scalar.cmpi CmpIPredicate.slt (Scalar.remsi (BitVec.ofNat 32 (grid0.coords t 0).val) 8#32) 0#32) 0#1)
              (Scalar.cmpi CmpIPredicate.ne (Scalar.remsi (BitVec.ofNat 32 (grid0.coords t 0).val) 8#32) 0#32))
            (Scalar.addi (Scalar.remsi (BitVec.ofNat 32 (grid0.coords t 0).val) 8#32) 8#32)
            (Scalar.remsi (BitVec.ofNat 32 (grid0.coords t 0).val) 8#32))
          0#32)
        16#32 0#32) = lo (t.val / 4) :=
  (by decide +kernel : ∀ t : Fin grid0.N, _)

theorem hi_at : ∀ t : Fin cfg0.N,
      (Scalar.select
        (Scalar.cmpi CmpIPredicate.eq
          (Scalar.select
            (Scalar.andi
              (Scalar.xori
                (Scalar.cmpi CmpIPredicate.slt (Scalar.remsi (BitVec.ofNat 32 (grid0.coords t 0).val) 8#32) 0#32) 0#1)
              (Scalar.cmpi CmpIPredicate.ne (Scalar.remsi (BitVec.ofNat 32 (grid0.coords t 0).val) 8#32) 0#32))
            (Scalar.addi (Scalar.remsi (BitVec.ofNat 32 (grid0.coords t 0).val) 8#32) 8#32)
            (Scalar.remsi (BitVec.ofNat 32 (grid0.coords t 0).val) 8#32))
          7#32)
        528#32 544#32) = hi (t.val / 4) :=
  (by decide +kernel : ∀ t : Fin grid0.N, _)

/-- A group of the taps and of the bias, as the kernel loads it. -/
theorem taps0 (c : Dev nD) (t : Fin 256) (a : Fin 3) (q : Fin 512) :
    (show EReal from (View.ld (iblk m c 7 t) (Rect.unit ![0, 0, 0] ![1, 3, 512] inb_S3x3x512_S1x3x512_0_0_0)) (ix3 (0 : Fin 1) a q)) = argC m c (ix2 a (⟨0 + (colOf t q).val, by omega⟩ : Fin 6144)) := by
  refine Eq.trans (congrArg (iblk m c 7 t) (funext fun i => Fin.ext ?_)) (c_blk m c t 0 a q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)
theorem bias0 (c : Dev nD) (t : Fin 256) (q : Fin 512) :
    (show EReal from (View.ld (iblk m c 8 t) (Rect.unit ![0, 0, 0] ![1, 1, 512] inb_S3x1x512_S1x1x512_0_0_0)) (ix3 (0 : Fin 1) (0 : Fin 1) q)) = argB m c (ix1 (⟨0 + (colOf t q).val, by omega⟩ : Fin 6144)) := by
  refine Eq.trans (congrArg (iblk m c 8 t) (funext fun i => Fin.ext ?_)) (b_blk m c t 0 q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)
theorem taps1 (c : Dev nD) (t : Fin 256) (a : Fin 3) (q : Fin 512) :
    (show EReal from (View.ld (iblk m c 7 t) (Rect.unit ![1, 0, 0] ![1, 3, 512] inb_S3x3x512_S1x3x512_1_0_0)) (ix3 (0 : Fin 1) a q)) = argC m c (ix2 a (⟨2048 + (colOf t q).val, by omega⟩ : Fin 6144)) := by
  refine Eq.trans (congrArg (iblk m c 7 t) (funext fun i => Fin.ext ?_)) (c_blk m c t 1 a q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)
theorem bias1 (c : Dev nD) (t : Fin 256) (q : Fin 512) :
    (show EReal from (View.ld (iblk m c 8 t) (Rect.unit ![1, 0, 0] ![1, 1, 512] inb_S3x1x512_S1x1x512_1_0_0)) (ix3 (0 : Fin 1) (0 : Fin 1) q)) = argB m c (ix1 (⟨2048 + (colOf t q).val, by omega⟩ : Fin 6144)) := by
  refine Eq.trans (congrArg (iblk m c 8 t) (funext fun i => Fin.ext ?_)) (b_blk m c t 1 q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)
theorem taps2 (c : Dev nD) (t : Fin 256) (a : Fin 3) (q : Fin 512) :
    (show EReal from (View.ld (iblk m c 7 t) (Rect.unit ![2, 0, 0] ![1, 3, 512] inb_S3x3x512_S1x3x512_2_0_0)) (ix3 (0 : Fin 1) a q)) = argC m c (ix2 a (⟨4096 + (colOf t q).val, by omega⟩ : Fin 6144)) := by
  refine Eq.trans (congrArg (iblk m c 7 t) (funext fun i => Fin.ext ?_)) (c_blk m c t 2 a q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)
theorem bias2 (c : Dev nD) (t : Fin 256) (q : Fin 512) :
    (show EReal from (View.ld (iblk m c 8 t) (Rect.unit ![2, 0, 0] ![1, 1, 512] inb_S3x1x512_S1x1x512_2_0_0)) (ix3 (0 : Fin 1) (0 : Fin 1) q)) = argB m c (ix1 (⟨4096 + (colOf t q).val, by omega⟩ : Fin 6144)) := by
  refine Eq.trans (congrArg (iblk m c 8 t) (funext fun i => Fin.ext ?_)) (b_blk m c t 2 q)
  match i with
  | ⟨0, _⟩ => exact Rect.idx_unit_val _ _ _ _ _
  | ⟨1, _⟩ => exact (Rect.idx_unit_val _ _ _ _ _).trans (Nat.zero_add _)
  | ⟨2, _⟩ => exact (Rect.idx_unit_val _ _ _ _ _).trans (Nat.zero_add _)

/-- What a grid point stores in either output, over the scratch it leaves. -/
def stored (c : Dev nD) (t : Fin 256) : FVec Ideal S512x512 .bf16 :=
  k0_pay14 (F := Ideal) (k0_pay9 (F := Ideal) (lo (til t)) (hi (til t)) (k0_pay6 (F := Ideal) (scr m c t) (iblk m c 4 t)) (View.ld (iblk m c 7 t) (Rect.unit ![0, 0, 0] ![1, 3, 512] inb_S3x3x512_S1x3x512_0_0_0)) (View.ld (iblk m c 8 t) (Rect.unit ![0, 0, 0] ![1, 1, 512] inb_S3x1x512_S1x1x512_0_0_0)))
def stored' (c : Dev nD) (t : Fin 256) : FVec Ideal S512x512 .bf16 :=
  k0_pay15 (F := Ideal) (lo (til t)) (hi (til t)) (k0_pay8 (F := Ideal) (scr m c t) (iblk m c 6 t)) (k0_pay10 (F := Ideal) (View.ld (iblk m c 7 t) (Rect.unit ![1, 0, 0] ![1, 3, 512] inb_S3x3x512_S1x3x512_1_0_0))) (k0_pay12 (F := Ideal) (lo (til t)) (hi (til t)) (k0_pay7 (F := Ideal) (scr m c t) (iblk m c 5 t)))
      (k0_pay13 (F := Ideal) (lo (til t)) (hi (til t)) (k0_pay7 (F := Ideal) (scr m c t) (iblk m c 5 t)) (View.ld (iblk m c 7 t) (Rect.unit ![1, 0, 0] ![1, 3, 512] inb_S3x3x512_S1x3x512_1_0_0)))
      (View.ld (iblk m c 8 t) (Rect.unit ![1, 0, 0] ![1, 1, 512] inb_S3x1x512_S1x1x512_1_0_0)) (View.ld (iblk m c 7 t) (Rect.unit ![2, 0, 0] ![1, 3, 512] inb_S3x3x512_S1x3x512_2_0_0)) (View.ld (iblk m c 8 t) (Rect.unit ![2, 0, 0] ![1, 1, 512] inb_S3x1x512_S1x1x512_2_0_0))

theorem stored_congr (c : Dev nD) (t : Fin 256) (l h : BitVec 32) (s : FVec Ideal S544x2048 .bf16)
    (el : l = lo (t.val / 4)) (eh : h = hi (t.val / 4)) (es : s = scr m c t) :
    k0_pay14 (F := Ideal) (k0_pay9 (F := Ideal) l h (k0_pay6 (F := Ideal) s (iblk m c 4 t)) (View.ld (iblk m c 7 t) (Rect.unit ![0, 0, 0] ![1, 3, 512] inb_S3x3x512_S1x3x512_0_0_0)) (View.ld (iblk m c 8 t) (Rect.unit ![0, 0, 0] ![1, 1, 512] inb_S3x1x512_S1x1x512_0_0_0))) = stored m c t := by
  subst el eh es
  rfl

theorem stored'_congr (c : Dev nD) (t : Fin 256) (l h : BitVec 32) (s s' : FVec Ideal S544x2048 .bf16)
    (el : l = lo (t.val / 4)) (eh : h = hi (t.val / 4)) (es : s = scr m c t) (es' : s' = scr m c t) :
    k0_pay15 (F := Ideal) l h (k0_pay8 (F := Ideal) s' (iblk m c 6 t)) (k0_pay10 (F := Ideal) (View.ld (iblk m c 7 t) (Rect.unit ![1, 0, 0] ![1, 3, 512] inb_S3x3x512_S1x3x512_1_0_0))) (k0_pay12 (F := Ideal) l h (k0_pay7 (F := Ideal) s (iblk m c 5 t)))
      (k0_pay13 (F := Ideal) l h (k0_pay7 (F := Ideal) s (iblk m c 5 t)) (View.ld (iblk m c 7 t) (Rect.unit ![1, 0, 0] ![1, 3, 512] inb_S3x3x512_S1x3x512_1_0_0)))
      (View.ld (iblk m c 8 t) (Rect.unit ![1, 0, 0] ![1, 1, 512] inb_S3x1x512_S1x1x512_1_0_0)) (View.ld (iblk m c 7 t) (Rect.unit ![2, 0, 0] ![1, 3, 512] inb_S3x3x512_S1x3x512_2_0_0)) (View.ld (iblk m c 8 t) (Rect.unit ![2, 0, 0] ![1, 1, 512] inb_S3x1x512_S1x1x512_2_0_0)) = stored' m c t := by
  subst el eh es es'
  rfl

theorem whole_idx (y : S544x2048.Idx) : (Rect.unit ![0, 0] ![544, 2048] inb_S544x2048_S544x2048_0_0 : Rect S544x2048).toLoadRect.idx y = y :=
  funext fun a => Fin.ext (by match a with | ⟨0, _⟩ => exact (Rect.idx_unit_val _ _ _ _ _).trans (Nat.zero_add _) | ⟨1, _⟩ => exact (Rect.idx_unit_val _ _ _ _ _).trans (Nat.zero_add _))

theorem out_first (c : Dev nD) (t : Fin 256) (h : t.val % 4 = 0) : (outsAt0 m c t.val t.isLt).1 = stored m c t := by
  rw [outsAt0_A m c t h]
  dsimp only
  unfold out0_A_9
  frame_out
  refine stored_congr m c t _ _ _ (lo_at t) (hi_at t) ?_
  all_goals
    refine (View.readCov_eq_canon' _ _ _).trans (funext fun y => ?_)
    unfold scr
    rw [outsAt0_A m c t h]
    dsimp only
    unfold sout0_A_0
    frame_out
    exact congrArg _ (whole_idx y)

theorem out_next (c : Dev nD) (t : Fin 256) (h : ¬t.val % 4 = 0) : (outsAt0 m c t.val t.isLt).1 = stored m c t := by
  rw [outsAt0_B m c t h]
  dsimp only
  unfold out0_B_9
  frame_out
  refine stored_congr m c t _ _ _ (lo_at t) (hi_at t) ?_
  all_goals
    unfold scr
    rw [outsAt0_B m c t h]
    exact Memref.IsWhole.read_unread _ _

theorem out_first' (c : Dev nD) (t : Fin 256) (h : t.val % 4 = 0) : (outsAt0 m c t.val t.isLt).2.1 = stored' m c t := by
  rw [outsAt0_A m c t h]
  dsimp only
  unfold out0_A_10
  frame_out
  refine stored'_congr m c t _ _ _ _ (lo_at t) (hi_at t) ?_ ?_
  all_goals
    refine (View.readCov_eq_canon' _ _ _).trans (funext fun y => ?_)
    unfold scr
    rw [outsAt0_A m c t h]
    dsimp only
    unfold sout0_A_0
    frame_out
    exact congrArg _ (whole_idx y)

theorem out_next' (c : Dev nD) (t : Fin 256) (h : ¬t.val % 4 = 0) : (outsAt0 m c t.val t.isLt).2.1 = stored' m c t := by
  rw [outsAt0_B m c t h]
  dsimp only
  unfold out0_B_10
  frame_out
  refine stored'_congr m c t _ _ _ _ (lo_at t) (hi_at t) ?_ ?_
  all_goals
    unfold scr
    rw [outsAt0_B m c t h]
    exact Memref.IsWhole.read_unread _ _

/-- The reference's results over the kernel's arguments. -/
abbrev REF (c : Dev nD) : FVec Ideal Cert.HyenaRefIdeal.S32768x2048 .bf16 :=
  Cert.HyenaRefIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev REF' (c : Dev nD) : FVec Ideal Cert.HyenaRefIdeal.S32768x2048 .bf16 :=
  Cert.HyenaRefIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A scratch row times a weight column is the reference's projection. -/
theorem dot_eq (c : Dev nD) (t : Fin 256) (w : FVec Ideal S1x2048x512 .bf16) (r : Fin 544) (q : Fin 512) (j : Fin 6144)
    (hw : ∀ k : Fin 2048, w (ix3 (0 : Fin 1) k q) = argW m c (ix2 k j)) :
    dot (scr m c t) w r q = Cert.HyenaRefIdeal.At.col (argX m c) (argG m c) (argW m c) j (src (til t) r) :=
  Finset.sum_congr rfl fun k _ => Ideal.mul_congr (scr_at m c t.val t.isLt r k) (hw k)

/-- The taps and the bias of a group are the reference's column. -/
theorem tapped_eq (c : Dev nD) (t : Fin 256) (p q : Fin 512) (j : Fin 6144) (cw : FVec Ideal S1x3x512 .f32) (cb : FVec Ideal S1x1x512 .f32)
    (hc : ∀ a : Fin 3, cw (ix3 (0 : Fin 1) a q) = argC m c (ix2 a j)) (hb : cb (ix3 (0 : Fin 1) (0 : Fin 1) q) = argB m c (ix1 j)) :
    tapped (til t) (Cert.HyenaRefIdeal.At.col (argX m c) (argG m c) (argW m c) j) cw cb p q
      = Cert.HyenaRefIdeal.At.cv (argX m c) (argG m c) (argW m c) (argC m c) (argB m c) j (tileRow (til t) p) := by
  unfold tapped Cert.HyenaRefIdeal.At.cv
  rw [hc 0, hc 1, hc 2, hb]

/-- An element of either stored block is the reference's. -/
theorem stored_at (c : Dev nD) (t : Fin 256) (p q : Fin 512) : stored m c t (ix2 p q) = REF m c (ix2 (tileRow (til t) p) (colOf t q)) := by
  refine Eq.trans ?_ (Cert.HyenaRefIdeal.At.first_at (argX m c) (argG m c) (argW m c) (argC m c) (argB m c) (tileRow (til t) p) (colOf t q)).symm
  refine (first_block (til t) _ _ _ p q (Cert.HyenaRefIdeal.At.col (argX m c) (argG m c) (argW m c) ⟨(colOf t q).val, by omega⟩) fun r => ?_).trans ?_
  · exact (first_dot _ _ r q).trans (dot_eq m c t _ r q _ fun k => wa_blk m c t k q)
  · refine tapped_eq m c t p q _ _ _ (fun a => (taps0 m c t a q).trans ?_) ((bias0 m c t q).trans ?_)
    · exact congrArg (fun j => argC m c (ix2 a j)) (Fin.ext (Nat.zero_add _))
    · exact congrArg (fun j => argB m c (ix1 j)) (Fin.ext (Nat.zero_add _))

theorem stored'_at (c : Dev nD) (t : Fin 256) (p q : Fin 512) : stored' m c t (ix2 p q) = REF' m c (ix2 (tileRow (til t) p) (colOf t q)) := by
  refine Eq.trans ?_ (Cert.HyenaRefIdeal.At.second_at (argX m c) (argG m c) (argW m c) (argC m c) (argB m c) (tileRow (til t) p) (colOf t q)).symm
  refine (second_block (til t) _ _ _ _ _ _ p q (Cert.HyenaRefIdeal.At.col (argX m c) (argG m c) (argW m c) ⟨2048 + (colOf t q).val, by omega⟩)
    (Cert.HyenaRefIdeal.At.col (argX m c) (argG m c) (argW m c) ⟨4096 + (colOf t q).val, by omega⟩) (fun r => ?_) (fun r => ?_)).trans ?_
  · exact (second_dot _ _ r q).trans (dot_eq m c t _ r q _ fun k => wb_blk m c t k q)
  · exact (third_dot _ _ r q).trans (dot_eq m c t _ r q _ fun k => wc_blk m c t k q)
  · exact Ideal.mul_congr (tapped_eq m c t p q _ _ _ (fun a => taps2 m c t a q) (bias2 m c t q)) (tapped_eq m c t p q _ _ _ (fun a => taps1 m c t a q) (bias1 m c t q))

/-- The kernel's first result array is the reference's. -/
theorem final (c : Dev nD) : (dats m 0 c).arrAt 9 (cfgs 0).N = REF m c := by
  refine (dats m 0 c).arrAt_eq_of_covers 9 _ (by decide +kernel) fun t _ y => ?_
  blk_simp
  rw [after0_9]
  obtain ⟨p, q, rfl⟩ : ∃ (p : Fin 512) (q : Fin 512), y = ix2 p q := ⟨y 0, y 1, eq_ix2 y⟩
  refine Eq.trans ?_ ((stored_at m c t p q).trans (congrArg (REF m c) (out_emb t p q)).symm)
  by_cases h : t.val % 4 = 0
  · exact congrFun (out_first m c t h) (ix2 p q)
  · exact congrFun (out_next m c t h) (ix2 p q)

/-- The kernel's second result array is the reference's. -/
theorem final' (c : Dev nD) : (dats m 0 c).arrAt 10 (cfgs 0).N = REF' m c := by
  refine (dats m 0 c).arrAt_eq_of_covers 10 _ (by decide +kernel) fun t _ y => ?_
  blk_simp
  rw [after0_10]
  obtain ⟨p, q, rfl⟩ : ∃ (p : Fin 512) (q : Fin 512), y = ix2 p q := ⟨y 0, y 1, eq_ix2 y⟩
  refine Eq.trans ?_ ((stored'_at m c t p q).trans (congrArg (REF' m c) (out_emb' t p q)).symm)
  by_cases h : t.val % 4 = 0
  · exact congrFun (out_first' m c t h) (ix2 p q)
  · exact congrFun (out_next' m c t h) (ix2 p q)

/-- A run of the kernel: the contents of both results, the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v7_0) = (dats m 0 c).arrAt 9 cfg0.N
      ∧ r.2.mem ((c : Thread nD τ).loc main_v7_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 9, (h c).1 10, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.HyenaIdeal.Final
end
-- ==== Proof.Mla.DownRef.lean ====
/- The reference of the low-rank projections `mla_down`, read at a row and a column. -/
module

public import proofs.«01_k».proof.Proof.Gen.DownRefIdeal.Read
public import proofs.«01_k».proof.Proof.Conv.Rows

@[expose] public section

set_option maxRecDepth 16384

noncomputable section

namespace Cert.DownRefIdeal.At

open Cert.DownRefIdeal Cert.DownRefIdeal.Gen Cert.DownRefIdeal.Read Idealize.ShloMosaic Idealize.ShloMosaic.TcCoe
open Cert.Rows

/-- Coordinate `d` of the row `x` of 512 numbers over the root of its mean square, times `g`. -/
def normed512 (x g : Fin 512 → EReal) (d : Fin 512) : EReal :=
  x d * Ideal.rsqrt (Ideal.div (∑ k, x k * x k) (Ideal.ofBits .f32 0x44000000#32) + Ideal.ofBits .f32 0x358637BD#32) * g d

variable (x : FVec Ideal S8x4096x2048 .f32) (g : FVec Ideal S2048 .f32) (w : FVec Ideal S2048x1088 .f32) (qn kn : FVec Ideal S512 .f32)

/-- A normalised row of the input. -/
theorem norm_at (b : Fin 8) (l : Fin 4096) (d : Fin 2048) :
    val_main_v12 (F := Ideal) x g (ix3 b l d) = normed (fun k => x (ix3 b l k)) (fun k => g (ix1 k)) d := by
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply,
    val_main_cst_apply]
  refine Ideal.mul_congr (Ideal.mul_congr rfl (congrArg Ideal.rsqrt (congrArg₂ (· + ·) (congrArg₂ Ideal.div ?_ rfl) rfl))) (congrArg g (eq_ix1 _))
  refine ((congrArg (· + _) ofBits_zero).trans (zero_add _)).trans (Finset.sum_congr rfl fun k _ => ?_)
  exact Ideal.mul_congr (congrArg x (eq_ix3 _)) (congrArg x (eq_ix3 _))

/-- A coordinate of the product with the projection's weights. -/
def proj (b : Fin 8) (l : Fin 4096) (j : Fin 1088) : EReal :=
  ∑ k : Fin 2048, normed (fun k => x (ix3 b l k)) (fun k => g (ix1 k)) k * w (ix2 k j)

theorem proj_at (b : Fin 8) (l : Fin 4096) (j : Fin 1088) : val_main_v13 (F := Ideal) x g w (ix3 b l j) = proj x g w b l j := by
  rw [val_main_v13_apply]
  refine Finset.sum_congr rfl fun k _ => Ideal.mul_congr ?_ (congrArg w (eq_ix2 _))
  exact (congrArg (val_main_v12 (F := Ideal) x g) (eq_ix3 _)).trans (norm_at x g b l k)

theorem first_slice (b : Fin 8) (l : Fin 4096) (j : Fin 512) : val_main_v14 (F := Ideal) x g w (ix3 b l j) = proj x g w b l ⟨j.val, by omega⟩ := by
  rw [val_main_v14_apply]
  exact (congrArg (val_main_v13 (F := Ideal) x g w) (eq_ix3 _)).trans (proj_at x g w b l _)

theorem second_slice (b : Fin 8) (l : Fin 4096) (j : Fin 512) : val_main_v28 (F := Ideal) x g w (ix3 b l j) = proj x g w b l ⟨512 + j.val, by omega⟩ := by
  rw [val_main_v28_apply]
  exact (congrArg (val_main_v13 (F := Ideal) x g w) (eq_ix3 _)).trans (proj_at x g w b l _)

/-- The queries' low-rank vector, normalised. -/
theorem query_at (b : Fin 8) (l : Fin 4096) (d : Fin 512) :
    val_main_v27 (F := Ideal) x g w qn (ix3 b l d) = normed512 (fun j => proj x g w b l ⟨j.val, by omega⟩) (fun k => qn (ix1 k)) d := by
  rw [val_main_v27_apply, val_main_v24_apply, val_main_v23_apply, val_main_v22_apply, val_main_v21_apply, val_main_v19_apply, val_main_v17_apply,
    val_main_v16_apply, val_main_v18_apply, val_main_cst_3_apply, val_main_v20_apply, val_main_cst_4_apply, val_main_v26_apply, val_main_v25_apply,
    val_main_cst_2_apply]
  simp only [val_main_v15_apply]
  have e := first_slice x g w b l
  revert e
  generalize val_main_v14 (F := Ideal) x g w = y
  intro e
  unfold normed512
  simp only [← e]
  refine Ideal.mul_congr (Ideal.mul_congr rfl (congrArg Ideal.rsqrt (congrArg₂ (· + ·) (congrArg₂ Ideal.div ?_ rfl) rfl))) (congrArg qn (eq_ix1 _))
  refine ((congrArg (· + _) ofBits_zero).trans (zero_add _)).trans (Finset.sum_congr rfl fun k _ => ?_)
  exact Ideal.mul_congr (congrArg y (eq_ix3 _)) (congrArg y (eq_ix3 _))

/-- The keys' and values' low-rank vector, normalised. -/
theorem keyval_at (b : Fin 8) (l : Fin 4096) (d : Fin 512) :
    val_main_v41 (F := Ideal) x g w kn (ix3 b l d) = normed512 (fun j => proj x g w b l ⟨512 + j.val, by omega⟩) (fun k => kn (ix1 k)) d := by
  rw [val_main_v41_apply, val_main_v38_apply, val_main_v37_apply, val_main_v36_apply, val_main_v35_apply, val_main_v33_apply, val_main_v31_apply,
    val_main_v30_apply, val_main_v32_apply, val_main_cst_6_apply, val_main_v34_apply, val_main_cst_7_apply, val_main_v40_apply, val_main_v39_apply,
    val_main_cst_5_apply]
  simp only [val_main_v29_apply]
  have e := second_slice x g w b l
  revert e
  generalize val_main_v28 (F := Ideal) x g w = y
  intro e
  unfold normed512
  simp only [← e]
  refine Ideal.mul_congr (Ideal.mul_congr rfl (congrArg Ideal.rsqrt (congrArg₂ (· + ·) (congrArg₂ Ideal.div ?_ rfl) rfl))) (congrArg kn (eq_ix1 _))
  refine ((congrArg (· + _) ofBits_zero).trans (zero_add _)).trans (Finset.sum_congr rfl fun k _ => ?_)
  exact Ideal.mul_congr (congrArg y (eq_ix3 _)) (congrArg y (eq_ix3 _))

/-- Lane `e` of the rotary key's layout over the projection's columns `z`: the key, zeros, the key with its halves exchanged, zeros. -/
def lanes (z : Fin 1088 → EReal) (e : Fin 256) : EReal :=
  if h : e.val < 64 then z ⟨1024 + e.val, by omega⟩
  else if e.val < 128 then 0
  else if h : e.val < 160 then z ⟨e.val + 928, by omega⟩
  else if h : e.val < 192 then z ⟨e.val + 864, by omega⟩ else 0

theorem half1 (b : Fin 8) (l : Fin 4096) (j : Fin 32) : val_main_v43 (F := Ideal) x g w (ix3 b l j) = proj x g w b l ⟨1024 + j.val, by omega⟩ := by
  rw [val_main_v43_apply, val_main_v42_apply]
  exact (congrArg (val_main_v13 (F := Ideal) x g w) (eq_ix3 _)).trans (proj_at x g w b l _)
theorem half2 (b : Fin 8) (l : Fin 4096) (j : Fin 32) : val_main_v44 (F := Ideal) x g w (ix3 b l j) = proj x g w b l ⟨1056 + j.val, by omega⟩ := by
  rw [val_main_v44_apply, val_main_v42_apply]
  refine (congrArg (val_main_v13 (F := Ideal) x g w) (eq_ix3 _)).trans ((proj_at x g w b l _).trans (congrArg (proj x g w b l) (Fin.ext ?_)))
  show 1024 + (32 + j.val) = 1056 + j.val
  omega

theorem zeros_at (y : S8x4096x64.Idx) : val_main_v45 (F := Ideal) y = (0 : EReal) := by
  rw [val_main_v45_apply, val_main_cst_8_apply]
  exact ofBits_zero

/-- The rotary key in its layout. -/
theorem rope_at (b : Fin 8) (l : Fin 4096) (e : Fin 256) :
    val_main_v46 (F := Ideal) x g w (ix3 b l e) = lanes (proj x g w b l) e := by
  unfold val_main_v46
  have h1 := half1 x g w b l
  have h2 := half2 x g w b l
  have h0 := zeros_at
  revert h1 h2 h0
  generalize val_main_v43 (F := Ideal) x g w = y1
  generalize val_main_v44 (F := Ideal) x g w = y2
  generalize val_main_v45 (F := Ideal) = y0
  intro h1 h2 h0
  pointwise
  unfold lanes
  simp only [h1, h2, h0]
  repeat' split
  all_goals first
    | rfl
    | (exfalso; omega)
    | exact congrArg (proj x g w b l) (Fin.ext (by dsimp only; omega))

/-- The projection's columns at a row of the token-major arrays. -/
def cols (R : Fin 32768) : Fin 1088 → EReal := proj x g w ⟨R.val / 4096, by omega⟩ ⟨R.val % 4096, by omega⟩

theorem row512 (R : Fin 32768) (d : Fin 512) : idx_main_v47 (ix2 R d) = ix3 (⟨R.val / 4096, by omega⟩ : Fin 8) (⟨R.val % 4096, by omega⟩ : Fin 4096) d := by
  funext a
  match a with
  | ⟨0, _⟩ => exact Fin.ext (show (R.val * 512 + d.val) / 2097152 = R.val / 4096 by omega)
  | ⟨1, _⟩ => exact Fin.ext (show (R.val * 512 + d.val) / 512 % 4096 = R.val % 4096 by omega)
  | ⟨2, _⟩ => exact Fin.ext (show (R.val * 512 + d.val) % 512 = d.val by omega)

theorem row256 (R : Fin 32768) (d : Fin 256) : idx_main_v51 (ix2 R d) = ix3 (⟨R.val / 4096, by omega⟩ : Fin 8) (⟨R.val % 4096, by omega⟩ : Fin 4096) d := by
  funext a
  match a with
  | ⟨0, _⟩ => exact Fin.ext (show (R.val * 256 + d.val) / 1048576 = R.val / 4096 by omega)
  | ⟨1, _⟩ => exact Fin.ext (show (R.val * 256 + d.val) / 256 % 4096 = R.val % 4096 by omega)
  | ⟨2, _⟩ => exact Fin.ext (show (R.val * 256 + d.val) % 256 = d.val by omega)

/-- The three results at a row and a column. -/
theorem first_at (R : Fin 32768) (d : Fin 512) :
    val_main_v48 (F := Ideal) x g w qn (ix2 R d) = normed512 (fun j => cols x g w R ⟨j.val, by omega⟩) (fun k => qn (ix1 k)) d := by
  rw [val_main_v48_apply, val_main_v47_apply, row512]
  exact query_at x g w qn _ _ d

theorem second_at (R : Fin 32768) (d : Fin 512) :
    val_main_v50 (F := Ideal) x g w kn (ix2 R d) = normed512 (fun j => cols x g w R ⟨512 + j.val, by omega⟩) (fun k => kn (ix1 k)) d := by
  rw [val_main_v50_apply, val_main_v49_apply, show idx_main_v49 (ix2 R d) = _ from row512 R d]
  exact keyval_at x g w kn _ _ d

theorem third_at (R : Fin 32768) (d : Fin 256) : val_main_v51 (F := Ideal) x g w (ix2 R d) = lanes (cols x g w R) d := by
  rw [val_main_v51_apply, row256]
  exact rope_at x g w _ _ d

end Cert.DownRefIdeal.At
end
-- ==== Proof.Mla.Down.lean ====
/- The low-rank projections of the MLA layer (`mla_down`): what the kernel writes is the reference's. -/
module

public import proofs.«01_k».proof.Proof.Gen.DownIdeal.Frame
public import proofs.«01_k».proof.Proof.Mla.DownRef
public import Idealize.ShloMosaic.Lib.StableHlo.ReadAt
public import Idealize.ShloMosaic.Lib.Pipeline.Value
public import Idealize.ShloMosaic.Lib.Pipeline.ValueKit
public import Idealize.ShloMosaic.Lib.Pointwise

@[expose] public section

set_option maxRecDepth 16384

noncomputable section

namespace Cert.DownIdeal.Final

open Cert.DownIdeal Cert.DownIdeal.Gen Idealize.ShloMosaic Idealize.ShloMosaic.TcCoe Idealize.SL.Sem
open Idealize.ShloMosaic.Pipeline (Dat)
open Cert.Rows Cert.DownRefIdeal.At

/-! ## The stored values at an index -/

/-- A normalised row times a column of the weights. -/
def dot (x : FVec Ideal S512x2048 .f32) (g : FVec Ideal S1x2048 .f32) (w : FVec Ideal S2048x1280 .bf16) (p : Fin 512) (j : Fin 1280) : EReal :=
  ∑ k : Fin 2048, normed (fun k => x (ix2 p k)) (fun k => g (ix2 (0 : Fin 1) k)) k * w (ix2 k j)

theorem dot_at (x : FVec Ideal S512x2048 .f32) (g : FVec Ideal S1x2048 .f32) (w : FVec Ideal S2048x1280 .bf16) (p : Fin 512) (j : Fin 1280) :
    k0_pay3 (F := Ideal) x g w (ix2 p j) = dot x g w p j := by
  unfold dot normed
  pointwise [k0_pay3]

theorem first_pay (x : FVec Ideal S512x2048 .f32) (g : FVec Ideal S1x2048 .f32) (w : FVec Ideal S2048x1280 .bf16) (qn : FVec Ideal S1x512 .f32) (p d : Fin 512) :
    k0_pay4 (F := Ideal) x g w qn (ix2 p d) = normed512 (fun j => dot x g w p ⟨j.val, by omega⟩) (fun k => qn (ix2 (0 : Fin 1) k)) d := by
  have e := dot_at x g w p
  unfold k0_pay4
  revert e
  generalize k0_pay3 (F := Ideal) x g w = z
  intro e
  unfold normed512
  simp only [← e]
  pointwise

theorem second_pay (x : FVec Ideal S512x2048 .f32) (g : FVec Ideal S1x2048 .f32) (w : FVec Ideal S2048x1280 .bf16) (kn : FVec Ideal S1x512 .f32) (p d : Fin 512) :
    k0_pay1 (F := Ideal) (k0_pay5 (F := Ideal) x g w) kn (ix2 p d) = normed512 (fun j => dot x g w p ⟨512 + j.val, by omega⟩) (fun k => kn (ix2 (0 : Fin 1) k)) d := by
  have e := dot_at x g w p
  unfold k0_pay5 k0_pay1
  revert e
  generalize k0_pay3 (F := Ideal) x g w = z
  intro e
  unfold normed512
  simp only [← e]
  pointwise

theorem third_pay (x : FVec Ideal S512x2048 .f32) (g : FVec Ideal S1x2048 .f32) (w : FVec Ideal S2048x1280 .bf16) (p : Fin 512) (d : Fin 256) :
    k0_pay2 (F := Ideal) (k0_pay3 (F := Ideal) x g w) (ix2 p d) = dot x g w p ⟨1024 + d.val, by omega⟩ := by
  rw [← dot_at]
  pointwise [k0_pay2]

/-! ## The operands -/

variable (m : (ℓ : Loc nD τ sig) → Buf (Elt Ideal) ℓ)

/-- The arguments at their shapes. -/
abbrev argX (c : Dev nD) : FVec Ideal S8x4096x2048 .f32 := m ((c : Thread nD τ).loc main_arg0)
abbrev argG (c : Dev nD) : FVec Ideal S2048 .f32 := m ((c : Thread nD τ).loc main_arg1)
abbrev argW (c : Dev nD) : FVec Ideal S2048x1088 .f32 := m ((c : Thread nD τ).loc main_arg2)
abbrev argQ (c : Dev nD) : FVec Ideal S512 .f32 := m ((c : Thread nD τ).loc main_arg3)
abbrev argK (c : Dev nD) : FVec Ideal S512 .f32 := m ((c : Thread nD τ).loc main_arg4)

/-- Row `R` of the token-major arrays is position `R % 4096` of batch `R / 4096`. -/
abbrev tok (R : Fin 32768) (k : Fin 2048) : S8x4096x2048.Idx := ix3 (⟨R.val / 4096, by omega⟩ : Fin 8) (⟨R.val % 4096, by omega⟩ : Fin 4096) k

theorem x_at (c : Dev nD) (R : Fin 32768) (k : Fin 2048) : (show EReal from V m c main_v9 (ix2 R k)) = argX m c (tok R k) := by
  unfold V
  after_reads_at

theorem g_at (c : Dev nD) (k : Fin 2048) : (show EReal from V m c main_v10 (ix2 (0 : Fin 1) k)) = argG m c (ix1 k) := by
  unfold V
  after_reads_at

theorem q_at (c : Dev nD) (k : Fin 512) : (show EReal from V m c main_v11 (ix2 (0 : Fin 1) k)) = argQ m c (ix1 k) := by
  unfold V
  after_reads_at

theorem k_at (c : Dev nD) (k : Fin 512) : (show EReal from V m c main_v12 (ix2 (0 : Fin 1) k)) = argK m c (ix1 k) := by
  unfold V
  after_reads_at

theorem zero_word : FloatOps.sitofp (F := Ideal) (w := 32) FTy.f32 0#32 = (0 : EReal) := by
  show (((0#32).toInt : ℝ) : EReal) = 0
  simp

set_option maxHeartbeats 1000000 in
/-- The weights' columns as the host lays them out: the low-rank columns, the rotary ones, zeros, the rotary ones with
    their halves exchanged, zeros. -/
theorem w_dite (c : Dev nD) (k : Fin 2048) (j : Fin 1280) :
    (show EReal from V m c main_v8 (ix2 k j))
      = if h : j.val < 1088 then argW m c (ix2 k (⟨j.val, by omega⟩ : Fin 1088)) else if j.val < 1152 then 0
        else if h : j.val < 1184 then argW m c (ix2 k (⟨j.val - 96, by omega⟩ : Fin 1088))
        else if h : j.val < 1216 then argW m c (ix2 k (⟨j.val - 160, by omega⟩ : Fin 1088)) else 0 := by
  unfold V
  after_reads_at
  repeat' split
  all_goals try (exfalso; omega)
  all_goals after_reads_at
  all_goals repeat' split
  all_goals try (exfalso; omega)
  all_goals try after_reads_at
  all_goals first
    | exact zero_word
    | exact congrArg (fun e => argW m c (ix2 k e)) (Fin.ext (by dsimp only; omega))
    | exact congrArg (fun e => argW m c (ix2 k e)) (Fin.ext (by dsimp only))

theorem w_at (c : Dev nD) (k : Fin 2048) (j : Fin 1280) :
    (show EReal from V m c main_v8 (ix2 k j))
      = if h : j.val < 1024 then argW m c (ix2 k (⟨j.val, by omega⟩ : Fin 1088))
        else lanes (fun e => argW m c (ix2 k e)) ⟨j.val - 1024, by omega⟩ := by
  rw [w_dite]
  unfold lanes
  dsimp only
  repeat' split
  all_goals try (exfalso; omega)
  all_goals first
    | rfl
    | exact congrArg (fun e => argW m c (ix2 k e)) (Fin.ext (by dsimp only; omega))

/-- The blocks of every window at every grid point. -/
theorem idx : ∀ t : Fin cfg0.N,
    win0_0.index t = ![t.val, 0] ∧ win0_1.index t = ![0, 0] ∧ win0_2.index t = ![0, 0] ∧ win0_3.index t = ![0, 0] ∧ win0_4.index t = ![0, 0]
      ∧ win0_5.index t = ![t.val, 0] ∧ win0_6.index t = ![t.val, 0] ∧ win0_7.index t = ![t.val, 0] :=
  (by decide +kernel : ∀ t : Fin grid0.N, _)

theorem x_blk (c : Dev nD) (t : Fin 64) (p : Fin 512) (k : Fin 2048) :
    (show EReal from iblk m c 0 t (ix2 p k)) = V m c main_v9 (ix2 (tileRow t p) k) := by
  blk_ext [iblk, idx t, tileRow]

theorem g_blk (c : Dev nD) (t : Fin 64) (k : Fin 2048) :
    (show EReal from iblk m c 1 t (ix2 (0 : Fin 1) k)) = V m c main_v10 (ix2 (0 : Fin 1) k) := by
  blk_ext [iblk, idx t]

theorem w_blk (c : Dev nD) (t : Fin 64) (k : Fin 2048) (j : Fin 1280) :
    (show EReal from iblk m c 2 t (ix2 k j)) = V m c main_v8 (ix2 k j) := by
  blk_ext [iblk, idx t]

theorem q_blk (c : Dev nD) (t : Fin 64) (k : Fin 512) :
    (show EReal from iblk m c 3 t (ix2 (0 : Fin 1) k)) = V m c main_v11 (ix2 (0 : Fin 1) k) := by
  blk_ext [iblk, idx t]

theorem k_blk (c : Dev nD) (t : Fin 64) (k : Fin 512) :
    (show EReal from iblk m c 4 t (ix2 (0 : Fin 1) k)) = V m c main_v12 (ix2 (0 : Fin 1) k) := by
  blk_ext [iblk, idx t]

theorem first_emb (t : Fin 64) (p d : Fin 512) : (((cfg0.win 5).blk t).view.emb (ix2 p d)) = ix2 (tileRow t p) d := by
  blk_ext [idx t, tileRow]

theorem second_emb (t : Fin 64) (p d : Fin 512) : (((cfg0.win 6).blk t).view.emb (ix2 p d)) = ix2 (tileRow t p) d := by
  blk_ext [idx t, tileRow]

theorem third_emb (t : Fin 64) (p : Fin 512) (d : Fin 256) : (((cfg0.win 7).blk t).view.emb (ix2 p d)) = ix2 (tileRow t p) d := by
  blk_ext [idx t, tileRow]

/-! ## The products -/

/-- A sum of products with zeros vanishes. -/
theorem sum_zero (h : Fin 2048 → EReal) : ∑ k : Fin 2048, h k * (0 : EReal) = 0 := by simp

/-- The product with the laid-out weights, over the reference's projection. -/
theorem dot_blk (c : Dev nD) (t : Fin 64) (p : Fin 512) (j : Fin 1280) :
    dot (iblk m c 0 t) (iblk m c 1 t) (iblk m c 2 t) p j
      = if h : j.val < 1024 then cols (argX m c) (argG m c) (argW m c) (tileRow t p) ⟨j.val, by omega⟩
        else lanes (cols (argX m c) (argG m c) (argW m c) (tileRow t p)) ⟨j.val - 1024, by omega⟩ := by
  have e : dot (iblk m c 0 t) (iblk m c 1 t) (iblk m c 2 t) p j
      = ∑ k : Fin 2048, normed (fun k => argX m c (tok (tileRow t p) k)) (fun k => argG m c (ix1 k)) k
          * (if h : j.val < 1024 then argW m c (ix2 k (⟨j.val, by omega⟩ : Fin 1088)) else lanes (fun e => argW m c (ix2 k e)) ⟨j.val - 1024, by omega⟩) := by
    unfold dot
    refine Finset.sum_congr rfl fun k _ => Ideal.mul_congr ?_ ((w_blk m c t k j).trans (w_at m c k j))
    have e0 : (fun k => (show EReal from iblk m c 0 t (ix2 p k))) = fun k => argX m c (tok (tileRow t p) k) := funext fun k => (x_blk m c t p k).trans (x_at m c _ k)
    have e1 : (fun k => (show EReal from iblk m c 1 t (ix2 (0 : Fin 1) k))) = fun k => argG m c (ix1 k) := funext fun k => (g_blk m c t k).trans (g_at m c k)
    exact (congrArg (fun f => normed f _ k) e0).trans (congrArg (fun f => normed _ f k) e1)
  rw [e]
  unfold lanes cols proj
  split_ifs
  all_goals first
    | rfl
    | exact sum_zero _

/-! ## The results -/

abbrev REF0 (c : Dev nD) : FVec Ideal Cert.DownRefIdeal.S32768x512 .bf16 :=
  Cert.DownRefIdeal.Read.val_main_v48 (F := Ideal) (argX m c) (argG m c) (argW m c) (argQ m c)
abbrev REF1 (c : Dev nD) : FVec Ideal Cert.DownRefIdeal.S32768x512 .bf16 :=
  Cert.DownRefIdeal.Read.val_main_v50 (F := Ideal) (argX m c) (argG m c) (argW m c) (argK m c)
abbrev REF2 (c : Dev nD) : FVec Ideal Cert.DownRefIdeal.S32768x256 .f32 :=
  Cert.DownRefIdeal.Read.val_main_v51 (F := Ideal) (argX m c) (argG m c) (argW m c)

theorem first_el (c : Dev nD) (t : Fin 64) (p d : Fin 512) :
    k0_pay4 (F := Ideal) (iblk m c 0 t) (iblk m c 1 t) (iblk m c 2 t) (iblk m c 3 t) (ix2 p d) = REF0 m c (ix2 (tileRow t p) d) := by
  refine (first_pay _ _ _ _ p d).trans (Eq.trans ?_ (first_at (argX m c) (argG m c) (argW m c) (argQ m c) (tileRow t p) d).symm)
  refine (congrArg (fun f => normed512 f _ d) (funext fun j => ?_)).trans (congrArg (fun f => normed512 _ f d) (funext fun k => (q_blk m c t k).trans (q_at m c k)))
  exact (dot_blk m c t p _).trans (dif_pos (show j.val < 1024 by omega))

theorem second_el (c : Dev nD) (t : Fin 64) (p d : Fin 512) :
    k0_pay1 (F := Ideal) (k0_pay5 (F := Ideal) (iblk m c 0 t) (iblk m c 1 t) (iblk m c 2 t)) (iblk m c 4 t) (ix2 p d) = REF1 m c (ix2 (tileRow t p) d) := by
  refine (second_pay _ _ _ _ p d).trans (Eq.trans ?_ (second_at (argX m c) (argG m c) (argW m c) (argK m c) (tileRow t p) d).symm)
  refine (congrArg (fun f => normed512 f _ d) (funext fun j => ?_)).trans (congrArg (fun f => normed512 _ f d) (funext fun k => (k_blk m c t k).trans (k_at m c k)))
  exact (dot_blk m c t p _).trans (dif_pos (show 512 + j.val < 1024 by omega))

theorem third_el (c : Dev nD) (t : Fin 64) (p : Fin 512) (d : Fin 256) :
    k0_pay2 (F := Ideal) (k0_pay3 (F := Ideal) (iblk m c 0 t) (iblk m c 1 t) (iblk m c 2 t)) (ix2 p d) = REF2 m c (ix2 (tileRow t p) d) := by
  refine (third_pay _ _ _ p d).trans (Eq.trans ?_ (third_at (argX m c) (argG m c) (argW m c) (tileRow t p) d).symm)
  refine (dot_blk m c t p _).trans ((dif_neg (show ¬ 1024 + d.val < 1024 by omega)).trans (congrArg (lanes _) (Fin.ext ?_)))
  show 1024 + d.val - 1024 = d.val
  omega

theorem final0 (c : Dev nD) : (dats m 0 c).arrAt 5 (cfgs 0).N = REF0 m c := by
  refine (dats m 0 c).arrAt_eq_of_covers 5 _ (by decide +kernel) fun t _ y => ?_
  blk_simp
  rw [after0_5]
  unfold out0_5
  frame_out
  obtain ⟨i, j, rfl⟩ : ∃ (i : Fin 512) (j : Fin 512), y = ix2 i j := ⟨y 0, y 1, eq_ix2 y⟩
  exact (first_el m c t i j).trans (congrArg (REF0 m c) (first_emb t i j)).symm

theorem final1 (c : Dev nD) : (dats m 0 c).arrAt 6 (cfgs 0).N = REF1 m c := by
  refine (dats m 0 c).arrAt_eq_of_covers 6 _ (by decide +kernel) fun t _ y => ?_
  blk_simp
  rw [after0_6]
  unfold out0_6
  frame_out
  obtain ⟨i, j, rfl⟩ : ∃ (i : Fin 512) (j : Fin 512), y = ix2 i j := ⟨y 0, y 1, eq_ix2 y⟩
  exact (second_el m c t i j).trans (congrArg (REF1 m c) (second_emb t i j)).symm

theorem final2 (c : Dev nD) : (dats m 0 c).arrAt 7 (cfgs 0).N = REF2 m c := by
  refine (dats m 0 c).arrAt_eq_of_covers 7 _ (by decide +kernel) fun t _ y => ?_
  blk_simp
  rw [after0_7]
  unfold out0_7
  frame_out
  obtain ⟨i, j, rfl⟩ : ∃ (i : Fin 512) (j : Fin 256), y = ix2 i j := ⟨y 0, y 1, eq_ix2 y⟩
  exact (third_el m c t i j).trans (congrArg (REF2 m c) (third_emb t i j)).symm

end Cert.DownIdeal.Final
end
-- ==== Proof.Mla.Rope.lean ====
/- A head's normalised vector with its rotary part, as the kernel computes it in padded lanes and as the reference does. -/
module

public import proofs.«01_k».proof.Proof.Conv.Rows
public import Idealize.ShloMosaic.Lib.IdealHost

@[expose] public section

set_option maxRecDepth 16384

noncomputable section

namespace Cert.Rope

open Idealize.ShloMosaic

/-- The reciprocal root of a mean over 192 numbers whose squares add up to `s`. -/
def root (s : EReal) : EReal := Ideal.rsqrt (Ideal.div s (Ideal.ofBits .f32 0x43400000#32) + Ideal.ofBits .f32 0x358637BD#32)

/-- The angle of position `l` at frequency `k`: `l` times `10000 ^ (- 2 k / 64)`. -/
def angle (l k : ℕ) : EReal :=
  FloatOps.sitofp (F := Ideal) .f32 (BitVec.ofNat 32 l)
    * Ideal.pow (Ideal.ofBits .f32 0x461C4000#32)
      (Ideal.div (-(Ideal.ofBits .f32 0x40000000#32 * FloatOps.sitofp (F := Ideal) .f32 (BitVec.ofNat 32 k))) (Ideal.ofBits .f32 0x42800000#32))

/-! ## The reference's form -/

/-- Coordinate `e` of the head's vector over its root mean square, times the gain. -/
def headN (z g : Fin 192 → EReal) (e : Fin 192) : EReal := z e * root (∑ k, z k * z k) * g e

/-- Coordinate `e` of the head after the rotation of its last 64 coordinates by the angles with cosines `cs` and sines `sn`. -/
def rotated (z g : Fin 192 → EReal) (cs sn : Fin 32 → EReal) (e : Fin 192) : EReal :=
  if e.val < 128 then headN z g e
  else if h : e.val < 160 then headN z g e * cs ⟨e.val - 128, by omega⟩ - headN z g ⟨e.val + 32, by omega⟩ * sn ⟨e.val - 128, by omega⟩
  else headN z g e * cs ⟨e.val - 160, by omega⟩ + headN z g ⟨e.val - 32, by omega⟩ * sn ⟨e.val - 160, by omega⟩

/-- The rotated head, scaled by `sc` and padded with zeros to 256 coordinates. -/
def headRef (sc : EReal) (z g : Fin 192 → EReal) (cs sn : Fin 32 → EReal) (e : Fin 256) : EReal :=
  if h : e.val < 192 then rotated z g cs sn ⟨e.val, h⟩ * sc else 0

/-! ## The kernel's form -/

/-- A head's 192 numbers in 384 lanes: the first 128, the last 64 padded with zeros, the last 64 with their halves
    exchanged, padded with zeros. -/
def lay (z : Fin 192 → EReal) (j : Fin 384) : EReal :=
  if h : j.val < 192 then z ⟨j.val, h⟩ else if j.val < 256 then 0
  else if h : j.val < 288 then z ⟨j.val - 96, by omega⟩ else if h : j.val < 320 then z ⟨j.val - 160, by omega⟩ else 0

/-- The cosines' and the signed sines' lanes. -/
def cosLanes (cs : Fin 32 → EReal) (k : Fin 128) : EReal :=
  if h : k.val < 32 then cs ⟨k.val, h⟩ else if h : k.val < 64 then cs ⟨k.val - 32, by omega⟩ else 0
def sinLanes (sn : Fin 32 → EReal) (k : Fin 128) : EReal :=
  if h : k.val < 32 then -(sn ⟨k.val, h⟩) else if h : k.val < 64 then sn ⟨k.val - 32, by omega⟩ else 0

/-- The kernel's reciprocal root, times its scale. -/
def kRoot (sc : EReal) (Z : Fin 384 → EReal) : EReal :=
  root ((∑ k : Fin 128, Z ⟨k.val, by omega⟩ * Z ⟨k.val, by omega⟩) + ∑ k : Fin 128, Z ⟨128 + k.val, by omega⟩ * Z ⟨128 + k.val, by omega⟩) * sc

/-- The two stored blocks of a head at a lane. -/
def kNope (sc : EReal) (Z G : Fin 384 → EReal) (d : Fin 128) : EReal := Z ⟨d.val, by omega⟩ * kRoot sc Z * G ⟨d.val, by omega⟩
def kRope (sc : EReal) (Z G : Fin 384 → EReal) (C S : Fin 128 → EReal) (d : Fin 128) : EReal :=
  kRoot sc Z * (Z ⟨128 + d.val, by omega⟩ * G ⟨128 + d.val, by omega⟩ * C d + Z ⟨256 + d.val, by omega⟩ * G ⟨256 + d.val, by omega⟩ * S d)

/-! ## They agree -/

/-- The squares of the padded lanes add up to the squares of the vector. -/
theorem sum_squares (z : Fin 192 → EReal) :
    (∑ k : Fin 128, lay z ⟨k.val, by omega⟩ * lay z ⟨k.val, by omega⟩) + ∑ k : Fin 128, lay z ⟨128 + k.val, by omega⟩ * lay z ⟨128 + k.val, by omega⟩
      = ∑ k, z k * z k := by
  refine Eq.symm ((Fin.sum_univ_add (a := 128) (b := 64) (fun k : Fin 192 => z k * z k)).trans (congrArg₂ (· + ·) ?_ ?_))
  · refine Finset.sum_congr rfl fun k _ => ?_
    have e : lay z ⟨k.val, by omega⟩ = z (Fin.castAdd 64 k) := dif_pos (show k.val < 192 by omega)
    rw [e]
  · refine Eq.symm ((Fin.sum_univ_add (a := 64) (b := 64) (fun k : Fin 128 => lay z ⟨128 + k.val, by omega⟩ * lay z ⟨128 + k.val, by omega⟩)).trans ?_)
    refine (congrArg₂ (· + ·) (Finset.sum_congr rfl fun k _ => ?_) (Finset.sum_eq_zero fun k _ => ?_)).trans (add_zero _)
    · have e : lay z ⟨128 + (Fin.castAdd 64 k).val, by omega⟩ = z (Fin.natAdd 128 k) := dif_pos (show 128 + k.val < 192 by omega)
      exact congrArg₂ (· * ·) e e
    · have e : lay z ⟨128 + (Fin.natAdd 64 k).val, by omega⟩ = 0 :=
        (dif_neg (show ¬ 128 + (64 + k.val) < 192 by omega)).trans (if_pos (show 128 + (64 + k.val) < 256 by omega))
      rw [e, zero_mul]

/-- A square is not negative. -/
theorem sq_nonneg (x : EReal) : 0 ≤ x * x := by
  rcases le_total 0 x with h | h
  · exact mul_nonneg h h
  · have h' : 0 ≤ -x := EReal.neg_nonneg.mpr h
    calc (0 : EReal) ≤ -x * -x := mul_nonneg h' h'
      _ = x * x := by rw [EReal.neg_mul, mul_comm, EReal.neg_mul, neg_neg]

/-- The reciprocal root of a mean of squares is a number that isn't negative. -/
theorem root_bounds (s : EReal) (hs : 0 ≤ s) : 0 ≤ root s ∧ root s ≠ ⊤ := by
  have h192 : Ideal.ofBits .f32 0x43400000#32 = ((192 : ℝ) : EReal) := by
    simp [Ideal.ofBits, Ideal.ieee, -EReal.coe_mul]
    norm_num
  have heps : ∃ e : ℝ, 0 < e ∧ Ideal.ofBits .f32 0x358637BD#32 = (e : EReal) := by
    refine ⟨8796093 / 8796093022208, by norm_num, ?_⟩
    simp [Ideal.ofBits, Ideal.ieee, -EReal.coe_mul]
    norm_num
  obtain ⟨e, he, heq⟩ := heps
  unfold root
  rw [h192, heq]
  have hd : Ideal.div s ((192 : ℝ) : EReal) = s * (((192 : ℝ) : EReal))⁻¹ := if_neg (by norm_num)
  rw [hd]
  induction s with
  | bot => exact absurd hs (by simp)
  | top =>
    have : (⊤ : EReal) * (((192 : ℝ) : EReal))⁻¹ + (e : EReal) = ⊤ := by
      rw [← EReal.coe_inv, EReal.top_mul_coe_of_pos (by norm_num)]
      rfl
    rw [this]
    exact ⟨le_refl _, by simp⟩
  | coe r =>
    have hr : 0 ≤ r := by exact_mod_cast hs
    have : (r : EReal) * (((192 : ℝ) : EReal))⁻¹ + (e : EReal) = ((r * 192⁻¹ + e : ℝ) : EReal) := by
      rw [← EReal.coe_inv, ← EReal.coe_mul, ← EReal.coe_add]
    rw [this, Ideal.rsqrt_coe, if_neg (by positivity |> not_lt.mpr ∘ le_of_lt), if_neg (by positivity)]
    exact ⟨by exact_mod_cast (by positivity), EReal.coe_ne_top _⟩

theorem root_sum (z : Fin 192 → EReal) : 0 ≤ root (∑ k, z k * z k) ∧ root (∑ k, z k * z k) ≠ ⊤ :=
  root_bounds _ (Finset.sum_nonneg fun k _ => sq_nonneg (z k))

/-- The first block of a head is the reference's first 128 coordinates. -/
theorem nope_eq (sc : EReal) (z g : Fin 192 → EReal) (cs sn : Fin 32 → EReal) (d : Fin 128) :
    kNope sc (lay z) (lay g) d = headRef sc z g cs sn ⟨d.val, by omega⟩ := by
  have e1 : lay z ⟨d.val, by omega⟩ = z ⟨d.val, by omega⟩ := dif_pos (show d.val < 192 by omega)
  have e2 : lay g ⟨d.val, by omega⟩ = g ⟨d.val, by omega⟩ := dif_pos (show d.val < 192 by omega)
  have e3 : headRef sc z g cs sn ⟨d.val, by omega⟩ = headN z g ⟨d.val, by omega⟩ * sc :=
    (dif_pos (show d.val < 192 by omega)).trans (congrArg (· * sc) (if_pos (show d.val < 128 from d.isLt)))
  rw [e3]
  unfold kNope kRoot headN
  rw [sum_squares, e1, e2]
  ac_rfl

/-- The second block is the reference's rotated coordinates and the zeros behind them. -/
theorem rope_eq (sc : EReal) (z g : Fin 192 → EReal) (cs sn : Fin 32 → EReal) (d : Fin 128) :
    kRope sc (lay z) (lay g) (cosLanes cs) (sinLanes sn) d = headRef sc z g cs sn ⟨128 + d.val, by omega⟩ := by
  unfold kRope kRoot
  rw [sum_squares]
  obtain ⟨h0, ht⟩ := root_sum z
  have key : ∀ a b c u v w : EReal, root (∑ k, z k * z k) * sc * (a * b * c + u * v * w)
      = (a * root (∑ k, z k * z k) * b * c + u * root (∑ k, z k * z k) * v * w) * sc := by
    intro a b c u v w
    have : a * root (∑ k, z k * z k) * b * c + u * root (∑ k, z k * z k) * v * w = root (∑ k, z k * z k) * (a * b * c + u * v * w) := by
      rw [EReal.left_distrib_of_nonneg_of_ne_top h0 ht]
      refine congrArg₂ (· + ·) ?_ ?_ <;> ac_rfl
    rw [this]
    ac_rfl
  rw [key]
  by_cases h1 : d.val < 32
  · have a1 : ∀ f : Fin 192 → EReal, lay f ⟨128 + d.val, by omega⟩ = f ⟨128 + d.val, by omega⟩ := fun f => dif_pos (show 128 + d.val < 192 by omega)
    have a2 : ∀ f : Fin 192 → EReal, lay f ⟨256 + d.val, by omega⟩ = f ⟨160 + d.val, by omega⟩ := by
      intro f
      refine (dif_neg (show ¬ 256 + d.val < 192 by omega)).trans ((if_neg (show ¬ 256 + d.val < 256 by omega)).trans
        ((dif_pos (show 256 + d.val < 288 by omega)).trans (congrArg f (Fin.ext ?_))))
      show 256 + d.val - 96 = 160 + d.val
      omega
    have a3 : cosLanes cs d = cs ⟨d.val, h1⟩ := dif_pos h1
    have a4 : sinLanes sn d = -(sn ⟨d.val, h1⟩) := dif_pos h1
    have a5 : headRef sc z g cs sn ⟨128 + d.val, by omega⟩
        = (headN z g ⟨128 + d.val, by omega⟩ * cs ⟨d.val, h1⟩ - headN z g ⟨160 + d.val, by omega⟩ * sn ⟨d.val, h1⟩) * sc := by
      refine (dif_pos (show 128 + d.val < 192 by omega)).trans (congrArg (· * sc) ?_)
      refine (if_neg (show ¬ 128 + d.val < 128 by omega)).trans ((dif_pos (show 128 + d.val < 160 by omega)).trans ?_)
      refine congrArg₂ (· - ·) (congrArg₂ (· * ·) rfl (congrArg cs (Fin.ext ?_))) (congrArg₂ (· * ·) (congrArg (headN z g) (Fin.ext ?_)) (congrArg sn (Fin.ext ?_)))
      · show 128 + d.val - 128 = d.val
        omega
      · show 128 + d.val + 32 = 160 + d.val
        omega
      · show 128 + d.val - 128 = d.val
        omega
    rw [a5, a1, a1, a2, a2, a3, a4]
    unfold headN
    rw [sub_eq_add_neg, mul_neg]
  · by_cases h2 : d.val < 64
    · have a1 : ∀ f : Fin 192 → EReal, lay f ⟨128 + d.val, by omega⟩ = f ⟨128 + d.val, by omega⟩ := fun f => dif_pos (show 128 + d.val < 192 by omega)
      have a2 : ∀ f : Fin 192 → EReal, lay f ⟨256 + d.val, by omega⟩ = f ⟨96 + d.val, by omega⟩ := by
        intro f
        refine (dif_neg (show ¬ 256 + d.val < 192 by omega)).trans ((if_neg (show ¬ 256 + d.val < 256 by omega)).trans
          ((dif_neg (show ¬ 256 + d.val < 288 by omega)).trans ((dif_pos (show 256 + d.val < 320 by omega)).trans (congrArg f (Fin.ext ?_)))))
        show 256 + d.val - 160 = 96 + d.val
        omega
      have a3 : cosLanes cs d = cs ⟨d.val - 32, by omega⟩ := (dif_neg h1).trans (dif_pos h2)
      have a4 : sinLanes sn d = sn ⟨d.val - 32, by omega⟩ := (dif_neg h1).trans (dif_pos h2)
      have a5 : headRef sc z g cs sn ⟨128 + d.val, by omega⟩
          = (headN z g ⟨128 + d.val, by omega⟩ * cs ⟨d.val - 32, by omega⟩ + headN z g ⟨96 + d.val, by omega⟩ * sn ⟨d.val - 32, by omega⟩) * sc := by
        refine (dif_pos (show 128 + d.val < 192 by omega)).trans (congrArg (· * sc) ?_)
        refine (if_neg (show ¬ 128 + d.val < 128 by omega)).trans ((dif_neg (show ¬ 128 + d.val < 160 by omega)).trans ?_)
        refine congrArg₂ (· + ·) (congrArg₂ (· * ·) rfl (congrArg cs (Fin.ext ?_))) (congrArg₂ (· * ·) (congrArg (headN z g) (Fin.ext ?_)) (congrArg sn (Fin.ext ?_)))
        · show 128 + d.val - 160 = d.val - 32
          omega
        · show 128 + d.val - 32 = 96 + d.val
          omega
        · show 128 + d.val - 160 = d.val - 32
          omega
      rw [a5, a1, a1, a2, a2, a3, a4]
      unfold headN
      rfl
    · have a3 : cosLanes cs d = 0 := (dif_neg h1).trans (dif_neg h2)
      have a4 : sinLanes sn d = 0 := (dif_neg h1).trans (dif_neg h2)
      have a5 : headRef sc z g cs sn ⟨128 + d.val, by omega⟩ = 0 := dif_neg (show ¬ 128 + d.val < 192 by omega)
      rw [a5, a3, a4, mul_zero, mul_zero, add_zero, zero_mul]

/-- A sum of products with laid-out columns is the layout of the sums. -/
theorem lay_sum (n : ℕ) (a : Fin n → EReal) (w : Fin n → Fin 192 → EReal) (j : Fin 384) :
    ∑ k, a k * lay (w k) j = lay (fun e => ∑ k, a k * w k e) j := by
  unfold lay
  repeat' split
  all_goals first
    | rfl
    | simp

end Cert.Rope
end
-- ==== Proof.Mla.QueryPay.lean ====
/- The queries' stored blocks (`mla_q`), read at a row and a lane: a head's normalised and rotated lanes. -/
module

public import proofs.«01_k».proof.Proof.Gen.QueryIdeal.Frame
public import proofs.«01_k».proof.Proof.Mla.Rope
public import Idealize.ShloMosaic.Lib.Pipeline.Value
public import Idealize.ShloMosaic.Lib.Pipeline.ValueKit
public import Idealize.ShloMosaic.Lib.Pointwise

@[expose] public section

set_option maxRecDepth 16384

noncomputable section

namespace Cert.QueryIdeal.Pay

open Cert.QueryIdeal Cert.QueryIdeal.Gen Idealize.ShloMosaic Idealize.ShloMosaic.TcCoe
open Cert.Rows Cert.Rope

/-- The kernel's scale. -/
abbrev SC : EReal := Ideal.ofBits .f32 0x3D93CD3A#32

/-- The 384 lanes of head `h` in row `p` of the product `z`. -/
def hd (z : FVec Ideal S512x1536 .f32) (p : Fin 512) (h : Fin 4) (k : Fin 384) : EReal := z (ix2 p ⟨h.val * 384 + k.val, by omega⟩)

variable (x0 : FVec Ideal S512x512 .bf16) (x1 : FVec Ideal S512x1536 .bf16) (z : FVec Ideal S512x1536 .f32) (g : FVec Ideal S1x384 .f32)
  (C S : FVec Ideal S512x128 .f32) (p : Fin 512) (d : Fin 128)

/-- The product of the block of low-rank vectors with the weights' block. -/
theorem dot_at (j : Fin 1536) : k0_pay4 (F := Ideal) x0 x1 (ix2 p j) = ∑ k : Fin 512, x0 (ix2 p k) * x1 (ix2 k j) := by
  pointwise [k0_pay4]

theorem nope0 : k0_pay15 (F := Ideal) (k0_pay12 (F := Ideal) x0 x1 g) (ix2 p d) = kNope SC (hd (k0_pay4 (F := Ideal) x0 x1) p 0) (fun k => g (ix2 (0 : Fin 1) k)) d := by
  unfold k0_pay15 k0_pay12 k0_pay11 k0_pay9 k0_pay10 k0_pay8 k0_pay7
  generalize k0_pay4 (F := Ideal) x0 x1 = z
  unfold kNope kRoot root hd
  pointwise

theorem rope0 : k0_pay16 (F := Ideal) (k0_pay11 (F := Ideal) x0 x1) (k0_pay13 (F := Ideal) x0 x1 C g) (k0_pay14 (F := Ideal) x0 x1 S g) (ix2 p d)
    = kRope SC (hd (k0_pay4 (F := Ideal) x0 x1) p 0) (fun k => g (ix2 (0 : Fin 1) k)) (fun k => C (ix2 p k)) (fun k => S (ix2 p k)) d := by
  unfold k0_pay16 k0_pay13 k0_pay14 k0_pay11 k0_pay9 k0_pay10 k0_pay8 k0_pay7 k0_pay6 k0_pay5
  generalize k0_pay4 (F := Ideal) x0 x1 = z
  unfold kRope kRoot root hd
  pointwise

theorem nope1 : k0_pay21 (F := Ideal) z (k0_pay7 (F := Ideal) g) (ix2 p d) = kNope SC (hd z p 1) (fun k => g (ix2 (0 : Fin 1) k)) d := by
  unfold kNope kRoot root hd
  pointwise [k0_pay21, k0_pay20, k0_pay19, k0_pay18, k0_pay17, k0_pay7, k0_pay6, k0_pay5]

theorem rope1 : k0_pay22 (F := Ideal) z (k0_pay5 (F := Ideal) C) (k0_pay6 (F := Ideal) S) (k0_pay7 (F := Ideal) g) (ix2 p d)
    = kRope SC (hd z p 1) (fun k => g (ix2 (0 : Fin 1) k)) (fun k => C (ix2 p k)) (fun k => S (ix2 p k)) d := by
  unfold kRope kRoot root hd
  pointwise [k0_pay22, k0_pay20, k0_pay19, k0_pay18, k0_pay17, k0_pay7, k0_pay6, k0_pay5]

theorem nope2 : k0_pay27 (F := Ideal) z (k0_pay7 (F := Ideal) g) (ix2 p d) = kNope SC (hd z p 2) (fun k => g (ix2 (0 : Fin 1) k)) d := by
  unfold kNope kRoot root hd
  pointwise [k0_pay27, k0_pay26, k0_pay25, k0_pay24, k0_pay23, k0_pay7, k0_pay6, k0_pay5]

theorem rope2 : k0_pay28 (F := Ideal) z (k0_pay5 (F := Ideal) C) (k0_pay6 (F := Ideal) S) (k0_pay7 (F := Ideal) g) (ix2 p d)
    = kRope SC (hd z p 2) (fun k => g (ix2 (0 : Fin 1) k)) (fun k => C (ix2 p k)) (fun k => S (ix2 p k)) d := by
  unfold kRope kRoot root hd
  pointwise [k0_pay28, k0_pay26, k0_pay25, k0_pay24, k0_pay23, k0_pay7, k0_pay6, k0_pay5]

theorem nope3 : k0_pay2 (F := Ideal) (k0_pay7 (F := Ideal) g) (k0_pay30 (F := Ideal) z) (k0_pay33 (F := Ideal) z) (k0_pay34 (F := Ideal) z) (ix2 p d)
    = kNope SC (hd z p 3) (fun k => g (ix2 (0 : Fin 1) k)) d := by
  unfold kNope kRoot root hd
  pointwise [k0_pay2, k0_pay1, k0_pay34, k0_pay33, k0_pay31, k0_pay30, k0_pay29, k0_pay7, k0_pay6, k0_pay5]

theorem rope3 : k0_pay3 (F := Ideal) (k0_pay5 (F := Ideal) C) (k0_pay6 (F := Ideal) S) (k0_pay7 (F := Ideal) g) (k0_pay31 (F := Ideal) z) (k0_pay32 (F := Ideal) z) (k0_pay33 (F := Ideal) z) (k0_pay34 (F := Ideal) z) (ix2 p d)
    = kRope SC (hd z p 3) (fun k => g (ix2 (0 : Fin 1) k)) (fun k => C (ix2 p k)) (fun k => S (ix2 p k)) d := by
  unfold kRope kRoot root hd
  pointwise [k0_pay3, k0_pay1, k0_pay34, k0_pay33, k0_pay32, k0_pay31, k0_pay30, k0_pay29, k0_pay7, k0_pay6, k0_pay5]

end Cert.QueryIdeal.Pay
end
-- ==== Proof.Mla.QueryRef.lean ====
/- The reference of the MLA layer's queries, read at a row, a head and a coordinate. -/
module

public import proofs.«01_k».proof.Proof.Gen.QueryRefIdeal.Read
public import proofs.«01_k».proof.Proof.Mla.Rope
public import Idealize.ShloMosaic.Lib.Pointwise

@[expose] public section

set_option maxRecDepth 16384

noncomputable section

namespace Cert.QueryRefIdeal.At

open Cert.QueryRefIdeal Cert.QueryRefIdeal.Gen Cert.QueryRefIdeal.Read Idealize.ShloMosaic Idealize.ShloMosaic.TcCoe
open Cert.Rows Cert.Rope

variable (x : FVec Ideal S8x4096x512 .f32) (w : FVec Ideal S512x3072 .f32) (g : FVec Ideal S192 .f32)

/-- Coordinate `e` of head `h` of the query at position `l` of batch `b`, before it is normalised. -/
def head (b : Fin 8) (l : Fin 4096) (h : Fin 16) (e : Fin 192) : EReal := ∑ k : Fin 512, x (ix3 b l k) * w (ix2 k ⟨h.val * 192 + e.val, by omega⟩)

/-- The cosines and sines of position `l`. -/
def cosAt (l : Fin 4096) (k : Fin 32) : EReal := val_main_v31 (F := Ideal) (ix2 l k)
def sinAt (l : Fin 4096) (k : Fin 32) : EReal := val_main_v32 (F := Ideal) (ix2 l k)

theorem angle_at (l : Fin 4096) (k : Fin 32) : val_main_v30 (F := Ideal) (ix2 l k) = angle l.val k.val := by
  unfold angle
  pointwise [val_main_v30, val_main_v29, val_main_v28, val_main_v27, val_main_v26, val_main_v25, val_main_v24, val_main_v23, val_main_cst_5,
    val_main_v22, val_main_v21, val_main_cst_4, val_main_v20, val_main_v19, val_main_v18, val_main_cst_3, val_main_v17, val_main_v16, val_main_cst_2,
    val_main_v15]

theorem cosAt_eq (l : Fin 4096) (k : Fin 32) : cosAt l k = Ideal.cos (angle l.val k.val) :=
  (val_main_v31_apply (F := Ideal) (ix2 l k)).trans (congrArg Ideal.cos (angle_at l k))
theorem sinAt_eq (l : Fin 4096) (k : Fin 32) : sinAt l k = Ideal.sin (angle l.val k.val) :=
  (val_main_v32_apply (F := Ideal) (ix2 l k)).trans (congrArg Ideal.sin (angle_at l k))

theorem idx_v1 (b : Fin 8) (l : Fin 4096) (h : Fin 16) (e : Fin 192) : idx_main_v1 (ix4 b l h e) = ix3 b l ⟨h.val * 192 + e.val, by omega⟩ := by
  funext a
  match a with
  | ⟨0, _⟩ => exact Fin.ext (show (((b.val * 4096 + l.val) * 16 + h.val) * 192 + e.val) / 12582912 = b.val by omega)
  | ⟨1, _⟩ => exact Fin.ext (show (((b.val * 4096 + l.val) * 16 + h.val) * 192 + e.val) / 3072 % 4096 = l.val by omega)
  | ⟨2, _⟩ => exact Fin.ext (show (((b.val * 4096 + l.val) * 16 + h.val) * 192 + e.val) % 3072 = h.val * 192 + e.val by omega)

theorem head_at (b : Fin 8) (l : Fin 4096) (h : Fin 16) (e : Fin 192) : val_main_v1 (F := Ideal) x w (ix4 b l h e) = head x w b l h e := by
  rw [val_main_v1_apply, idx_v1, val_main_v0_apply]
  exact Finset.sum_congr rfl fun k _ => Ideal.mul_congr (congrArg x (eq_ix3 _)) (congrArg w (eq_ix2 _))

/-- The head normalised. -/
theorem norm_at (b : Fin 8) (l : Fin 4096) (h : Fin 16) (e : Fin 192) :
    val_main_v14 (F := Ideal) x w g (ix4 b l h e) = headN (head x w b l h) (fun k => g (ix1 k)) e := by
  rw [val_main_v14_apply, val_main_v11_apply, val_main_v10_apply, val_main_v9_apply, val_main_v8_apply, val_main_v6_apply, val_main_v4_apply,
    val_main_v3_apply, val_main_v5_apply, val_main_cst_0_apply, val_main_v7_apply, val_main_cst_1_apply, val_main_v13_apply, val_main_v12_apply,
    val_main_cst_apply]
  simp only [val_main_v2_apply]
  have e := head_at x w b l h
  revert e
  generalize val_main_v1 (F := Ideal) x w = y
  intro e
  unfold headN root
  simp only [← e]
  refine Ideal.mul_congr (Ideal.mul_congr rfl (congrArg Ideal.rsqrt (congrArg₂ (· + ·) (congrArg₂ Ideal.div ?_ rfl) rfl))) (congrArg g (eq_ix1 _))
  refine ((congrArg (· + _) ofBits_zero).trans (zero_add _)).trans (Finset.sum_congr rfl fun k _ => ?_)
  exact Ideal.mul_congr (congrArg y (eq_ix4 _)) (congrArg y (eq_ix4 _))

/-- The two halves of the head's rotary coordinates. -/
theorem low_at (b : Fin 8) (l : Fin 4096) (h : Fin 16) (k : Fin 32) :
    val_main_v35 (F := Ideal) x w g (ix4 b l h k) = headN (head x w b l h) (fun k => g (ix1 k)) ⟨128 + k.val, by omega⟩ := by
  rw [val_main_v35_apply, val_main_v34_apply]
  exact (congrArg (val_main_v14 (F := Ideal) x w g) (eq_ix4 _)).trans (norm_at x w g b l h _)

theorem high_at (b : Fin 8) (l : Fin 4096) (h : Fin 16) (k : Fin 32) :
    val_main_v36 (F := Ideal) x w g (ix4 b l h k) = headN (head x w b l h) (fun k => g (ix1 k)) ⟨160 + k.val, by omega⟩ := by
  rw [val_main_v36_apply, val_main_v34_apply]
  refine (congrArg (val_main_v14 (F := Ideal) x w g) (eq_ix4 _)).trans ((norm_at x w g b l h _).trans (congrArg (headN _ _) (Fin.ext ?_)))
  show 128 + (32 + k.val) = 160 + k.val
  omega

theorem nope_at (b : Fin 8) (l : Fin 4096) (h : Fin 16) (k : Fin 128) :
    val_main_v33 (F := Ideal) x w g (ix4 b l h k) = headN (head x w b l h) (fun k => g (ix1 k)) ⟨k.val, by omega⟩ := by
  rw [val_main_v33_apply]
  exact (congrArg (val_main_v14 (F := Ideal) x w g) (eq_ix4 _)).trans (norm_at x w g b l h _)

/-- The rotated halves. -/
theorem rot_low (b : Fin 8) (l : Fin 4096) (h : Fin 16) (k : Fin 32) :
    val_main_v43 (F := Ideal) x w g (ix4 b l h k)
      = headN (head x w b l h) (fun k => g (ix1 k)) ⟨128 + k.val, by omega⟩ * cosAt l k
        - headN (head x w b l h) (fun k => g (ix1 k)) ⟨160 + k.val, by omega⟩ * sinAt l k := by
  rw [val_main_v43_apply, val_main_v40_apply, val_main_v42_apply, low_at, high_at, val_main_v39_apply, val_main_v41_apply, val_main_v37_apply,
    val_main_v38_apply]
  exact congrArg₂ (· - ·) (Ideal.mul_congr rfl (congrArg (val_main_v31 (F := Ideal)) (eq_ix2 _)))
    (Ideal.mul_congr rfl (congrArg (val_main_v32 (F := Ideal)) (eq_ix2 _)))

theorem rot_high (b : Fin 8) (l : Fin 4096) (h : Fin 16) (k : Fin 32) :
    val_main_v48 (F := Ideal) x w g (ix4 b l h k)
      = headN (head x w b l h) (fun k => g (ix1 k)) ⟨160 + k.val, by omega⟩ * cosAt l k
        + headN (head x w b l h) (fun k => g (ix1 k)) ⟨128 + k.val, by omega⟩ * sinAt l k := by
  rw [val_main_v48_apply, val_main_v45_apply, val_main_v47_apply, low_at, high_at, val_main_v44_apply, val_main_v46_apply, val_main_v37_apply,
    val_main_v38_apply]
  exact congrArg₂ (· + ·) (Ideal.mul_congr rfl (congrArg (val_main_v31 (F := Ideal)) (eq_ix2 _)))
    (Ideal.mul_congr rfl (congrArg (val_main_v32 (F := Ideal)) (eq_ix2 _)))

/-- The head rotated. -/
theorem rotated_at (b : Fin 8) (l : Fin 4096) (h : Fin 16) (e : Fin 192) :
    val_main_v50 (F := Ideal) x w g (ix4 b l h e) = rotated (head x w b l h) (fun k => g (ix1 k)) (cosAt l) (sinAt l) e := by
  unfold val_main_v50 val_main_v49
  have h0 := nope_at x w g b l h
  have h1 := rot_low x w g b l h
  have h2 := rot_high x w g b l h
  revert h0 h1 h2
  generalize val_main_v33 (F := Ideal) x w g = y0
  generalize val_main_v43 (F := Ideal) x w g = y1
  generalize val_main_v48 (F := Ideal) x w g = y2
  intro h0 h1 h2
  pointwise
  unfold rotated
  simp only [h0, h1, h2]
  repeat' split
  all_goals try (exfalso; omega)
  · rfl
  · refine congrArg₂ (· - ·) (congrArg₂ (· * ·) (congrArg (headN _ _) (Fin.ext ?_)) rfl) (congrArg₂ (· * ·) (congrArg (headN _ _) (Fin.ext ?_)) rfl)
    all_goals dsimp only
    all_goals omega
  · refine congrArg₂ (· + ·) (congrArg₂ (· * ·) (congrArg (headN _ _) (Fin.ext ?_)) (congrArg (cosAt l) (Fin.ext ?_)))
      (congrArg₂ (· * ·) (congrArg (headN _ _) (Fin.ext ?_)) (congrArg (sinAt l) (Fin.ext ?_)))
    all_goals dsimp only
    all_goals omega

theorem zero_word : FloatOps.sitofp (F := Ideal) (w := 32) FTy.f32 0#32 = (0 : EReal) := by
  show (((0#32).toInt : ℝ) : EReal) = 0
  simp

/-- The head scaled and padded. -/
theorem padded_at (b : Fin 8) (l : Fin 4096) (h : Fin 16) (e : Fin 256) :
    val_main_v53 (F := Ideal) x w g (ix4 b l h e)
      = headRef (Ideal.ofBits .f32 0x3D93CD3A#32) (head x w b l h) (fun k => g (ix1 k)) (cosAt l) (sinAt l) e := by
  unfold val_main_v53
  have h0 : ∀ e : Fin 192, val_main_v52 (F := Ideal) x w g (ix4 b l h e)
      = rotated (head x w b l h) (fun k => g (ix1 k)) (cosAt l) (sinAt l) e * Ideal.ofBits .f32 0x3D93CD3A#32 := by
    intro e
    rw [val_main_v52_apply, rotated_at, val_main_v51_apply, val_main_cst_6_apply]
    rfl
  have h1 : ∀ y, val_main_call0_v0 (F := Ideal) y = (0 : EReal) := by
    intro y
    rw [val_main_call0_v0_apply, val_main_c_apply]
    exact zero_word
  revert h0 h1
  generalize val_main_v52 (F := Ideal) x w g = y0
  generalize val_main_call0_v0 (F := Ideal) = y1
  intro h0 h1
  pointwise
  unfold headRef
  simp only [h0, h1]
  repeat' split
  all_goals first
    | rfl
    | (exfalso; omega)

theorem idx_v54 (R : Fin 32768) (h : Fin 16) (e : Fin 256) : idx_main_v54 (ix2 R (⟨h.val * 256 + e.val, by omega⟩ : Fin 4096))
    = ix4 (⟨R.val / 4096, by omega⟩ : Fin 8) (⟨R.val % 4096, by omega⟩ : Fin 4096) h e := by
  funext a
  match a with
  | ⟨0, _⟩ => exact Fin.ext (show (R.val * 4096 + (h.val * 256 + e.val)) / 16777216 = R.val / 4096 by omega)
  | ⟨1, _⟩ => exact Fin.ext (show (R.val * 4096 + (h.val * 256 + e.val)) / 4096 % 4096 = R.val % 4096 by omega)
  | ⟨2, _⟩ => exact Fin.ext (show (R.val * 4096 + (h.val * 256 + e.val)) / 256 % 16 = h.val by omega)
  | ⟨3, _⟩ => exact Fin.ext (show (R.val * 4096 + (h.val * 256 + e.val)) % 256 = e.val by omega)

/-- The result at row `R`, coordinate `e` of head `h`. -/
theorem result_at (R : Fin 32768) (h : Fin 16) (e : Fin 256) :
    val_main_v55 (F := Ideal) x w g (ix2 R (⟨h.val * 256 + e.val, by omega⟩ : Fin 4096))
      = headRef (Ideal.ofBits .f32 0x3D93CD3A#32) (head x w ⟨R.val / 4096, by omega⟩ ⟨R.val % 4096, by omega⟩ h) (fun k => g (ix1 k))
          (cosAt ⟨R.val % 4096, by omega⟩) (sinAt ⟨R.val % 4096, by omega⟩) e := by
  rw [val_main_v55_apply, val_main_v54_apply, idx_v54]
  exact padded_at x w g _ _ h e

end Cert.QueryRefIdeal.At
end
-- ==== Proof.Mla.QueryHost.lean ====
/- What the host prepares for the queries' call (`mla_q`): the padded weights, gains, cosines and sines. -/
module

public import proofs.«01_k».proof.Proof.Mla.QueryPay
public import proofs.«01_k».proof.Proof.Mla.QueryRef
public import Idealize.ShloMosaic.Lib.StableHlo.ReadAt

@[expose] public section

set_option maxRecDepth 16384

noncomputable section

namespace Cert.QueryIdeal.Final

open Cert.QueryIdeal Cert.QueryIdeal.Gen Idealize.ShloMosaic Idealize.ShloMosaic.TcCoe Idealize.SL.Sem
open Cert.Rows Cert.Rope Cert.QueryRefIdeal.At

variable (m : (ℓ : Loc nD τ sig) → Buf (Elt Ideal) ℓ)

/-- The arguments at their shapes. -/
abbrev argX (c : Dev nD) : FVec Ideal S8x4096x512 .f32 := m ((c : Thread nD τ).loc main_arg0)
abbrev argW (c : Dev nD) : FVec Ideal S512x3072 .f32 := m ((c : Thread nD τ).loc main_arg1)
abbrev argG (c : Dev nD) : FVec Ideal S192 .f32 := m ((c : Thread nD τ).loc main_arg2)

theorem x_at (c : Dev nD) (R : Fin 32768) (k : Fin 512) :
    (show EReal from V m c main_v37 (ix2 R k)) = argX m c (ix3 (⟨R.val / 4096, by omega⟩ : Fin 8) (⟨R.val % 4096, by omega⟩ : Fin 4096) k) := by
  unfold V
  after_reads_at

set_option maxHeartbeats 1000000 in
theorem g_dite (c : Dev nD) (j : Fin 384) :
    (show EReal from V m c main_v46 (ix2 (0 : Fin 1) j))
      = if h : j.val < 192 then argG m c (ix1 (⟨j.val, h⟩ : Fin 192)) else if j.val < 256 then 0
        else if h : j.val < 288 then argG m c (ix1 (⟨j.val - 96, by omega⟩ : Fin 192))
        else if h : j.val < 320 then argG m c (ix1 (⟨j.val - 160, by omega⟩ : Fin 192)) else 0 := by
  unfold V
  after_reads_at
  repeat' split
  all_goals try (exfalso; omega)
  all_goals after_reads_at
  all_goals repeat' split
  all_goals try (exfalso; omega)
  all_goals try after_reads_at
  all_goals repeat' split
  all_goals try (exfalso; omega)
  all_goals first
    | exact zero_word
    | exact congrArg (fun e => argG m c (ix1 e)) (Fin.ext (by dsimp only; omega))
    | exact congrArg (fun e => argG m c (ix1 e)) (Fin.ext (by dsimp only))

theorem g_at (c : Dev nD) (j : Fin 384) : (show EReal from V m c main_v46 (ix2 (0 : Fin 1) j)) = lay (fun e => argG m c (ix1 e)) j :=
  g_dite m c j

set_option maxHeartbeats 1000000 in
theorem w_dite (c : Dev nD) (k : Fin 512) (h : Fin 16) (j : Fin 384) :
    (show EReal from V m c main_v10 (ix2 k (⟨h.val * 384 + j.val, by omega⟩ : Fin 6144)))
      = if e : j.val < 192 then argW m c (ix2 k (⟨h.val * 192 + j.val, by omega⟩ : Fin 3072)) else if j.val < 256 then 0
        else if e : j.val < 288 then argW m c (ix2 k (⟨h.val * 192 + (j.val - 96), by omega⟩ : Fin 3072))
        else if e : j.val < 320 then argW m c (ix2 k (⟨h.val * 192 + (j.val - 160), by omega⟩ : Fin 3072)) else 0 := by
  unfold V
  after_reads_at
  repeat' split
  all_goals try (exfalso; omega)
  all_goals after_reads_at
  all_goals repeat' split
  all_goals try (exfalso; omega)
  all_goals try after_reads_at
  all_goals repeat' split
  all_goals try (exfalso; omega)
  all_goals try exact zero_word
  all_goals exact congrArg (fun e => argW m c (ix2 k e)) (Fin.ext (by dsimp only; omega))

set_option maxHeartbeats 1000000 in
theorem cos_at (c : Dev nD) (l : Fin 4096) (k : Fin 128) :
    (show EReal from V m c main_v30 (ix2 l k)) = cosLanes (cosAt l) k := by
  unfold V
  after_reads_at
  unfold cosLanes
  repeat' split
  all_goals try (exfalso; omega)
  all_goals try after_reads_at
  all_goals repeat' split
  all_goals try (exfalso; omega)
  all_goals try after_reads_at
  all_goals try exact zero_word
  · exact (cosAt_eq l ⟨k.val, by omega⟩).symm
  · exact (cosAt_eq l ⟨k.val - 32, by omega⟩).symm

set_option maxHeartbeats 1000000 in
theorem sin_at (c : Dev nD) (l : Fin 4096) (k : Fin 128) :
    (show EReal from V m c main_v35 (ix2 l k)) = sinLanes (sinAt l) k := by
  unfold V
  after_reads_at
  unfold sinLanes
  repeat' split
  all_goals try (exfalso; omega)
  all_goals try after_reads_at
  all_goals repeat' split
  all_goals try (exfalso; omega)
  all_goals try after_reads_at
  all_goals try exact zero_word
  · exact congrArg Neg.neg (sinAt_eq l ⟨k.val, by omega⟩).symm
  · exact (sinAt_eq l ⟨k.val - 32, by omega⟩).symm

theorem w_at (c : Dev nD) (k : Fin 512) (h : Fin 16) (j : Fin 384) :
    (show EReal from V m c main_v10 (ix2 k (⟨h.val * 384 + j.val, by omega⟩ : Fin 6144)))
      = lay (fun e => argW m c (ix2 k (⟨h.val * 192 + e.val, by omega⟩ : Fin 3072))) j :=
  w_dite m c k h j

end Cert.QueryIdeal.Final
end
-- ==== Proof.Mla.Query.lean ====
/- The queries of the MLA layer (`mla_q`): what the kernel writes is the reference's. -/
module

public import proofs.«01_k».proof.Proof.Mla.QueryHost

@[expose] public section

set_option maxRecDepth 16384

noncomputable section

namespace Cert.QueryIdeal.Final

open Cert.QueryIdeal Cert.QueryIdeal.Gen Idealize.ShloMosaic Idealize.ShloMosaic.TcCoe Idealize.SL.Sem
open Idealize.ShloMosaic.Pipeline (Dat)
open Cert.Rows Cert.Rope Cert.QueryRefIdeal.At Cert.QueryIdeal.Pay

variable (m : (ℓ : Loc nD τ sig) → Buf (Elt Ideal) ℓ)

/-! ## The blocks -/

/-- The block of every window at every grid point. -/
theorem idx : ∀ t : Fin cfg0.N,
    win0_0.index t = ![t.val / 4, 0] ∧ win0_1.index t = ![0, t.val % 4] ∧ win0_2.index t = ![0, 0] ∧ win0_3.index t = ![t.val / 4 % 8, 0]
      ∧ win0_4.index t = ![t.val / 4 % 8, 0] ∧ win0_5.index t = ![t.val / 4, t.val % 4] :=
  (by decide +kernel : ∀ t : Fin grid0.N, _)

/-- The row of the token-major arrays at row `p` of the point's block, its position, and the point's head `e`. -/
abbrev row (t : Fin 256) (p : Fin 512) : Fin 32768 := ⟨t.val / 4 * 512 + p.val, by omega⟩
abbrev pos (t : Fin 256) (p : Fin 512) : Fin 4096 := ⟨t.val / 4 % 8 * 512 + p.val, by omega⟩
abbrev hh (t : Fin 256) (e : Fin 4) : Fin 16 := ⟨t.val % 4 * 4 + e.val, by omega⟩

theorem x_blk (c : Dev nD) (t : Fin 256) (p : Fin 512) (k : Fin 512) :
    (show EReal from iblk m c 0 t (ix2 p k)) = V m c main_v37 (ix2 (row t p) k) := by
  blk_ext [iblk, idx t]

theorem w_blk (c : Dev nD) (t : Fin 256) (k : Fin 512) (e : Fin 4) (j : Fin 384) :
    (show EReal from iblk m c 1 t (ix2 k (⟨e.val * 384 + j.val, by omega⟩ : Fin 1536)))
      = V m c main_v10 (ix2 k (⟨(hh t e).val * 384 + j.val, by dsimp only; omega⟩ : Fin 6144)) := by
  blk_ext [iblk, idx t]

theorem g_blk (c : Dev nD) (t : Fin 256) (k : Fin 384) :
    (show EReal from iblk m c 2 t (ix2 (0 : Fin 1) k)) = V m c main_v46 (ix2 (0 : Fin 1) k) := by
  blk_ext [iblk, idx t]

theorem cos_blk (c : Dev nD) (t : Fin 256) (p : Fin 512) (k : Fin 128) :
    (show EReal from iblk m c 3 t (ix2 p k)) = V m c main_v30 (ix2 (pos t p) k) := by
  blk_ext [iblk, idx t]

theorem sin_blk (c : Dev nD) (t : Fin 256) (p : Fin 512) (k : Fin 128) :
    (show EReal from iblk m c 4 t (ix2 p k)) = V m c main_v35 (ix2 (pos t p) k) := by
  blk_ext [iblk, idx t]

theorem out_emb (t : Fin 256) (p : Fin 512) (j : Fin 1024) :
    (((cfg0.win 5).blk t).view.emb (ix2 p j)) = ix2 (row t p) (⟨t.val % 4 * 1024 + j.val, by omega⟩ : Fin 4096) := by
  blk_ext [idx t]

/-! ## The operands at a head -/

/-- The head's numbers in the reference. -/
abbrev hz (c : Dev nD) (t : Fin 256) (p : Fin 512) (e : Fin 4) : Fin 192 → EReal :=
  head (argX m c) (argW m c) ⟨(row t p).val / 4096, by omega⟩ ⟨(row t p).val % 4096, by omega⟩ (hh t e)

theorem hd_blk (c : Dev nD) (t : Fin 256) (p : Fin 512) (e : Fin 4) :
    hd (k0_pay4 (F := Ideal) (iblk m c 0 t) (iblk m c 1 t)) p e = lay (hz m c t p e) := by
  funext j
  refine (Pay.dot_at _ _ p _).trans (Eq.trans ?_ (lay_sum 512 (fun k => argX m c (ix3 (⟨(row t p).val / 4096, by omega⟩ : Fin 8) (⟨(row t p).val % 4096, by omega⟩ : Fin 4096) k))
    (fun k d => argW m c (ix2 k (⟨(hh t e).val * 192 + d.val, by dsimp only; omega⟩ : Fin 3072))) j))
  exact Finset.sum_congr rfl fun k _ => Ideal.mul_congr ((x_blk m c t p k).trans (x_at m c _ k)) ((w_blk m c t k e j).trans (w_at m c k (hh t e) j))

theorem g_lay (c : Dev nD) (t : Fin 256) : (fun k => (show EReal from iblk m c 2 t (ix2 (0 : Fin 1) k))) = lay (fun e => argG m c (ix1 e)) :=
  funext fun k => (g_blk m c t k).trans (g_at m c k)

theorem pos_eq (t : Fin 256) (p : Fin 512) : pos t p = ⟨(row t p).val % 4096, by omega⟩ :=
  Fin.ext (by show t.val / 4 % 8 * 512 + p.val = (t.val / 4 * 512 + p.val) % 4096; omega)

theorem cos_lay (c : Dev nD) (t : Fin 256) (p : Fin 512) :
    (fun k => (show EReal from iblk m c 3 t (ix2 p k))) = cosLanes (cosAt ⟨(row t p).val % 4096, by omega⟩) :=
  (funext fun k => (cos_blk m c t p k).trans (cos_at m c _ k)).trans (congrArg (fun l => cosLanes (cosAt l)) (pos_eq t p))

theorem sin_lay (c : Dev nD) (t : Fin 256) (p : Fin 512) :
    (fun k => (show EReal from iblk m c 4 t (ix2 p k))) = sinLanes (sinAt ⟨(row t p).val % 4096, by omega⟩) :=
  (funext fun k => (sin_blk m c t p k).trans (sin_at m c _ k)).trans (congrArg (fun l => sinLanes (sinAt l)) (pos_eq t p))

/-! ## The result -/

abbrev REF (c : Dev nD) : FVec Ideal Cert.QueryRefIdeal.S32768x4096 .bf16 :=
  Cert.QueryRefIdeal.Read.val_main_v55 (F := Ideal) (argX m c) (argW m c) (argG m c)

/-- The reference's result at the point's head `e`. -/
theorem ref_at (c : Dev nD) (t : Fin 256) (p : Fin 512) (e : Fin 4) (d : Fin 256) (j : Fin 1024) (h : j.val = e.val * 256 + d.val) :
    REF m c (ix2 (row t p) (⟨t.val % 4 * 1024 + j.val, by omega⟩ : Fin 4096))
      = headRef SC (hz m c t p e) (fun k => argG m c (ix1 k)) (cosAt ⟨(row t p).val % 4096, by omega⟩) (sinAt ⟨(row t p).val % 4096, by omega⟩) d := by
  refine Eq.trans (congrArg (fun a => REF m c (ix2 (row t p) a)) (Fin.ext ?_)) (result_at (argX m c) (argW m c) (argG m c) (row t p) (hh t e) d)
  show t.val % 4 * 1024 + j.val = (t.val % 4 * 4 + e.val) * 256 + d.val
  omega

theorem nope_el (c : Dev nD) (t : Fin 256) (p : Fin 512) (e : Fin 4) (d : Fin 128) (j : Fin 1024) (h : j.val = e.val * 256 + d.val) :
    kNope SC (hd (k0_pay4 (F := Ideal) (iblk m c 0 t) (iblk m c 1 t)) p e) (fun k => (show EReal from iblk m c 2 t (ix2 (0 : Fin 1) k))) d
      = REF m c (ix2 (row t p) (⟨t.val % 4 * 1024 + j.val, by omega⟩ : Fin 4096)) := by
  rw [ref_at m c t p e ⟨d.val, by omega⟩ j h, hd_blk, g_lay]
  exact nope_eq SC _ _ _ _ d

theorem rope_el (c : Dev nD) (t : Fin 256) (p : Fin 512) (e : Fin 4) (d : Fin 128) (j : Fin 1024) (h : j.val = e.val * 256 + 128 + d.val) :
    kRope SC (hd (k0_pay4 (F := Ideal) (iblk m c 0 t) (iblk m c 1 t)) p e) (fun k => (show EReal from iblk m c 2 t (ix2 (0 : Fin 1) k)))
        (fun k => (show EReal from iblk m c 3 t (ix2 p k))) (fun k => (show EReal from iblk m c 4 t (ix2 p k))) d
      = REF m c (ix2 (row t p) (⟨t.val % 4 * 1024 + j.val, by omega⟩ : Fin 4096)) := by
  rw [ref_at m c t p e ⟨128 + d.val, by omega⟩ j (by dsimp only; omega), hd_blk, g_lay, cos_lay, sin_lay]
  exact rope_eq SC _ _ _ _ d

/-- The stored block at a row and a column. -/
theorem block_el (c : Dev nD) (t : Fin 256) (p : Fin 512) (j : Fin 1024) :
    out0_5 (F := Ideal) (iblk m c 0 t) (iblk m c 1 t) (iblk m c 2 t) (iblk m c 3 t) (iblk m c 4 t) (ix2 p j)
      = REF m c (ix2 (row t p) (⟨t.val % 4 * 1024 + j.val, by omega⟩ : Fin 4096)) := by
  unfold_out out0_5
  frame_out
  canon_tiles x h using cover0_5 _ _ _ _ _ _ _ _ _
  case piece0 =>
    obtain ⟨q, d, rfl⟩ : ∃ (q : Fin 512) (d : Fin 128), x = ix2 q d := ⟨x 0, x 1, eq_ix2 x⟩
    obtain rfl : p = q := Fin.ext h0
    exact (rope3 _ _ _ _ p d).trans (rope_el m c t p 3 d j h1)
  case piece1 =>
    obtain ⟨q, d, rfl⟩ : ∃ (q : Fin 512) (d : Fin 128), x = ix2 q d := ⟨x 0, x 1, eq_ix2 x⟩
    obtain rfl : p = q := Fin.ext h0
    exact (nope3 _ _ p d).trans (nope_el m c t p 3 d j h1)
  case piece2 =>
    obtain ⟨q, d, rfl⟩ : ∃ (q : Fin 512) (d : Fin 128), x = ix2 q d := ⟨x 0, x 1, eq_ix2 x⟩
    obtain rfl : p = q := Fin.ext h0
    exact (rope2 _ _ _ _ p d).trans (rope_el m c t p 2 d j h1)
  case piece3 =>
    obtain ⟨q, d, rfl⟩ : ∃ (q : Fin 512) (d : Fin 128), x = ix2 q d := ⟨x 0, x 1, eq_ix2 x⟩
    obtain rfl : p = q := Fin.ext h0
    exact (nope2 _ _ p d).trans (nope_el m c t p 2 d j h1)
  case piece4 =>
    obtain ⟨q, d, rfl⟩ : ∃ (q : Fin 512) (d : Fin 128), x = ix2 q d := ⟨x 0, x 1, eq_ix2 x⟩
    obtain rfl : p = q := Fin.ext h0
    exact (rope1 _ _ _ _ p d).trans (rope_el m c t p 1 d j h1)
  case piece5 =>
    obtain ⟨q, d, rfl⟩ : ∃ (q : Fin 512) (d : Fin 128), x = ix2 q d := ⟨x 0, x 1, eq_ix2 x⟩
    obtain rfl : p = q := Fin.ext h0
    exact (nope1 _ _ p d).trans (nope_el m c t p 1 d j h1)
  case piece6 =>
    obtain ⟨q, d, rfl⟩ : ∃ (q : Fin 512) (d : Fin 128), x = ix2 q d := ⟨x 0, x 1, eq_ix2 x⟩
    obtain rfl : p = q := Fin.ext h0
    exact (rope0 _ _ _ _ _ p d).trans (rope_el m c t p 0 d j (h1.trans (by simp)))
  case piece7 =>
    obtain ⟨q, d, rfl⟩ : ∃ (q : Fin 512) (d : Fin 128), x = ix2 q d := ⟨x 0, x 1, eq_ix2 x⟩
    obtain rfl : p = q := Fin.ext h0
    exact (nope0 _ _ _ p d).trans (nope_el m c t p 0 d j (h1.trans (by simp)))

theorem final (c : Dev nD) : (dats m 0 c).arrAt 5 (cfgs 0).N = REF m c := by
  refine (dats m 0 c).arrAt_eq_of_covers 5 _ (by decide +kernel) fun t _ y => ?_
  blk_simp
  rw [after0_5]
  obtain ⟨i, j, rfl⟩ : ∃ (i : Fin 512) (j : Fin 1024), y = ix2 i j := ⟨y 0, y 1, eq_ix2 y⟩
  exact (block_el m c t i j).trans (congrArg (REF m c) (out_emb t i j)).symm

end Cert.QueryIdeal.Final
end
-- ==== Proof.Mla.KeyvalPay.lean ====
/- The keys' and values' stored blocks (`mla_kv`), read at a row and a lane. -/
module

public import proofs.«01_k».proof.Proof.Gen.KeyvalIdeal.Frame
public import proofs.«01_k».proof.Proof.Mla.Rope
public import Idealize.ShloMosaic.Lib.Pipeline.Value
public import Idealize.ShloMosaic.Lib.Pipeline.ValueKit
public import Idealize.ShloMosaic.Lib.Pointwise

@[expose] public section

set_option maxRecDepth 16384

noncomputable section

namespace Cert.KeyvalIdeal.Pay

open Cert.KeyvalIdeal Cert.KeyvalIdeal.Gen Idealize.ShloMosaic Idealize.ShloMosaic.TcCoe
open Cert.Rows Cert.Rope

/-- The kernel's scale, one. -/
abbrev SC : EReal := Ideal.ofBits .f32 0x3F800000#32

/-- The 384 lanes of head `h` in row `p`: its own 128 of the product `z`, and the rotary key's 256. -/
def hd (z : FVec Ideal S512x1024 .f32) (r : FVec Ideal S512x256 .f32) (p : Fin 512) (h : Fin 4) (k : Fin 384) : EReal :=
  if e : k.val < 128 then z (ix2 p ⟨h.val * 256 + k.val, by omega⟩) else r (ix2 p ⟨k.val - 128, by omega⟩)

theorem hd0 (z : FVec Ideal S512x1024 .f32) (r : FVec Ideal S512x256 .f32) (p : Fin 512) (h : Fin 4) (k : Fin 128) :
    hd z r p h ⟨k.val, by omega⟩ = z (ix2 p ⟨h.val * 256 + k.val, by omega⟩) := dif_pos k.isLt
theorem hd1 (z : FVec Ideal S512x1024 .f32) (r : FVec Ideal S512x256 .f32) (p : Fin 512) (h : Fin 4) (k : Fin 128) :
    hd z r p h ⟨128 + k.val, by omega⟩ = r (ix2 p ⟨k.val, by omega⟩) :=
  (dif_neg (show ¬ 128 + k.val < 128 by omega)).trans (congrArg (fun e => r (ix2 p e)) (Fin.ext (by show 128 + k.val - 128 = k.val; omega)))
theorem hd2 (z : FVec Ideal S512x1024 .f32) (r : FVec Ideal S512x256 .f32) (p : Fin 512) (h : Fin 4) (k : Fin 128) :
    hd z r p h ⟨256 + k.val, by omega⟩ = r (ix2 p ⟨128 + k.val, by omega⟩) :=
  (dif_neg (show ¬ 256 + k.val < 128 by omega)).trans (congrArg (fun e => r (ix2 p e)) (Fin.ext (by show 256 + k.val - 128 = 128 + k.val; omega)))

variable (x0 : FVec Ideal S512x512 .bf16) (x1 : FVec Ideal S512x1024 .bf16) (z : FVec Ideal S512x1024 .f32) (r : FVec Ideal S512x256 .f32)
  (g : FVec Ideal S1x384 .f32) (C S : FVec Ideal S512x128 .f32) (p : Fin 512) (d : Fin 128)

/-- The product of the block of low-rank vectors with the weights' block. -/
theorem dot_at (j : Fin 1024) : k0_pay4 (F := Ideal) x0 x1 (ix2 p j) = ∑ k : Fin 512, x0 (ix2 p k) * x1 (ix2 k j) := by
  pointwise [k0_pay4]

theorem nope0 : k0_pay17 (F := Ideal) (k0_pay8 (F := Ideal) g) (k0_pay11 (F := Ideal) x0 x1) (k0_pay14 (F := Ideal) x0 x1 r) (k0_pay15 (F := Ideal)) (ix2 p d)
    = kNope SC (hd (k0_pay4 (F := Ideal) x0 x1) r p 0) (fun k => g (ix2 (0 : Fin 1) k)) d := by
  unfold k0_pay17 k0_pay16 k0_pay15 k0_pay14 k0_pay12 k0_pay11 k0_pay10 k0_pay8 k0_pay5
  generalize k0_pay4 (F := Ideal) x0 x1 = z
  unfold kNope kRoot root
  simp only [hd0, hd1]
  pointwise

theorem rope0 : k0_pay18 (F := Ideal) (k0_pay6 (F := Ideal) C) (k0_pay7 (F := Ideal) S) (k0_pay8 (F := Ideal) g) (k0_pay12 (F := Ideal) r) (k0_pay13 (F := Ideal) r)
      (k0_pay14 (F := Ideal) x0 x1 r) (k0_pay15 (F := Ideal)) (ix2 p d)
    = kRope SC (hd (k0_pay4 (F := Ideal) x0 x1) r p 0) (fun k => g (ix2 (0 : Fin 1) k)) (fun k => C (ix2 p k)) (fun k => S (ix2 p k)) d := by
  unfold k0_pay18 k0_pay16 k0_pay15 k0_pay14 k0_pay13 k0_pay12 k0_pay11 k0_pay10 k0_pay8 k0_pay7 k0_pay6 k0_pay5
  generalize k0_pay4 (F := Ideal) x0 x1 = z
  unfold kRope kRoot root
  simp only [hd0, hd1, hd2]
  pointwise

theorem nope1 : k0_pay25 (F := Ideal) (k0_pay8 (F := Ideal) g) (k0_pay21 (F := Ideal) z) (k0_pay24 (F := Ideal) z (k0_pay5 (F := Ideal) r)) (ix2 p d)
    = kNope SC (hd z r p 1) (fun k => g (ix2 (0 : Fin 1) k)) d := by
  unfold kNope kRoot root
  simp only [hd0, hd1]
  pointwise [k0_pay25, k0_pay24, k0_pay22, k0_pay21, k0_pay20, k0_pay8, k0_pay5]

theorem rope1 : k0_pay26 (F := Ideal) (k0_pay6 (F := Ideal) C) (k0_pay7 (F := Ideal) S) (k0_pay8 (F := Ideal) g) (k0_pay22 (F := Ideal) (k0_pay5 (F := Ideal) r))
      (k0_pay23 (F := Ideal) (k0_pay5 (F := Ideal) r)) (k0_pay24 (F := Ideal) z (k0_pay5 (F := Ideal) r)) (ix2 p d)
    = kRope SC (hd z r p 1) (fun k => g (ix2 (0 : Fin 1) k)) (fun k => C (ix2 p k)) (fun k => S (ix2 p k)) d := by
  unfold kRope kRoot root
  simp only [hd0, hd1, hd2]
  pointwise [k0_pay26, k0_pay24, k0_pay23, k0_pay22, k0_pay21, k0_pay20, k0_pay8, k0_pay7, k0_pay6, k0_pay5]

theorem nope2 : k0_pay34 (F := Ideal) (k0_pay8 (F := Ideal) g) (k0_pay29 (F := Ideal) z) (k0_pay33 (F := Ideal) z (k0_pay5 (F := Ideal) r)) (ix2 p d)
    = kNope SC (hd z r p 2) (fun k => g (ix2 (0 : Fin 1) k)) d := by
  unfold kNope kRoot root
  simp only [hd0, hd1]
  pointwise [k0_pay34, k0_pay33, k0_pay32, k0_pay30, k0_pay29, k0_pay28, k0_pay8, k0_pay5]

theorem rope2 : k0_pay35 (F := Ideal) (k0_pay6 (F := Ideal) C) (k0_pay7 (F := Ideal) S) (k0_pay8 (F := Ideal) g) (k0_pay30 (F := Ideal) (k0_pay5 (F := Ideal) r))
      (k0_pay31 (F := Ideal) (k0_pay5 (F := Ideal) r)) (k0_pay32 (F := Ideal) z (k0_pay5 (F := Ideal) r)) (ix2 p d)
    = kRope SC (hd z r p 2) (fun k => g (ix2 (0 : Fin 1) k)) (fun k => C (ix2 p k)) (fun k => S (ix2 p k)) d := by
  unfold kRope kRoot root
  simp only [hd0, hd1, hd2]
  pointwise [k0_pay35, k0_pay32, k0_pay31, k0_pay30, k0_pay29, k0_pay28, k0_pay8, k0_pay7, k0_pay6, k0_pay5]

theorem nope3 : k0_pay1 (F := Ideal) (k0_pay8 (F := Ideal) g) (k0_pay42 (F := Ideal) z (k0_pay5 (F := Ideal) r)) (ix2 p d)
    = kNope SC (hd z r p 3) (fun k => g (ix2 (0 : Fin 1) k)) d := by
  unfold kNope kRoot root
  simp only [hd0, hd1]
  pointwise [k0_pay1, k0_pay42, k0_pay41, k0_pay39, k0_pay38, k0_pay37, k0_pay8, k0_pay5]

theorem rope3 : k0_pay2 (F := Ideal) (k0_pay6 (F := Ideal) C) (k0_pay7 (F := Ideal) S) (k0_pay8 (F := Ideal) g) (k0_pay39 (F := Ideal) (k0_pay5 (F := Ideal) r))
      (k0_pay40 (F := Ideal) (k0_pay5 (F := Ideal) r)) (k0_pay41 (F := Ideal) z (k0_pay5 (F := Ideal) r)) (ix2 p d)
    = kRope SC (hd z r p 3) (fun k => g (ix2 (0 : Fin 1) k)) (fun k => C (ix2 p k)) (fun k => S (ix2 p k)) d := by
  unfold kRope kRoot root
  simp only [hd0, hd1, hd2]
  pointwise [k0_pay2, k0_pay41, k0_pay40, k0_pay39, k0_pay38, k0_pay37, k0_pay8, k0_pay7, k0_pay6, k0_pay5]

/-! The values' blocks. -/

theorem value0 : k0_pay19 (F := Ideal) (k0_pay10 (F := Ideal) x0 x1) (ix2 p d) = k0_pay4 (F := Ideal) x0 x1 (ix2 p ⟨128 + d.val, by omega⟩) := by
  unfold k0_pay19 k0_pay10
  generalize k0_pay4 (F := Ideal) x0 x1 = z
  pointwise
theorem value1 : k0_pay27 (F := Ideal) (k0_pay20 (F := Ideal) z) (ix2 p d) = z (ix2 p ⟨1 * 256 + (128 + d.val), by omega⟩) := by
  pointwise [k0_pay27, k0_pay20]
theorem value2 : k0_pay36 (F := Ideal) (k0_pay28 (F := Ideal) z) (ix2 p d) = z (ix2 p ⟨2 * 256 + (128 + d.val), by omega⟩) := by
  pointwise [k0_pay36, k0_pay28]
theorem value3 : k0_pay3 (F := Ideal) (k0_pay37 (F := Ideal) z) (ix2 p d) = z (ix2 p ⟨3 * 256 + (128 + d.val), by omega⟩) := by
  pointwise [k0_pay3, k0_pay37]

theorem first_lane : ∀ d : Fin 128, IntOp.cmpi CmpIPredicate.eq (BitVec.ofNat 32 d.val) 0#32 = if d.val = 0 then 1#1 else 0#1 := by decide

theorem ones : k0_pay9 (F := Ideal) (ix2 p d) = (if d.val = 0 then 1 else 0 : EReal) := by
  pointwise [k0_pay9]
  rw [first_lane d]
  split
  · rfl
  · rfl

end Cert.KeyvalIdeal.Pay
end
-- ==== Proof.Mla.KeyvalRef.lean ====
/- The reference of the MLA layer's keys and values, read at a row, a head and a coordinate. -/
module

public import proofs.«01_k».proof.Proof.Gen.KeyvalRefIdeal.Read
public import proofs.«01_k».proof.Proof.Mla.Rope
public import Idealize.ShloMosaic.Lib.Pointwise

@[expose] public section

set_option maxRecDepth 16384

noncomputable section

namespace Cert.KeyvalRefIdeal.At

open Cert.KeyvalRefIdeal Cert.KeyvalRefIdeal.Gen Cert.KeyvalRefIdeal.Read Idealize.ShloMosaic Idealize.ShloMosaic.TcCoe
open Cert.Rows Cert.Rope

variable (x : FVec Ideal S8x4096x512 .f32) (r : FVec Ideal S8x4096x64 .f32) (w : FVec Ideal S512x4096 .f32) (g : FVec Ideal S192 .f32)

/-- Coordinate `e` of head `h`'s key (the first 128) and value (the last 128) at position `l` of batch `b`. -/
def kv (b : Fin 8) (l : Fin 4096) (h : Fin 16) (e : Fin 256) : EReal := ∑ k : Fin 512, x (ix3 b l k) * w (ix2 k ⟨h.val * 256 + e.val, by omega⟩)

/-- The head's key: its own 128 coordinates and the 64 rotary ones all heads share. -/
def head (b : Fin 8) (l : Fin 4096) (h : Fin 16) (e : Fin 192) : EReal :=
  if e.val < 128 then kv x w b l h ⟨e.val, by omega⟩ else r (ix3 b l ⟨e.val - 128, by omega⟩)

/-- The cosines and sines of position `l`. -/
def cosAt (l : Fin 4096) (k : Fin 32) : EReal := val_main_v36 (F := Ideal) (ix2 l k)
def sinAt (l : Fin 4096) (k : Fin 32) : EReal := val_main_v37 (F := Ideal) (ix2 l k)

theorem angle_at (l : Fin 4096) (k : Fin 32) : val_main_v35 (F := Ideal) (ix2 l k) = angle l.val k.val := by
  unfold angle
  pointwise [val_main_v35, val_main_v34, val_main_v33, val_main_v32, val_main_v31, val_main_v30, val_main_v29, val_main_v28, val_main_cst_5,
    val_main_v27, val_main_v26, val_main_cst_4, val_main_v25, val_main_v24, val_main_v23, val_main_cst_3, val_main_v22, val_main_v21, val_main_cst_2,
    val_main_v20]

theorem cosAt_eq (l : Fin 4096) (k : Fin 32) : cosAt l k = Ideal.cos (angle l.val k.val) :=
  (val_main_v36_apply (F := Ideal) (ix2 l k)).trans (congrArg Ideal.cos (angle_at l k))
theorem sinAt_eq (l : Fin 4096) (k : Fin 32) : sinAt l k = Ideal.sin (angle l.val k.val) :=
  (val_main_v37_apply (F := Ideal) (ix2 l k)).trans (congrArg Ideal.sin (angle_at l k))

theorem idx_v1 (b : Fin 8) (l : Fin 4096) (h : Fin 16) (e : Fin 256) : idx_main_v1 (ix4 b l h e) = ix3 b l ⟨h.val * 256 + e.val, by omega⟩ := by
  funext a
  match a with
  | ⟨0, _⟩ => exact Fin.ext (show (((b.val * 4096 + l.val) * 16 + h.val) * 256 + e.val) / 16777216 = b.val by omega)
  | ⟨1, _⟩ => exact Fin.ext (show (((b.val * 4096 + l.val) * 16 + h.val) * 256 + e.val) / 4096 % 4096 = l.val by omega)
  | ⟨2, _⟩ => exact Fin.ext (show (((b.val * 4096 + l.val) * 16 + h.val) * 256 + e.val) % 4096 = h.val * 256 + e.val by omega)

theorem kv_at (b : Fin 8) (l : Fin 4096) (h : Fin 16) (e : Fin 256) : val_main_v1 (F := Ideal) x w (ix4 b l h e) = kv x w b l h e := by
  rw [val_main_v1_apply, idx_v1, val_main_v0_apply]
  exact Finset.sum_congr rfl fun k _ => Ideal.mul_congr (congrArg x (eq_ix3 _)) (congrArg w (eq_ix2 _))

/-- The key before it is normalised. -/
theorem head_at (b : Fin 8) (l : Fin 4096) (h : Fin 16) (e : Fin 192) : val_main_v6 (F := Ideal) x r w (ix4 b l h e) = head x r w b l h e := by
  unfold val_main_v6
  have h0 : ∀ e : Fin 128, val_main_v2 (F := Ideal) x w (ix4 b l h e) = kv x w b l h ⟨e.val, by omega⟩ := by
    intro e
    rw [val_main_v2_apply]
    exact (congrArg (val_main_v1 (F := Ideal) x w) (eq_ix4 _)).trans (kv_at x w b l h _)
  have h1 : ∀ e : Fin 64, val_main_v5 (F := Ideal) r (ix4 b l h e) = r (ix3 b l e) := by
    intro e
    rw [val_main_v5_apply, val_main_v4_apply]
    exact congrArg r (eq_ix3 _)
  revert h0 h1
  generalize val_main_v2 (F := Ideal) x w = y0
  generalize val_main_v5 (F := Ideal) r = y1
  intro h0 h1
  pointwise
  unfold head
  simp only [h0, h1]
  repeat' split
  all_goals first
    | rfl
    | (exfalso; omega)

/-- The head normalised. -/
theorem norm_at (b : Fin 8) (l : Fin 4096) (h : Fin 16) (e : Fin 192) :
    val_main_v19 (F := Ideal) x r w g (ix4 b l h e) = headN (head x r w b l h) (fun k => g (ix1 k)) e := by
  rw [val_main_v19_apply, val_main_v16_apply, val_main_v15_apply, val_main_v14_apply, val_main_v13_apply, val_main_v11_apply, val_main_v9_apply,
    val_main_v8_apply, val_main_v10_apply, val_main_cst_0_apply, val_main_v12_apply, val_main_cst_1_apply, val_main_v18_apply, val_main_v17_apply,
    val_main_cst_apply]
  simp only [val_main_v7_apply]
  have e := head_at x r w b l h
  revert e
  generalize val_main_v6 (F := Ideal) x r w = y
  intro e
  unfold headN root
  simp only [← e]
  refine Ideal.mul_congr (Ideal.mul_congr rfl (congrArg Ideal.rsqrt (congrArg₂ (· + ·) (congrArg₂ Ideal.div ?_ rfl) rfl))) (congrArg g (eq_ix1 _))
  refine ((congrArg (· + _) ofBits_zero).trans (zero_add _)).trans (Finset.sum_congr rfl fun k _ => ?_)
  exact Ideal.mul_congr (congrArg y (eq_ix4 _)) (congrArg y (eq_ix4 _))

/-- The two halves of the head's rotary coordinates. -/
theorem low_at (b : Fin 8) (l : Fin 4096) (h : Fin 16) (k : Fin 32) :
    val_main_v40 (F := Ideal) x r w g (ix4 b l h k) = headN (head x r w b l h) (fun k => g (ix1 k)) ⟨128 + k.val, by omega⟩ := by
  rw [val_main_v40_apply, val_main_v39_apply]
  exact (congrArg (val_main_v19 (F := Ideal) x r w g) (eq_ix4 _)).trans (norm_at x r w g b l h _)

theorem high_at (b : Fin 8) (l : Fin 4096) (h : Fin 16) (k : Fin 32) :
    val_main_v41 (F := Ideal) x r w g (ix4 b l h k) = headN (head x r w b l h) (fun k => g (ix1 k)) ⟨160 + k.val, by omega⟩ := by
  rw [val_main_v41_apply, val_main_v39_apply]
  refine (congrArg (val_main_v19 (F := Ideal) x r w g) (eq_ix4 _)).trans ((norm_at x r w g b l h _).trans (congrArg (headN _ _) (Fin.ext ?_)))
  show 128 + (32 + k.val) = 160 + k.val
  omega

theorem nope_at (b : Fin 8) (l : Fin 4096) (h : Fin 16) (k : Fin 128) :
    val_main_v38 (F := Ideal) x r w g (ix4 b l h k) = headN (head x r w b l h) (fun k => g (ix1 k)) ⟨k.val, by omega⟩ := by
  rw [val_main_v38_apply]
  exact (congrArg (val_main_v19 (F := Ideal) x r w g) (eq_ix4 _)).trans (norm_at x r w g b l h _)

/-- The rotated halves. -/
theorem rot_low (b : Fin 8) (l : Fin 4096) (h : Fin 16) (k : Fin 32) :
    val_main_v48 (F := Ideal) x r w g (ix4 b l h k)
      = headN (head x r w b l h) (fun k => g (ix1 k)) ⟨128 + k.val, by omega⟩ * cosAt l k
        - headN (head x r w b l h) (fun k => g (ix1 k)) ⟨160 + k.val, by omega⟩ * sinAt l k := by
  rw [val_main_v48_apply, val_main_v45_apply, val_main_v47_apply, low_at, high_at, val_main_v44_apply, val_main_v46_apply, val_main_v42_apply,
    val_main_v43_apply]
  exact congrArg₂ (· - ·) (Ideal.mul_congr rfl (congrArg (val_main_v36 (F := Ideal)) (eq_ix2 _)))
    (Ideal.mul_congr rfl (congrArg (val_main_v37 (F := Ideal)) (eq_ix2 _)))

theorem rot_high (b : Fin 8) (l : Fin 4096) (h : Fin 16) (k : Fin 32) :
    val_main_v53 (F := Ideal) x r w g (ix4 b l h k)
      = headN (head x r w b l h) (fun k => g (ix1 k)) ⟨160 + k.val, by omega⟩ * cosAt l k
        + headN (head x r w b l h) (fun k => g (ix1 k)) ⟨128 + k.val, by omega⟩ * sinAt l k := by
  rw [val_main_v53_apply, val_main_v50_apply, val_main_v52_apply, low_at, high_at, val_main_v49_apply, val_main_v51_apply, val_main_v42_apply,
    val_main_v43_apply]
  exact congrArg₂ (· + ·) (Ideal.mul_congr rfl (congrArg (val_main_v36 (F := Ideal)) (eq_ix2 _)))
    (Ideal.mul_congr rfl (congrArg (val_main_v37 (F := Ideal)) (eq_ix2 _)))

/-- The head rotated. -/
theorem rotated_at (b : Fin 8) (l : Fin 4096) (h : Fin 16) (e : Fin 192) :
    val_main_v55 (F := Ideal) x r w g (ix4 b l h e) = rotated (head x r w b l h) (fun k => g (ix1 k)) (cosAt l) (sinAt l) e := by
  unfold val_main_v55 val_main_v54
  have h0 := nope_at x r w g b l h
  have h1 := rot_low x r w g b l h
  have h2 := rot_high x r w g b l h
  revert h0 h1 h2
  generalize val_main_v38 (F := Ideal) x r w g = y0
  generalize val_main_v48 (F := Ideal) x r w g = y1
  generalize val_main_v53 (F := Ideal) x r w g = y2
  intro h0 h1 h2
  pointwise
  unfold rotated
  simp only [h0, h1, h2]
  repeat' split
  all_goals try (exfalso; omega)
  · rfl
  · refine congrArg₂ (· - ·) (congrArg₂ (· * ·) (congrArg (headN _ _) (Fin.ext ?_)) rfl) (congrArg₂ (· * ·) (congrArg (headN _ _) (Fin.ext ?_)) rfl)
    all_goals dsimp only
    all_goals omega
  · refine congrArg₂ (· + ·) (congrArg₂ (· * ·) (congrArg (headN _ _) (Fin.ext ?_)) (congrArg (cosAt l) (Fin.ext ?_)))
      (congrArg₂ (· * ·) (congrArg (headN _ _) (Fin.ext ?_)) (congrArg (sinAt l) (Fin.ext ?_)))
    all_goals dsimp only
    all_goals omega

theorem zero_word : FloatOps.sitofp (F := Ideal) (w := 32) FTy.f32 0#32 = (0 : EReal) := by
  show (((0#32).toInt : ℝ) : EReal) = 0
  simp

/-- The key padded. -/
theorem padded_at (b : Fin 8) (l : Fin 4096) (h : Fin 16) (e : Fin 256) :
    val_main_v58 (F := Ideal) x r w g (ix4 b l h e) = headRef 1 (head x r w b l h) (fun k => g (ix1 k)) (cosAt l) (sinAt l) e := by
  unfold val_main_v58
  have h0 : ∀ e : Fin 192, val_main_v55 (F := Ideal) x r w g (ix4 b l h e)
      = rotated (head x r w b l h) (fun k => g (ix1 k)) (cosAt l) (sinAt l) e * 1 := by
    intro e
    rw [rotated_at, mul_one]
  have h1 : ∀ y, val_main_call0_v0 (F := Ideal) y = (0 : EReal) := by
    intro y
    rw [val_main_call0_v0_apply, val_main_c_apply]
    exact zero_word
  revert h0 h1
  generalize val_main_v55 (F := Ideal) x r w g = y0
  generalize val_main_call0_v0 (F := Ideal) = y1
  intro h0 h1
  pointwise
  unfold headRef
  simp only [h0, h1]
  repeat' split
  all_goals first
    | rfl
    | (exfalso; omega)

/-- Coordinate `e` of the head's padded value: the value, a one, zeros. -/
def valueRef (v : Fin 256 → EReal) (e : Fin 256) : EReal := if h : e.val < 128 then v ⟨128 + e.val, by omega⟩ else if e.val = 128 then 1 else 0

/-- The value with a one behind it, padded. -/
theorem value_at (b : Fin 8) (l : Fin 4096) (h : Fin 16) (e : Fin 256) : val_main_v61 (F := Ideal) x w (ix4 b l h e) = valueRef (kv x w b l h) e := by
  unfold val_main_v61 val_main_v57
  have h0 : ∀ e : Fin 128, val_main_v3 (F := Ideal) x w (ix4 b l h e) = kv x w b l h ⟨128 + e.val, by omega⟩ := by
    intro e
    rw [val_main_v3_apply]
    exact (congrArg (val_main_v1 (F := Ideal) x w) (eq_ix4 _)).trans (kv_at x w b l h _)
  have h1 : ∀ y, val_main_call1_v0 (F := Ideal) y = (0 : EReal) := by
    intro y
    rw [val_main_call1_v0_apply, val_main_c_7_apply]
    exact zero_word
  have h2 : ∀ y, val_main_v56 (F := Ideal) y = (1 : EReal) := by
    intro y
    rw [val_main_v56_apply, val_main_cst_6_apply]
    exact Ideal.ofBits_one_f32
  revert h0 h1 h2
  generalize val_main_v3 (F := Ideal) x w = y0
  generalize val_main_call1_v0 (F := Ideal) = y1
  generalize val_main_v56 (F := Ideal) = y2
  intro h0 h1 h2
  pointwise
  unfold valueRef
  simp only [h0, h1, h2]
  repeat' split
  all_goals first
    | rfl
    | (exfalso; omega)

theorem idx_v59 (R : Fin 32768) (h : Fin 16) (e : Fin 256) : idx_main_v59 (ix2 R (⟨h.val * 256 + e.val, by omega⟩ : Fin 4096))
    = ix4 (⟨R.val / 4096, by omega⟩ : Fin 8) (⟨R.val % 4096, by omega⟩ : Fin 4096) h e := by
  funext a
  match a with
  | ⟨0, _⟩ => exact Fin.ext (show (R.val * 4096 + (h.val * 256 + e.val)) / 16777216 = R.val / 4096 by omega)
  | ⟨1, _⟩ => exact Fin.ext (show (R.val * 4096 + (h.val * 256 + e.val)) / 4096 % 4096 = R.val % 4096 by omega)
  | ⟨2, _⟩ => exact Fin.ext (show (R.val * 4096 + (h.val * 256 + e.val)) / 256 % 16 = h.val by omega)
  | ⟨3, _⟩ => exact Fin.ext (show (R.val * 4096 + (h.val * 256 + e.val)) % 256 = e.val by omega)

theorem idx_v62 (R : Fin 32768) (h : Fin 16) (e : Fin 256) : idx_main_v62 (ix2 R (⟨h.val * 256 + e.val, by omega⟩ : Fin 4096))
    = ix4 (⟨R.val / 4096, by omega⟩ : Fin 8) (⟨R.val % 4096, by omega⟩ : Fin 4096) h e := by
  funext a
  match a with
  | ⟨0, _⟩ => exact Fin.ext (show (R.val * 4096 + (h.val * 256 + e.val)) / 16777216 = R.val / 4096 by omega)
  | ⟨1, _⟩ => exact Fin.ext (show (R.val * 4096 + (h.val * 256 + e.val)) / 4096 % 4096 = R.val % 4096 by omega)
  | ⟨2, _⟩ => exact Fin.ext (show (R.val * 4096 + (h.val * 256 + e.val)) / 256 % 16 = h.val by omega)
  | ⟨3, _⟩ => exact Fin.ext (show (R.val * 4096 + (h.val * 256 + e.val)) % 256 = e.val by omega)

/-- The two results at row `R`, coordinate `e` of head `h`. -/
theorem key_at (R : Fin 32768) (h : Fin 16) (e : Fin 256) :
    val_main_v60 (F := Ideal) x r w g (ix2 R (⟨h.val * 256 + e.val, by omega⟩ : Fin 4096))
      = headRef 1 (head x r w ⟨R.val / 4096, by omega⟩ ⟨R.val % 4096, by omega⟩ h) (fun k => g (ix1 k))
          (cosAt ⟨R.val % 4096, by omega⟩) (sinAt ⟨R.val % 4096, by omega⟩) e := by
  rw [val_main_v60_apply, val_main_v59_apply, idx_v59]
  exact padded_at x r w g _ _ h e

theorem val_at (R : Fin 32768) (h : Fin 16) (e : Fin 256) :
    val_main_v63 (F := Ideal) x w (ix2 R (⟨h.val * 256 + e.val, by omega⟩ : Fin 4096))
      = valueRef (kv x w ⟨R.val / 4096, by omega⟩ ⟨R.val % 4096, by omega⟩ h) e := by
  rw [val_main_v63_apply, val_main_v62_apply, idx_v62]
  exact value_at x w _ _ h e

end Cert.KeyvalRefIdeal.At
end
-- ==== Proof.Mla.KeyvalHost.lean ====
/- What the host prepares for the keys' and values' call (`mla_kv`): the rotary key's lanes, the padded gains, cosines and sines. -/
module

public import proofs.«01_k».proof.Proof.Mla.KeyvalPay
public import proofs.«01_k».proof.Proof.Mla.KeyvalRef
public import Idealize.ShloMosaic.Lib.StableHlo.ReadAt

@[expose] public section

set_option maxRecDepth 16384

noncomputable section

namespace Cert.KeyvalIdeal.Final

open Cert.KeyvalIdeal Cert.KeyvalIdeal.Gen Idealize.ShloMosaic Idealize.ShloMosaic.TcCoe Idealize.SL.Sem
open Cert.Rows Cert.Rope Cert.KeyvalRefIdeal.At

variable (m : (ℓ : Loc nD τ sig) → Buf (Elt Ideal) ℓ)

/-- The arguments at their shapes. -/
abbrev argX (c : Dev nD) : FVec Ideal S8x4096x512 .f32 := m ((c : Thread nD τ).loc main_arg0)
abbrev argR (c : Dev nD) : FVec Ideal S8x4096x64 .f32 := m ((c : Thread nD τ).loc main_arg1)
abbrev argW (c : Dev nD) : FVec Ideal S512x4096 .f32 := m ((c : Thread nD τ).loc main_arg2)
abbrev argG (c : Dev nD) : FVec Ideal S192 .f32 := m ((c : Thread nD τ).loc main_arg3)

theorem x_at (c : Dev nD) (R : Fin 32768) (k : Fin 512) :
    (show EReal from V m c main_v33 (ix2 R k)) = argX m c (ix3 (⟨R.val / 4096, by omega⟩ : Fin 8) (⟨R.val % 4096, by omega⟩ : Fin 4096) k) := by
  unfold V
  after_reads_at

theorem w_at (c : Dev nD) (k : Fin 512) (j : Fin 4096) : (show EReal from V m c main_v34 (ix2 k j)) = argW m c (ix2 k j) := by
  unfold V
  after_reads_at

set_option maxHeartbeats 1000000 in
/-- The rotary key's lanes: the key, zeros, the key with its halves exchanged, zeros. -/
theorem r_dite (c : Dev nD) (R : Fin 32768) (j : Fin 256) :
    (show EReal from V m c main_v6 (ix2 R j))
      = if h : j.val < 64 then argR m c (ix3 (⟨R.val / 4096, by omega⟩ : Fin 8) (⟨R.val % 4096, by omega⟩ : Fin 4096) (⟨j.val, h⟩ : Fin 64))
        else if j.val < 128 then 0
        else if h : j.val < 160 then argR m c (ix3 (⟨R.val / 4096, by omega⟩ : Fin 8) (⟨R.val % 4096, by omega⟩ : Fin 4096) (⟨j.val - 96, by omega⟩ : Fin 64))
        else if h : j.val < 192 then argR m c (ix3 (⟨R.val / 4096, by omega⟩ : Fin 8) (⟨R.val % 4096, by omega⟩ : Fin 4096) (⟨j.val - 160, by omega⟩ : Fin 64))
        else 0 := by
  unfold V
  after_reads_at
  repeat' split
  all_goals try (exfalso; omega)
  all_goals try after_reads_at
  all_goals repeat' split
  all_goals try (exfalso; omega)
  all_goals try after_reads_at
  all_goals repeat' split
  all_goals try (exfalso; omega)
  all_goals try exact zero_word
  all_goals first
    | rfl
    | exact congrArg (fun e => argR m c (ix3 _ _ e)) (Fin.ext (by dsimp only; omega))
    | exact congrArg (fun e => argR m c (ix3 _ _ e)) (Fin.ext (by dsimp only))

set_option maxHeartbeats 1000000 in
theorem g_dite (c : Dev nD) (j : Fin 384) :
    (show EReal from V m c main_v43 (ix2 (0 : Fin 1) j))
      = if h : j.val < 192 then argG m c (ix1 (⟨j.val, h⟩ : Fin 192)) else if j.val < 256 then 0
        else if h : j.val < 288 then argG m c (ix1 (⟨j.val - 96, by omega⟩ : Fin 192))
        else if h : j.val < 320 then argG m c (ix1 (⟨j.val - 160, by omega⟩ : Fin 192)) else 0 := by
  unfold V
  after_reads_at
  repeat' split
  all_goals try (exfalso; omega)
  all_goals after_reads_at
  all_goals repeat' split
  all_goals try (exfalso; omega)
  all_goals try after_reads_at
  all_goals repeat' split
  all_goals try (exfalso; omega)
  all_goals first
    | exact zero_word
    | exact congrArg (fun e => argG m c (ix1 e)) (Fin.ext (by dsimp only; omega))
    | exact congrArg (fun e => argG m c (ix1 e)) (Fin.ext (by dsimp only))

theorem g_at (c : Dev nD) (j : Fin 384) : (show EReal from V m c main_v43 (ix2 (0 : Fin 1) j)) = lay (fun e => argG m c (ix1 e)) j :=
  g_dite m c j

set_option maxHeartbeats 1000000 in
theorem cos_at (c : Dev nD) (l : Fin 4096) (k : Fin 128) :
    (show EReal from V m c main_v26 (ix2 l k)) = cosLanes (cosAt l) k := by
  unfold V
  after_reads_at
  unfold cosLanes
  repeat' split
  all_goals try (exfalso; omega)
  all_goals try after_reads_at
  all_goals repeat' split
  all_goals try (exfalso; omega)
  all_goals try after_reads_at
  all_goals try exact zero_word
  · exact (cosAt_eq l ⟨k.val, by omega⟩).symm
  · exact (cosAt_eq l ⟨k.val - 32, by omega⟩).symm

set_option maxHeartbeats 1000000 in
theorem sin_at (c : Dev nD) (l : Fin 4096) (k : Fin 128) :
    (show EReal from V m c main_v31 (ix2 l k)) = sinLanes (sinAt l) k := by
  unfold V
  after_reads_at
  unfold sinLanes
  repeat' split
  all_goals try (exfalso; omega)
  all_goals try after_reads_at
  all_goals repeat' split
  all_goals try (exfalso; omega)
  all_goals try after_reads_at
  all_goals try exact zero_word
  · exact congrArg Neg.neg (sinAt_eq l ⟨k.val, by omega⟩).symm
  · exact (sinAt_eq l ⟨k.val - 32, by omega⟩).symm

end Cert.KeyvalIdeal.Final
end
-- ==== Proof.Mla.Keyval.lean ====
/- The keys and values of the MLA layer (`mla_kv`): what the kernel writes is the reference's. -/
module

public import proofs.«01_k».proof.Proof.Mla.KeyvalHost

@[expose] public section

set_option maxRecDepth 16384

noncomputable section

namespace Cert.KeyvalIdeal.Final

open Cert.KeyvalIdeal Cert.KeyvalIdeal.Gen Idealize.ShloMosaic Idealize.ShloMosaic.TcCoe Idealize.SL.Sem
open Idealize.ShloMosaic.Pipeline (Dat)
open Cert.Rows Cert.Rope Cert.KeyvalRefIdeal.At Cert.KeyvalIdeal.Pay

variable (m : (ℓ : Loc nD τ sig) → Buf (Elt Ideal) ℓ)

/-! ## The blocks -/

/-- The block of every window at every grid point. -/
theorem idx : ∀ t : Fin cfg0.N,
    win0_0.index t = ![t.val / 4, 0] ∧ win0_1.index t = ![0, t.val % 4] ∧ win0_2.index t = ![t.val / 4, 0] ∧ win0_3.index t = ![0, 0]
      ∧ win0_4.index t = ![t.val / 4 % 8, 0] ∧ win0_5.index t = ![t.val / 4 % 8, 0] ∧ win0_6.index t = ![t.val / 4, t.val % 4]
      ∧ win0_7.index t = ![t.val / 4, t.val % 4] :=
  (by decide +kernel : ∀ t : Fin grid0.N, _)

/-- The row of the token-major arrays at row `p` of the point's block, its position, and the point's head `e`. -/
abbrev row (t : Fin 256) (p : Fin 512) : Fin 32768 := ⟨t.val / 4 * 512 + p.val, by omega⟩
abbrev pos (t : Fin 256) (p : Fin 512) : Fin 4096 := ⟨t.val / 4 % 8 * 512 + p.val, by omega⟩
abbrev hh (t : Fin 256) (e : Fin 4) : Fin 16 := ⟨t.val % 4 * 4 + e.val, by omega⟩
/-- The row's batch and position. -/
abbrev bt (t : Fin 256) (p : Fin 512) : Fin 8 := ⟨(row t p).val / 4096, by omega⟩
abbrev ps (t : Fin 256) (p : Fin 512) : Fin 4096 := ⟨(row t p).val % 4096, by omega⟩

theorem x_blk (c : Dev nD) (t : Fin 256) (p : Fin 512) (k : Fin 512) :
    (show EReal from iblk m c 0 t (ix2 p k)) = V m c main_v33 (ix2 (row t p) k) := by
  blk_ext [iblk, idx t]

theorem w_blk (c : Dev nD) (t : Fin 256) (k : Fin 512) (e : Fin 4) (j : Fin 256) :
    (show EReal from iblk m c 1 t (ix2 k (⟨e.val * 256 + j.val, by omega⟩ : Fin 1024)))
      = V m c main_v34 (ix2 k (⟨(hh t e).val * 256 + j.val, by dsimp only; omega⟩ : Fin 4096)) := by
  blk_ext [iblk, idx t]

theorem r_blk (c : Dev nD) (t : Fin 256) (p : Fin 512) (k : Fin 256) :
    (show EReal from iblk m c 2 t (ix2 p k)) = V m c main_v6 (ix2 (row t p) k) := by
  blk_ext [iblk, idx t]

theorem g_blk (c : Dev nD) (t : Fin 256) (k : Fin 384) :
    (show EReal from iblk m c 3 t (ix2 (0 : Fin 1) k)) = V m c main_v43 (ix2 (0 : Fin 1) k) := by
  blk_ext [iblk, idx t]

theorem cos_blk (c : Dev nD) (t : Fin 256) (p : Fin 512) (k : Fin 128) :
    (show EReal from iblk m c 4 t (ix2 p k)) = V m c main_v26 (ix2 (pos t p) k) := by
  blk_ext [iblk, idx t]

theorem sin_blk (c : Dev nD) (t : Fin 256) (p : Fin 512) (k : Fin 128) :
    (show EReal from iblk m c 5 t (ix2 p k)) = V m c main_v31 (ix2 (pos t p) k) := by
  blk_ext [iblk, idx t]

theorem key_emb (t : Fin 256) (p : Fin 512) (j : Fin 1024) :
    (((cfg0.win 6).blk t).view.emb (ix2 p j)) = ix2 (row t p) (⟨t.val % 4 * 1024 + j.val, by omega⟩ : Fin 4096) := by
  blk_ext [idx t]

theorem value_emb (t : Fin 256) (p : Fin 512) (j : Fin 1024) :
    (((cfg0.win 7).blk t).view.emb (ix2 p j)) = ix2 (row t p) (⟨t.val % 4 * 1024 + j.val, by omega⟩ : Fin 4096) := by
  blk_ext [idx t]

/-! ## The operands at a head -/

/-- The product of the point's blocks is the reference's. -/
theorem dot_blk (c : Dev nD) (t : Fin 256) (p : Fin 512) (e : Fin 4) (j : Fin 256) :
    k0_pay4 (F := Ideal) (iblk m c 0 t) (iblk m c 1 t) (ix2 p (⟨e.val * 256 + j.val, by omega⟩ : Fin 1024))
      = kv (argX m c) (argW m c) (bt t p) (ps t p) (hh t e) j :=
  (Pay.dot_at _ _ p _).trans (Finset.sum_congr rfl fun k _ =>
    Ideal.mul_congr ((x_blk m c t p k).trans (x_at m c _ k)) ((w_blk m c t k e j).trans (w_at m c k _)))

/-- The head's numbers in the reference. -/
abbrev hz (c : Dev nD) (t : Fin 256) (p : Fin 512) (e : Fin 4) : Fin 192 → EReal :=
  head (argX m c) (argR m c) (argW m c) (bt t p) (ps t p) (hh t e)

theorem hd_blk (c : Dev nD) (t : Fin 256) (p : Fin 512) (e : Fin 4) :
    hd (k0_pay4 (F := Ideal) (iblk m c 0 t) (iblk m c 1 t)) (iblk m c 2 t) p e = lay (hz m c t p e) := by
  funext j
  by_cases h : j.val < 128
  · have e1 : lay (hz m c t p e) j = hz m c t p e ⟨j.val, by omega⟩ := dif_pos (show j.val < 192 by omega)
    have e2 : hz m c t p e ⟨j.val, by omega⟩ = kv (argX m c) (argW m c) (bt t p) (ps t p) (hh t e) ⟨j.val, by omega⟩ := if_pos h
    rw [e1, e2]
    exact (dif_pos h).trans (dot_blk m c t p e ⟨j.val, by omega⟩)
  · have hr : ∀ k : Fin 192, ¬ k.val < 128 → hz m c t p e k = argR m c (ix3 (bt t p) (ps t p) (⟨k.val - 128, by omega⟩ : Fin 64)) :=
      fun k hk => if_neg hk
    refine (dif_neg h).trans ((r_blk m c t p _).trans ((r_dite m c _ _).trans ?_))
    unfold lay
    dsimp only
    repeat' split
    all_goals try (exfalso; omega)
    all_goals first
      | rfl
      | (rw [hr _ (by dsimp only; omega)]; exact congrArg (fun a => argR m c (ix3 (bt t p) (ps t p) a)) (Fin.ext (by dsimp only; omega)))
      | (rw [hr _ (by dsimp only; omega)])

theorem g_lay (c : Dev nD) (t : Fin 256) : (fun k => (show EReal from iblk m c 3 t (ix2 (0 : Fin 1) k))) = lay (fun e => argG m c (ix1 e)) :=
  funext fun k => (g_blk m c t k).trans (g_at m c k)

theorem pos_eq (t : Fin 256) (p : Fin 512) : pos t p = ps t p :=
  Fin.ext (by show t.val / 4 % 8 * 512 + p.val = (t.val / 4 * 512 + p.val) % 4096; omega)

theorem cos_lay (c : Dev nD) (t : Fin 256) (p : Fin 512) :
    (fun k => (show EReal from iblk m c 4 t (ix2 p k))) = cosLanes (cosAt (ps t p)) :=
  (funext fun k => (cos_blk m c t p k).trans (cos_at m c _ k)).trans (congrArg (fun l => cosLanes (cosAt l)) (pos_eq t p))

theorem sin_lay (c : Dev nD) (t : Fin 256) (p : Fin 512) :
    (fun k => (show EReal from iblk m c 5 t (ix2 p k))) = sinLanes (sinAt (ps t p)) :=
  (funext fun k => (sin_blk m c t p k).trans (sin_at m c _ k)).trans (congrArg (fun l => sinLanes (sinAt l)) (pos_eq t p))

/-! ## The keys -/

abbrev REFK (c : Dev nD) : FVec Ideal Cert.KeyvalRefIdeal.S32768x4096 .bf16 :=
  Cert.KeyvalRefIdeal.Read.val_main_v60 (F := Ideal) (argX m c) (argR m c) (argW m c) (argG m c)
abbrev REFV (c : Dev nD) : FVec Ideal Cert.KeyvalRefIdeal.S32768x4096 .bf16 :=
  Cert.KeyvalRefIdeal.Read.val_main_v63 (F := Ideal) (argX m c) (argW m c)

/-- The column of the results at lane `d` of the point's head `e`. -/
theorem col_eq (t : Fin 256) (e : Fin 4) (d : Fin 256) (j : Fin 1024) (h : j.val = e.val * 256 + d.val) :
    (⟨t.val % 4 * 1024 + j.val, by omega⟩ : Fin 4096) = ⟨(hh t e).val * 256 + d.val, by dsimp only; omega⟩ :=
  Fin.ext (by show t.val % 4 * 1024 + j.val = (t.val % 4 * 4 + e.val) * 256 + d.val; omega)

theorem ref_at (c : Dev nD) (t : Fin 256) (p : Fin 512) (e : Fin 4) (d : Fin 256) (j : Fin 1024) (h : j.val = e.val * 256 + d.val) :
    REFK m c (ix2 (row t p) (⟨t.val % 4 * 1024 + j.val, by omega⟩ : Fin 4096))
      = headRef SC (hz m c t p e) (fun k => argG m c (ix1 k)) (cosAt (ps t p)) (sinAt (ps t p)) d := by
  rw [show SC = 1 from Ideal.ofBits_one_f32]
  exact (congrArg (fun a => REFK m c (ix2 (row t p) a)) (col_eq t e d j h)).trans (key_at (argX m c) (argR m c) (argW m c) (argG m c) (row t p) (hh t e) d)

theorem nope_el (c : Dev nD) (t : Fin 256) (p : Fin 512) (e : Fin 4) (d : Fin 128) (j : Fin 1024) (h : j.val = e.val * 256 + d.val) :
    kNope SC (hd (k0_pay4 (F := Ideal) (iblk m c 0 t) (iblk m c 1 t)) (iblk m c 2 t) p e) (fun k => (show EReal from iblk m c 3 t (ix2 (0 : Fin 1) k))) d
      = REFK m c (ix2 (row t p) (⟨t.val % 4 * 1024 + j.val, by omega⟩ : Fin 4096)) := by
  rw [ref_at m c t p e ⟨d.val, by omega⟩ j h, hd_blk, g_lay]
  exact nope_eq SC _ _ _ _ d

theorem rope_el (c : Dev nD) (t : Fin 256) (p : Fin 512) (e : Fin 4) (d : Fin 128) (j : Fin 1024) (h : j.val = e.val * 256 + 128 + d.val) :
    kRope SC (hd (k0_pay4 (F := Ideal) (iblk m c 0 t) (iblk m c 1 t)) (iblk m c 2 t) p e) (fun k => (show EReal from iblk m c 3 t (ix2 (0 : Fin 1) k)))
        (fun k => (show EReal from iblk m c 4 t (ix2 p k))) (fun k => (show EReal from iblk m c 5 t (ix2 p k))) d
      = REFK m c (ix2 (row t p) (⟨t.val % 4 * 1024 + j.val, by omega⟩ : Fin 4096)) := by
  rw [ref_at m c t p e ⟨128 + d.val, by omega⟩ j (by dsimp only; omega), hd_blk, g_lay, cos_lay, sin_lay]
  exact rope_eq SC _ _ _ _ d

/-- The keys' stored block at a row and a column. -/
theorem key_el (c : Dev nD) (t : Fin 256) (p : Fin 512) (j : Fin 1024) :
    out0_6 (F := Ideal) (iblk m c 0 t) (iblk m c 1 t) (iblk m c 2 t) (iblk m c 3 t) (iblk m c 4 t) (iblk m c 5 t) (ix2 p j)
      = REFK m c (ix2 (row t p) (⟨t.val % 4 * 1024 + j.val, by omega⟩ : Fin 4096)) := by
  unfold_out out0_6
  frame_out
  canon_tiles x h using cover0_6 _ _ _ _ _ _ _ _ _
  case piece0 =>
    obtain ⟨q, d, rfl⟩ : ∃ (q : Fin 512) (d : Fin 128), x = ix2 q d := ⟨x 0, x 1, eq_ix2 x⟩
    obtain rfl : p = q := Fin.ext h0
    exact (rope3 _ _ _ _ _ p d).trans (rope_el m c t p 3 d j h1)
  case piece1 =>
    obtain ⟨q, d, rfl⟩ : ∃ (q : Fin 512) (d : Fin 128), x = ix2 q d := ⟨x 0, x 1, eq_ix2 x⟩
    obtain rfl : p = q := Fin.ext h0
    exact (nope3 _ _ _ p d).trans (nope_el m c t p 3 d j h1)
  case piece2 =>
    obtain ⟨q, d, rfl⟩ : ∃ (q : Fin 512) (d : Fin 128), x = ix2 q d := ⟨x 0, x 1, eq_ix2 x⟩
    obtain rfl : p = q := Fin.ext h0
    exact (rope2 _ _ _ _ _ p d).trans (rope_el m c t p 2 d j h1)
  case piece3 =>
    obtain ⟨q, d, rfl⟩ : ∃ (q : Fin 512) (d : Fin 128), x = ix2 q d := ⟨x 0, x 1, eq_ix2 x⟩
    obtain rfl : p = q := Fin.ext h0
    exact (nope2 _ _ _ p d).trans (nope_el m c t p 2 d j h1)
  case piece4 =>
    obtain ⟨q, d, rfl⟩ : ∃ (q : Fin 512) (d : Fin 128), x = ix2 q d := ⟨x 0, x 1, eq_ix2 x⟩
    obtain rfl : p = q := Fin.ext h0
    exact (rope1 _ _ _ _ _ p d).trans (rope_el m c t p 1 d j h1)
  case piece5 =>
    obtain ⟨q, d, rfl⟩ : ∃ (q : Fin 512) (d : Fin 128), x = ix2 q d := ⟨x 0, x 1, eq_ix2 x⟩
    obtain rfl : p = q := Fin.ext h0
    exact (nope1 _ _ _ p d).trans (nope_el m c t p 1 d j h1)
  case piece6 =>
    obtain ⟨q, d, rfl⟩ : ∃ (q : Fin 512) (d : Fin 128), x = ix2 q d := ⟨x 0, x 1, eq_ix2 x⟩
    obtain rfl : p = q := Fin.ext h0
    exact (rope0 _ _ _ _ _ _ p d).trans (rope_el m c t p 0 d j (h1.trans (by simp)))
  case piece7 =>
    obtain ⟨q, d, rfl⟩ : ∃ (q : Fin 512) (d : Fin 128), x = ix2 q d := ⟨x 0, x 1, eq_ix2 x⟩
    obtain rfl : p = q := Fin.ext h0
    exact (nope0 _ _ _ _ p d).trans (nope_el m c t p 0 d j (h1.trans (by simp)))

/-! ## The values -/

theorem refv_at (c : Dev nD) (t : Fin 256) (p : Fin 512) (e : Fin 4) (d : Fin 256) (j : Fin 1024) (h : j.val = e.val * 256 + d.val) :
    REFV m c (ix2 (row t p) (⟨t.val % 4 * 1024 + j.val, by omega⟩ : Fin 4096))
      = valueRef (kv (argX m c) (argW m c) (bt t p) (ps t p) (hh t e)) d :=
  (congrArg (fun a => REFV m c (ix2 (row t p) a)) (col_eq t e d j h)).trans (val_at (argX m c) (argW m c) (row t p) (hh t e) d)

theorem val_el (c : Dev nD) (t : Fin 256) (p : Fin 512) (e : Fin 4) (d : Fin 128) (j : Fin 1024) (h : j.val = e.val * 256 + d.val) :
    k0_pay4 (F := Ideal) (iblk m c 0 t) (iblk m c 1 t) (ix2 p (⟨e.val * 256 + (128 + d.val), by omega⟩ : Fin 1024))
      = REFV m c (ix2 (row t p) (⟨t.val % 4 * 1024 + j.val, by omega⟩ : Fin 4096)) := by
  rw [refv_at m c t p e ⟨d.val, by omega⟩ j h]
  refine (dot_blk m c t p e ⟨128 + d.val, by omega⟩).trans ?_
  unfold valueRef
  dsimp only
  split
  · rfl
  · omega

theorem one_el (c : Dev nD) (t : Fin 256) (p : Fin 512) (e : Fin 4) (d : Fin 128) (j : Fin 1024) (h : j.val = e.val * 256 + 128 + d.val) :
    k0_pay9 (F := Ideal) (ix2 p d) = REFV m c (ix2 (row t p) (⟨t.val % 4 * 1024 + j.val, by omega⟩ : Fin 4096)) := by
  rw [refv_at m c t p e ⟨128 + d.val, by omega⟩ j (by dsimp only; omega), ones]
  unfold valueRef
  dsimp only
  repeat' split
  all_goals first
    | rfl
    | (exfalso; omega)

/-- The values' stored block at a row and a column. -/
theorem value_el (c : Dev nD) (t : Fin 256) (p : Fin 512) (j : Fin 1024) :
    out0_7 (F := Ideal) (iblk m c 0 t) (iblk m c 1 t) (iblk m c 2 t) (iblk m c 3 t) (iblk m c 4 t) (iblk m c 5 t) (ix2 p j)
      = REFV m c (ix2 (row t p) (⟨t.val % 4 * 1024 + j.val, by omega⟩ : Fin 4096)) := by
  unfold_out out0_7
  frame_out
  canon_tiles x h using cover0_7 _ _ _ _ _ _ _ _ _
  case piece0 =>
    obtain ⟨q, d, rfl⟩ : ∃ (q : Fin 512) (d : Fin 128), x = ix2 q d := ⟨x 0, x 1, eq_ix2 x⟩
    obtain rfl : p = q := Fin.ext h0
    exact one_el m c t p 3 d j h1
  case piece1 =>
    obtain ⟨q, d, rfl⟩ : ∃ (q : Fin 512) (d : Fin 128), x = ix2 q d := ⟨x 0, x 1, eq_ix2 x⟩
    obtain rfl : p = q := Fin.ext h0
    exact (value3 _ p d).trans (val_el m c t p 3 d j h1)
  case piece2 =>
    obtain ⟨q, d, rfl⟩ : ∃ (q : Fin 512) (d : Fin 128), x = ix2 q d := ⟨x 0, x 1, eq_ix2 x⟩
    obtain rfl : p = q := Fin.ext h0
    exact one_el m c t p 2 d j h1
  case piece3 =>
    obtain ⟨q, d, rfl⟩ : ∃ (q : Fin 512) (d : Fin 128), x = ix2 q d := ⟨x 0, x 1, eq_ix2 x⟩
    obtain rfl : p = q := Fin.ext h0
    exact (value2 _ p d).trans (val_el m c t p 2 d j h1)
  case piece4 =>
    obtain ⟨q, d, rfl⟩ : ∃ (q : Fin 512) (d : Fin 128), x = ix2 q d := ⟨x 0, x 1, eq_ix2 x⟩
    obtain rfl : p = q := Fin.ext h0
    exact one_el m c t p 1 d j h1
  case piece5 =>
    obtain ⟨q, d, rfl⟩ : ∃ (q : Fin 512) (d : Fin 128), x = ix2 q d := ⟨x 0, x 1, eq_ix2 x⟩
    obtain rfl : p = q := Fin.ext h0
    exact (value1 _ p d).trans (val_el m c t p 1 d j h1)
  case piece6 =>
    obtain ⟨q, d, rfl⟩ : ∃ (q : Fin 512) (d : Fin 128), x = ix2 q d := ⟨x 0, x 1, eq_ix2 x⟩
    obtain rfl : p = q := Fin.ext h0
    exact one_el m c t p 0 d j (h1.trans (by simp))
  case piece7 =>
    obtain ⟨q, d, rfl⟩ : ∃ (q : Fin 512) (d : Fin 128), x = ix2 q d := ⟨x 0, x 1, eq_ix2 x⟩
    obtain rfl : p = q := Fin.ext h0
    refine (value0 _ _ p d).trans (Eq.trans (congrArg (fun a => k0_pay4 (F := Ideal) _ _ (ix2 p a)) (Fin.ext ?_)) (val_el m c t p 0 d j (h1.trans (by simp))))
    show 128 + d.val = 0 * 256 + (128 + d.val)
    omega

/-! ## The results -/

theorem final0 (c : Dev nD) : (dats m 0 c).arrAt 6 (cfgs 0).N = REFK m c := by
  refine (dats m 0 c).arrAt_eq_of_covers 6 _ (by decide +kernel) fun t _ y => ?_
  blk_simp
  rw [after0_6]
  obtain ⟨i, j, rfl⟩ : ∃ (i : Fin 512) (j : Fin 1024), y = ix2 i j := ⟨y 0, y 1, eq_ix2 y⟩
  exact (key_el m c t i j).trans (congrArg (REFK m c) (key_emb t i j)).symm

theorem final1 (c : Dev nD) : (dats m 0 c).arrAt 7 (cfgs 0).N = REFV m c := by
  refine (dats m 0 c).arrAt_eq_of_covers 7 _ (by decide +kernel) fun t _ y => ?_
  blk_simp
  rw [after0_7]
  obtain ⟨i, j, rfl⟩ : ∃ (i : Fin 512) (j : Fin 1024), y = ix2 i j := ⟨y 0, y 1, eq_ix2 y⟩
  exact (value_el m c t i j).trans (congrArg (REFV m c) (value_emb t i j)).symm

end Cert.KeyvalIdeal.Final
end
-- ==== Proof.Hyena.FilterRef.lean ====
/- The reference of the Hyena layer's filters, read at a position and a channel. -/
module

public import proofs.«01_k».proof.Proof.Gen.FilterRefIdeal.Read
public import Idealize.ShloMosaic.Lib.Pointwise

@[expose] public section

set_option maxRecDepth 16384

noncomputable section

namespace Cert.FilterRefIdeal.At

open Cert.FilterRefIdeal Cert.FilterRefIdeal.Gen Cert.FilterRefIdeal.Read Idealize.ShloMosaic Idealize.ShloMosaic.TcCoe

variable (w1 : FVec Ideal S33x64 .f32) (b1 : FVec Ideal S64 .f32) (wh : FVec Ideal S2x64x64 .f32) (bh : FVec Ideal S2x64 .f32)
  (fr : FVec Ideal S3x64 .f32) (wo : FVec Ideal S64x4096 .f32)

/-- The positional features, the time and the decay rates: they take no arguments. -/
abbrev feat : FVec Ideal S4096x33 .f32 := val_main_v19 (F := Ideal)
abbrev time : FVec Ideal S4096x1 .f32 := val_main_v1 (F := Ideal)
abbrev rate : FVec Ideal S2048 .f32 := val_main_v60 (F := Ideal)

/-- The sine of a frequency times a sum with its bias. -/
def wave (f s b : EReal) : EReal := Ideal.sin (f * (s + b))

/-- The three hidden layers of the filter network at position `l`. -/
def hid1 (l : Fin 4096) (j : Fin 64) : EReal := wave (fr (ix2 (0 : Fin 3) j)) (∑ k : Fin 33, feat (ix2 l k) * w1 (ix2 k j)) (b1 (ix1 j))
def hid2 (l : Fin 4096) (j : Fin 64) : EReal :=
  wave (fr (ix2 (1 : Fin 3) j)) (∑ k : Fin 64, hid1 w1 b1 fr l k * wh (ix3 (0 : Fin 2) k j)) (bh (ix2 (0 : Fin 2) j))
def hid3 (l : Fin 4096) (j : Fin 64) : EReal :=
  wave (fr (ix2 (2 : Fin 3) j)) (∑ k : Fin 64, hid2 w1 b1 wh bh fr l k * wh (ix3 (1 : Fin 2) k j)) (bh (ix2 (1 : Fin 2) j))

/-- The filters of both directions before their decay: columns below 2048 forward, the others backward. -/
def raw (l d : Fin 4096) : EReal := ∑ k : Fin 64, hid3 w1 b1 wh bh fr l k * wo (ix2 k d)

/-- The decay of column `d` at position `l`. -/
def decay (l d : Fin 4096) : EReal := Ideal.exp (-(time (ix2 l (0 : Fin 1))) * rate (ix1 (⟨d.val % 2048, by omega⟩ : Fin 2048)))

theorem hid1_at (l : Fin 4096) (j : Fin 64) : val_main_v29 (F := Ideal) w1 b1 fr (ix2 l j) = hid1 w1 b1 fr l j := by
  unfold hid1 wave
  have e : val_main_v22 (F := Ideal) w1 (ix2 l j) = ∑ k : Fin 33, feat (ix2 l k) * w1 (ix2 k j) :=
    (val_main_v22_apply w1 _).trans (Finset.sum_congr rfl fun k _ => Ideal.mul_congr (congrArg feat (eq_ix2 _)) (congrArg w1 (eq_ix2 _)))
  pointwise [val_main_v29, val_main_v28, val_main_v27, val_main_v26, val_main_v25, val_main_v24, val_main_v23, val_main_v21, val_main_v20]
  rw [e]

theorem hid2_at (l : Fin 4096) (j : Fin 64) : val_main_v43 (F := Ideal) w1 b1 wh bh fr (ix2 l j) = hid2 w1 b1 wh bh fr l j := by
  unfold hid2 wave
  have e : val_main_v34 (F := Ideal) w1 b1 wh fr (ix2 l j) = ∑ k : Fin 64, hid1 w1 b1 fr l k * wh (ix3 (0 : Fin 2) k j) :=
    (val_main_v34_apply w1 b1 wh fr _).trans (Finset.sum_congr rfl fun k _ => Ideal.mul_congr
      ((congrArg (val_main_v29 (F := Ideal) w1 b1 fr) (eq_ix2 _)).trans (hid1_at w1 b1 fr l k)) (by
        rw [show ridx_main_v34 (ix2 l j) k = ix2 k j from eq_ix2 _]
        pointwise [val_main_v33, val_main_v32]))
  pointwise [val_main_v43, val_main_v42, val_main_v41, val_main_v40, val_main_v39, val_main_v38, val_main_v37, val_main_v36, val_main_v35,
    val_main_v31, val_main_v30]
  rw [e]

theorem hid3_at (l : Fin 4096) (j : Fin 64) : val_main_v57 (F := Ideal) w1 b1 wh bh fr (ix2 l j) = hid3 w1 b1 wh bh fr l j := by
  unfold hid3 wave
  have e : val_main_v48 (F := Ideal) w1 b1 wh bh fr (ix2 l j) = ∑ k : Fin 64, hid2 w1 b1 wh bh fr l k * wh (ix3 (1 : Fin 2) k j) :=
    (val_main_v48_apply w1 b1 wh bh fr _).trans (Finset.sum_congr rfl fun k _ => Ideal.mul_congr
      ((congrArg (val_main_v43 (F := Ideal) w1 b1 wh bh fr) (eq_ix2 _)).trans (hid2_at w1 b1 wh bh fr l k)) (by
        rw [show ridx_main_v48 (ix2 l j) k = ix2 k j from eq_ix2 _]
        pointwise [val_main_v47, val_main_v46]))
  pointwise [val_main_v57, val_main_v56, val_main_v55, val_main_v54, val_main_v53, val_main_v52, val_main_v51, val_main_v50, val_main_v49,
    val_main_v45, val_main_v44]
  rw [e]

theorem raw_at (l d : Fin 4096) : val_main_v58 (F := Ideal) w1 b1 wh bh fr wo (ix2 l d) = raw w1 b1 wh bh fr wo l d :=
  (val_main_v58_apply w1 b1 wh bh fr wo _).trans (Finset.sum_congr rfl fun k _ => Ideal.mul_congr
    ((congrArg (val_main_v57 (F := Ideal) w1 b1 wh bh fr) (eq_ix2 _)).trans (hid3_at w1 b1 wh bh fr l k)) (congrArg wo (eq_ix2 _)))

attribute [local irreducible] val_main_v58 val_main_v1 val_main_v60 raw

/-- The result: the decayed filters, with no lag 0 in the backward ones. -/
theorem result_at (l d : Fin 4096) :
    val_main_v80 (F := Ideal) w1 b1 wh bh fr wo (ix2 l d) = if 2048 ≤ d.val ∧ l.val = 0 then 0 else raw w1 b1 wh bh fr wo l d * decay l d := by
  have hr := fun l d => raw_at w1 b1 wh bh fr wo l d
  pointwise [val_main_v80, val_main_v79, val_main_v78, val_main_v77, val_main_v76, val_main_v75, val_main_v74, val_main_v73, val_main_v72,
    val_main_v71, val_main_v70, val_main_v69, val_main_v68, val_main_v67, val_main_v66, val_main_v65, val_main_v64, val_main_v63, val_main_v62,
    val_main_v61]
  unfold decay time rate
  split
  · rename_i h
    have hc : ¬(2048 ≤ d.val ∧ l.val = 0) := by omega
    refine Eq.trans ?_ (if_neg hc).symm
    have e : (⟨d.val, by omega⟩ : Fin 2048) = ⟨d.val % 2048, by omega⟩ := Fin.ext (by dsimp only; omega)
    exact Ideal.mul_congr (hr l d) (congrArg (fun i => Ideal.exp (-(val_main_v1 (F := Ideal) (ix2 l (0 : Fin 1))) * val_main_v60 (F := Ideal) (ix1 i))) e)
  split
  · rename_i h h0
    have hc : 2048 ≤ d.val ∧ l.val = 0 := by omega
    refine Eq.trans ?_ (if_pos hc).symm
    refine (val_main_cst_6_apply (F := Ideal) _).trans ?_
    pointwise
  · rename_i h h0
    have hc : ¬(2048 ≤ d.val ∧ l.val = 0) := by omega
    refine Eq.trans ?_ (if_neg hc).symm
    have e : (⟨d.val - 2048, by omega⟩ : Fin 2048) = ⟨d.val % 2048, by omega⟩ := Fin.ext (by dsimp only; omega)
    have e1 : (⟨1 + (l.val - 1), by omega⟩ : Fin 4096) = l := Fin.ext (by dsimp only; omega)
    have e2 : (⟨2048 + (d.val - 2048), by omega⟩ : Fin 4096) = d := Fin.ext (by dsimp only; omega)
    refine Ideal.mul_congr ((congrArg₂ (fun a b => val_main_v58 (F := Ideal) w1 b1 wh bh fr wo (ix2 a b)) e1 e2).trans (hr l d)) ?_
    exact congrArg₂ (fun a i => Ideal.exp (-(val_main_v1 (F := Ideal) (ix2 a (0 : Fin 1))) * val_main_v60 (F := Ideal) (ix1 i))) e1 e

end Cert.FilterRefIdeal.At

end
-- ==== Proof.Hyena.FilterHost.lean ====
/- The arrays the filter kernel is called with: the arguments and the positional features, padded with zeros to 128 lanes. -/
module

public import proofs.«01_k».proof.Proof.Gen.FilterIdeal.Value
public import proofs.«01_k».proof.Proof.Hyena.FilterRef
public import Idealize.ShloMosaic.Lib.StableHlo.ReadAt

@[expose] public section

set_option maxRecDepth 16384

noncomputable section

namespace Cert.FilterIdeal.Final

open Cert.FilterIdeal Cert.FilterIdeal.Gen Idealize.ShloMosaic Idealize.ShloMosaic.TcCoe Idealize.SL.Sem
open Cert.FilterRefIdeal.At (feat time rate)

variable (m : (ℓ : Loc nD τ sig) → Buf (Elt Ideal) ℓ)

/-- The arguments at their shapes. -/
abbrev argW1 (c : Dev nD) : FVec Ideal S33x64 .f32 := m ((c : Thread nD τ).loc main_arg0)
abbrev argB1 (c : Dev nD) : FVec Ideal S64 .f32 := m ((c : Thread nD τ).loc main_arg1)
abbrev argWh (c : Dev nD) : FVec Ideal S2x64x64 .f32 := m ((c : Thread nD τ).loc main_arg2)
abbrev argBh (c : Dev nD) : FVec Ideal S2x64 .f32 := m ((c : Thread nD τ).loc main_arg3)
abbrev argFr (c : Dev nD) : FVec Ideal S3x64 .f32 := m ((c : Thread nD τ).loc main_arg4)
abbrev argWo (c : Dev nD) : FVec Ideal S64x4096 .f32 := m ((c : Thread nD τ).loc main_arg5)

/-- The padding value is zero. -/
theorem pad_zero : (FloatOps.sitofp (F := Ideal) .f32 (0#32) : EReal) = 0 := by
  show (((0#32 : BitVec 32).toInt : ℝ) : EReal) = 0
  simp

theorem time_eq (c : Dev nD) : (show FVec Ideal S4096x1 .f32 from V m c main_v1) = time := by
  unfold V
  after_reads_at
  rfl

theorem cos_eq (c : Dev nD) : (show FVec Ideal S4096x16 .f32 from V m c main_v13) = Cert.FilterRefIdeal.Read.val_main_v13 (F := Ideal) := by
  unfold V
  after_reads_at
  rfl

theorem sin_eq (c : Dev nD) : (show FVec Ideal S4096x16 .f32 from V m c main_v18) = Cert.FilterRefIdeal.Read.val_main_v18 (F := Ideal) := by
  unfold V
  after_reads_at
  rfl

theorem rate_eq (c : Dev nD) : (show FVec Ideal S2048 .f32 from V m c main_v21) = rate := by
  unfold V
  after_reads_at
  rfl

set_option maxHeartbeats 1000000 in
/-- The padded features. -/
theorem z_at (c : Dev nD) (l : Fin 4096) (k : Fin 128) :
    (show EReal from V m c main_v24 (ix2 l k)) = if h : k.val < 33 then feat (ix2 l (⟨k.val, h⟩ : Fin 33)) else 0 := by
  have h0 := fun i => congrFun (time_eq m c) i
  have h1 := fun i => congrFun (cos_eq m c) i
  have h2 := fun i => congrFun (sin_eq m c) i
  unfold V at h0 h1 h2 ⊢
  after_reads_at
  unfold feat Cert.FilterRefIdeal.Read.val_main_v19
  pointwise
  split
  · split
    · refine Eq.trans ?_ (h0 _)
      clear h0 h1 h2
      after_reads_at
    split
    · refine Eq.trans ?_ (h1 _)
      clear h0 h1 h2
      after_reads_at
    · refine Eq.trans ?_ (h2 _)
      clear h0 h1 h2
      after_reads_at
  · exact pad_zero

theorem rate1_at (c : Dev nD) (d : Fin 2048) : (show EReal from V m c main_v22 (ix2 (0 : Fin 1) d)) = rate (ix1 d) := by
  have h0 := fun i => congrFun (rate_eq m c) i
  unfold V at h0 ⊢
  refine Eq.trans ?_ (h0 _)
  clear h0
  after_reads_at

/-- The decay rates, once for each direction. -/
theorem rate_at (c : Dev nD) (d : Fin 4096) :
    (show EReal from V m c main_v23 (ix2 (0 : Fin 1) d)) = rate (ix1 (⟨d.val % 2048, by omega⟩ : Fin 2048)) := by
  have h0 := fun d => rate1_at m c d
  refine (congrFun (?_ : (show FVec Ideal S1x4096 .f32 from V m c main_v23) = ?A) _).trans ?_
  rotate_left
  · unfold V
    after_reads_at
    exact rfl
  unfold V at h0
  pointwise
  split
  · rename_i h
    refine Eq.trans ?_ ((h0 ⟨d.val, h⟩).trans (congrArg (fun i => rate (ix1 i)) (Fin.ext (by dsimp only; omega))))
    clear h0
    after_reads_at
  · rename_i h
    refine Eq.trans ?_ ((h0 ⟨d.val - 2048, by omega⟩).trans (congrArg (fun i => rate (ix1 i)) (Fin.ext (by dsimp only; omega))))
    clear h0
    after_reads_at

theorem w1_at (c : Dev nD) (i j : Fin 128) :
    (show EReal from V m c main_v25 (ix2 i j)) = if h : i.val < 33 ∧ j.val < 64 then argW1 m c (ix2 (⟨i.val, h.1⟩ : Fin 33) (⟨j.val, h.2⟩ : Fin 64)) else 0 := by
  unfold V
  after_reads_at
  rw [pad_zero]

theorem b1_at (c : Dev nD) (j : Fin 128) :
    (show EReal from V m c main_v27 (ix2 (0 : Fin 1) j)) = if h : j.val < 64 then argB1 m c (ix1 (⟨j.val, h⟩ : Fin 64)) else 0 := by
  unfold V
  after_reads_at
  rw [pad_zero]

theorem wh_at (c : Dev nD) (a : Fin 2) (i j : Fin 128) :
    (show EReal from V m c main_v28 (ix3 a i j)) = if h : i.val < 64 ∧ j.val < 64 then argWh m c (ix3 a (⟨i.val, h.1⟩ : Fin 64) (⟨j.val, h.2⟩ : Fin 64)) else 0 := by
  unfold V
  after_reads_at
  rw [pad_zero]

theorem bh_at (c : Dev nD) (a : Fin 2) (j : Fin 128) :
    (show EReal from V m c main_v29 (ix2 a j)) = if h : j.val < 64 then argBh m c (ix2 a (⟨j.val, h⟩ : Fin 64)) else 0 := by
  unfold V
  after_reads_at
  rw [pad_zero]

theorem fr_at (c : Dev nD) (a : Fin 3) (j : Fin 128) :
    (show EReal from V m c main_v30 (ix2 a j)) = if h : j.val < 64 then argFr m c (ix2 a (⟨j.val, h⟩ : Fin 64)) else 0 := by
  unfold V
  after_reads_at
  rw [pad_zero]

theorem wo_at (c : Dev nD) (i : Fin 128) (d : Fin 4096) :
    (show EReal from V m c main_v31 (ix2 i d)) = if h : i.val < 64 then argWo m c (ix2 (⟨i.val, h⟩ : Fin 64) d) else 0 := by
  unfold V
  after_reads_at
  rw [pad_zero]

end Cert.FilterIdeal.Final

end
-- ==== Proof.Hyena.Filter.lean ====
/- The Hyena layer's filters: what the kernel writes is the reference's filters of both directions. -/
module

public import proofs.«01_k».proof.Proof.Hyena.FilterHost
public import Idealize.ShloMosaic.Lib.MatmulPlain
public import Idealize.ShloMosaic.Lib.Pipeline.ValueKit

@[expose] public section

set_option maxRecDepth 16384

noncomputable section

namespace Cert.FilterIdeal.Final

open Cert.FilterIdeal Cert.FilterIdeal.Gen Idealize.ShloMosaic Idealize.ShloMosaic.TcCoe Idealize.SL.Sem
open Idealize.ShloMosaic.Pipeline (Dat)
open Cert.FilterRefIdeal.At (feat time rate wave hid1 hid2 hid3 raw decay)

/-! ## Padded sums -/

/-- A sum over lanes whose second factor is zero from `n` on is the sum over the first `n`. -/
theorem pad_sum {N : ℕ} (n : ℕ) (hn : n ≤ N) (f g : Fin N → EReal) (hg : ∀ k : Fin N, n ≤ k.val → g k = 0) :
    ∑ k : Fin N, f k * g k = ∑ k : Fin n, f (k.castLE hn) * g (k.castLE hn) := by
  obtain ⟨d, rfl⟩ := Nat.exists_eq_add_of_le hn
  rw [Fin.sum_univ_add]
  have h0 : ∑ k : Fin d, f (Fin.natAdd n k) * g (Fin.natAdd n k) = 0 :=
    Finset.sum_eq_zero fun k _ => by rw [hg _ (Nat.le_add_right _ _), mul_zero]
  rw [h0, add_zero]
  rfl

/-! ## The stored values at an index -/

theorem dotA (h : FVec Ideal S4096x128 .f32) (w : FVec Ideal S128x128 .f32) (l : Fin 4096) (j : Fin 128) :
    matmul (F := Ideal) dot_S4096x128_S128x128_S4096x128_1_0_0_1_n_n (some .fp32) h w (constant (F := Ideal) S4096x128 .f32 0#32) (ix2 l j)
      = ∑ k : Fin 128, h (ix2 l k) * w (ix2 k j) :=
  (Ideal.matmul_plain_apply (some .fp32) h w _ l j).trans ((congrArg (· + _) (Ideal.ofBits_zero (φ := .f32))).trans (zero_add _))

theorem dotB (h : FVec Ideal S4096x128 .f32) (w : FVec Ideal S128x512 .f32) (l : Fin 4096) (j : Fin 512) :
    matmul (F := Ideal) dot_S4096x128_S128x512_S4096x512_1_0_0_1_n_n (some .fp32) h w (constant (F := Ideal) S4096x512 .f32 0#32) (ix2 l j)
      = ∑ k : Fin 128, h (ix2 l k) * w (ix2 k j) :=
  (Ideal.matmul_plain_apply (some .fp32) h w _ l j).trans ((congrArg (· + _) (Ideal.ofBits_zero (φ := .f32))).trans (zero_add _))

/-- The scratch's elements: three layers over padded lanes. -/
theorem hidden_at (fr0 fr1 fr2 b1 bh0 bh1 : FVec Ideal S1x128 .f32) (z : FVec Ideal S4096x128 .f32) (w1 : FVec Ideal S128x128 .f32)
    (wh0 wh1 : FVec Ideal S1x128x128 .f32) (l : Fin 4096) (j : Fin 128) :
    k0_pay1 (F := Ideal) (k0_pay3 (F := Ideal) fr2) (k0_pay4 (F := Ideal) fr0 z w1 b1 fr1 wh0 bh0 wh1 bh1) (ix2 l j)
      = wave (fr2 (ix2 (0 : Fin 1) j)) (∑ k : Fin 128,
          wave (fr1 (ix2 (0 : Fin 1) k)) (∑ i : Fin 128,
            wave (fr0 (ix2 (0 : Fin 1) i)) (∑ e : Fin 128, z (ix2 l e) * w1 (ix2 e i)) (b1 (ix2 (0 : Fin 1) i))
              * wh0 (ix3 (0 : Fin 1) i k)) (bh0 (ix2 (0 : Fin 1) k))
            * wh1 (ix3 (0 : Fin 1) k j)) (bh1 (ix2 (0 : Fin 1) j)) := by
  unfold wave
  pointwise [k0_pay1, k0_pay3, k0_pay4, dotA]

theorem row0 : ∀ l : Fin 4096, IntOp.cmpi .slt (BitVec.ofNat 32 l.val) 1#32 = if l.val = 0 then 1#1 else 0#1 := by decide +kernel
theorem rowN : ∀ l : Fin 4096, IntOp.cmpi .slt (BitVec.ofNat 32 l.val) 0#32 = 0#1 := by decide +kernel
theorem half_at : ∀ t : Fin cfg0.N,
    Scalar.select (Scalar.cmpi .sge (BitVec.ofNat 32 (grid0.coords t 0).val) 4#32) 1#32 0#32 = if 4 ≤ t.val then 1#32 else 0#32 :=
  (by decide +kernel : ∀ t : Fin grid0.N, _)

/-- The stored block: the product of the hidden rows with a block of the output weights, decayed; the backward blocks have a zero row 0. -/
theorem block_at (t : Fin cfg0.N) (h : FVec Ideal S4096x128 .f32) (w : FVec Ideal S128x512 .f32) (s : FVec Ideal S4096x1 .f32) (r : FVec Ideal S1x512 .f32)
    (l : Fin 4096) (q : Fin 512) :
    k0_pay2 (F := Ideal) (grid0.coords t) h w s r (ix2 l q)
      = if 4 ≤ t.val ∧ l.val = 0 then 0 else
          (∑ k : Fin 128, h (ix2 l k) * w (ix2 k q)) * Ideal.exp (-(s (ix2 l (0 : Fin 1))) * r (ix2 (0 : Fin 1) q)) := by
  have e0 : (0 : EReal) - s (ix2 l (0 : Fin 1)) = -(s (ix2 l (0 : Fin 1))) := zero_sub _
  pointwise [k0_pay2, dotB]
  rw [half_at t, e0]
  by_cases h1 : 4 ≤ t.val
  · rw [if_pos h1, row0 l]
    by_cases h2 : l.val = 0
    · rw [if_pos h2, if_pos ⟨h1, h2⟩]
      exact if_pos rfl
    · rw [if_neg h2, if_neg (fun h => h2 h.2)]
      exact if_neg (by decide)
  · rw [if_neg h1, rowN l, if_neg (fun h => h1 h.1)]
    exact if_neg (by decide)

/-! ## The blocks -/

variable (m : (ℓ : Loc nD τ sig) → Buf (Elt Ideal) ℓ)

theorem idx : ∀ t : Fin cfg0.N,
    win0_0.index t = ![0, 0] ∧ win0_1.index t = ![0, 0] ∧ win0_2.index t = ![0, 0] ∧ win0_3.index t = ![0, 0, 0] ∧ win0_4.index t = ![0, 0]
      ∧ win0_5.index t = ![0, 0] ∧ win0_6.index t = ![0, t.val] ∧ win0_7.index t = ![0, t.val] ∧ win0_8.index t = ![0, t.val] :=
  (by decide +kernel : ∀ t : Fin grid0.N, _)

/-- The column of the result that a point's block column is. -/
def colOf (t : Fin 8) (q : Fin 512) : Fin 4096 := ⟨t.val * 512 + q.val, by omega⟩

theorem z_blk (c : Dev nD) (t : Fin 8) (l : Fin 4096) (k : Fin 128) :
    (show EReal from iblk m c 0 t (ix2 l k)) = if h : k.val < 33 then feat (ix2 l (⟨k.val, h⟩ : Fin 33)) else 0 := by
  refine Eq.trans ?_ (z_at m c l k)
  blk_ext [iblk, idx t]

theorem w1_blk (c : Dev nD) (t : Fin 8) (i j : Fin 128) :
    (show EReal from iblk m c 1 t (ix2 i j)) = if h : i.val < 33 ∧ j.val < 64 then argW1 m c (ix2 (⟨i.val, h.1⟩ : Fin 33) (⟨j.val, h.2⟩ : Fin 64)) else 0 := by
  refine Eq.trans ?_ (w1_at m c i j)
  blk_ext [iblk, idx t]

theorem b1_blk (c : Dev nD) (t : Fin 8) (j : Fin 128) :
    (show EReal from iblk m c 2 t (ix2 (0 : Fin 1) j)) = if h : j.val < 64 then argB1 m c (ix1 (⟨j.val, h⟩ : Fin 64)) else 0 := by
  refine Eq.trans ?_ (b1_at m c j)
  blk_ext [iblk, idx t]

theorem wh_blk (c : Dev nD) (t : Fin 8) (a : Fin 2) (i j : Fin 128) :
    (show EReal from iblk m c 3 t (ix3 a i j)) = if h : i.val < 64 ∧ j.val < 64 then argWh m c (ix3 a (⟨i.val, h.1⟩ : Fin 64) (⟨j.val, h.2⟩ : Fin 64)) else 0 := by
  refine Eq.trans ?_ (wh_at m c a i j)
  blk_ext [iblk, idx t]

theorem bh_blk (c : Dev nD) (t : Fin 8) (a : Fin 2) (j : Fin 128) :
    (show EReal from iblk m c 4 t (ix2 a j)) = if h : j.val < 64 then argBh m c (ix2 a (⟨j.val, h⟩ : Fin 64)) else 0 := by
  refine Eq.trans ?_ (bh_at m c a j)
  blk_ext [iblk, idx t]

theorem fr_blk (c : Dev nD) (t : Fin 8) (a : Fin 3) (j : Fin 128) :
    (show EReal from iblk m c 5 t (ix2 a j)) = if h : j.val < 64 then argFr m c (ix2 a (⟨j.val, h⟩ : Fin 64)) else 0 := by
  refine Eq.trans ?_ (fr_at m c a j)
  blk_ext [iblk, idx t]

theorem wo_blk (c : Dev nD) (t : Fin 8) (i : Fin 128) (q : Fin 512) :
    (show EReal from iblk m c 6 t (ix2 i q)) = if h : i.val < 64 then argWo m c (ix2 (⟨i.val, h⟩ : Fin 64) (colOf t q)) else 0 := by
  refine Eq.trans ?_ (wo_at m c i _)
  blk_ext [iblk, idx t, colOf]

theorem rate_blk (c : Dev nD) (t : Fin 8) (q : Fin 512) :
    (show EReal from iblk m c 7 t (ix2 (0 : Fin 1) q)) = rate (ix1 (⟨(colOf t q).val % 2048, by omega⟩ : Fin 2048)) := by
  refine Eq.trans ?_ (rate_at m c _)
  blk_ext [iblk, idx t, colOf]

theorem out_emb (t : Fin 8) (l : Fin 4096) (q : Fin 512) : (((cfg0.win 8).blk t).view.emb (ix2 l q)) = ix2 l (colOf t q) := by
  blk_ext [idx t, colOf]

/-! ## The hidden lanes -/

/-- The third hidden layer over the kernel's arguments. -/
abbrev hid (c : Dev nD) (l : Fin 4096) (j : Fin 64) : EReal := hid3 (argW1 m c) (argB1 m c) (argWh m c) (argBh m c) (argFr m c) l j

theorem wave_congr {f f' s s' b b' : EReal} (hf : f = f') (hs : s = s') (hb : b = b') : wave f s b = wave f' s' b' := by
  subst hf hs hb
  rfl

/-- A lane below 64 of the padded layers is the reference's third hidden layer. -/
theorem lanes (c : Dev nD) (t : Fin 8) (fr0 fr1 fr2 b1 bh0 bh1 : FVec Ideal S1x128 .f32) (z : FVec Ideal S4096x128 .f32) (w1 : FVec Ideal S128x128 .f32)
    (wh0 wh1 : FVec Ideal S1x128x128 .f32)
    (hz : ∀ (l : Fin 4096) (k : Fin 128), z (ix2 l k) = iblk m c 0 t (ix2 l k)) (hw1 : ∀ i j : Fin 128, w1 (ix2 i j) = iblk m c 1 t (ix2 i j))
    (hb1 : ∀ j : Fin 128, b1 (ix2 (0 : Fin 1) j) = iblk m c 2 t (ix2 (0 : Fin 1) j))
    (hw0 : ∀ i j : Fin 128, wh0 (ix3 (0 : Fin 1) i j) = iblk m c 3 t (ix3 (0 : Fin 2) i j))
    (hw2 : ∀ i j : Fin 128, wh1 (ix3 (0 : Fin 1) i j) = iblk m c 3 t (ix3 (1 : Fin 2) i j))
    (hb0 : ∀ j : Fin 128, bh0 (ix2 (0 : Fin 1) j) = iblk m c 4 t (ix2 (0 : Fin 2) j))
    (hb2 : ∀ j : Fin 128, bh1 (ix2 (0 : Fin 1) j) = iblk m c 4 t (ix2 (1 : Fin 2) j))
    (hf0 : ∀ j : Fin 128, fr0 (ix2 (0 : Fin 1) j) = iblk m c 5 t (ix2 (0 : Fin 3) j))
    (hf1 : ∀ j : Fin 128, fr1 (ix2 (0 : Fin 1) j) = iblk m c 5 t (ix2 (1 : Fin 3) j))
    (hf2 : ∀ j : Fin 128, fr2 (ix2 (0 : Fin 1) j) = iblk m c 5 t (ix2 (2 : Fin 3) j))
    (l : Fin 4096) (j : Fin 64) :
    k0_pay1 (F := Ideal) (k0_pay3 (F := Ideal) fr2) (k0_pay4 (F := Ideal) fr0 z w1 b1 fr1 wh0 bh0 wh1 bh1) (ix2 l (j.castLE (by omega) : Fin 128)) = hid m c l j := by
  rw [hidden_at]
  have F : ∀ (a : Fin 3) (j : Fin 64), (show EReal from iblk m c 5 t (ix2 a (j.castLE (by omega) : Fin 128))) = argFr m c (ix2 a j) := fun a j =>
    (fr_blk m c t a _).trans (dif_pos j.isLt)
  have B : ∀ (a : Fin 2) (j : Fin 64), (show EReal from iblk m c 4 t (ix2 a (j.castLE (by omega) : Fin 128))) = argBh m c (ix2 a j) := fun a j =>
    (bh_blk m c t a _).trans (dif_pos j.isLt)
  have W : ∀ (a : Fin 2) (i j : Fin 64), (show EReal from iblk m c 3 t (ix3 a (i.castLE (by omega) : Fin 128) (j.castLE (by omega) : Fin 128))) = argWh m c (ix3 a i j) :=
    fun a i j => (wh_blk m c t a _ _).trans (dif_pos ⟨i.isLt, j.isLt⟩)
  have W0 : ∀ (a : Fin 2) (i j : Fin 128), 64 ≤ i.val → (show EReal from iblk m c 3 t (ix3 a i j)) = 0 :=
    fun a i j h => (wh_blk m c t a _ _).trans (dif_neg fun g => absurd g.1 (by omega))
  refine wave_congr ((hf2 _).trans (F 2 j)) ?_ ((hb2 _).trans (B 1 j))
  rw [pad_sum 64 (by omega) _ _ fun i h => (hw2 _ _).trans (W0 1 i _ h)]
  refine Finset.sum_congr rfl fun k _ => Ideal.mul_congr ?_ ((hw2 _ _).trans (W 1 k j))
  refine wave_congr ((hf1 _).trans (F 1 k)) ?_ ((hb0 _).trans (B 0 k))
  rw [pad_sum 64 (by omega) _ _ fun i h => (hw0 _ _).trans (W0 0 i _ h)]
  refine Finset.sum_congr rfl fun i _ => Ideal.mul_congr ?_ ((hw0 _ _).trans (W 0 i k))
  refine wave_congr ((hf0 _).trans (F 0 i)) ?_ ((hb1 _).trans ((b1_blk m c t _).trans (dif_pos i.isLt)))
  rw [pad_sum 33 (by omega) _ _ fun e h => (hw1 _ _).trans ((w1_blk m c t _ _).trans (dif_neg fun g => absurd g.1 (by omega)))]
  exact Finset.sum_congr rfl fun e _ => Ideal.mul_congr ((hz _ _).trans ((z_blk m c t l _).trans (dif_pos e.isLt)))
    ((hw1 _ _).trans ((w1_blk m c t _ _).trans (dif_pos ⟨e.isLt, i.isLt⟩)))

/-! ## The scratch -/

/-- The elements a load of one row, or of one matrix, reads. -/
theorem bh_ld0 (c : Dev nD) (t : Fin 8) (j : Fin 128) :
    (show FVec Ideal S1x128 .f32 from View.ld (iblk m c 4 t) (Rect.unit ![0, 0] ![1, 128] inb_S2x128_S1x128_0_0)) (ix2 (0 : Fin 1) j) = iblk m c 4 t (ix2 (0 : Fin 2) j) :=
  congrArg (iblk m c 4 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)))
theorem bh_ld1 (c : Dev nD) (t : Fin 8) (j : Fin 128) :
    (show FVec Ideal S1x128 .f32 from View.ld (iblk m c 4 t) (Rect.unit ![1, 0] ![1, 128] inb_S2x128_S1x128_1_0)) (ix2 (0 : Fin 1) j) = iblk m c 4 t (ix2 (1 : Fin 2) j) :=
  congrArg (iblk m c 4 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)))
theorem fr_ld0 (c : Dev nD) (t : Fin 8) (j : Fin 128) :
    (show FVec Ideal S1x128 .f32 from View.ld (iblk m c 5 t) (Rect.unit ![0, 0] ![1, 128] inb_S3x128_S1x128_0_0)) (ix2 (0 : Fin 1) j) = iblk m c 5 t (ix2 (0 : Fin 3) j) :=
  congrArg (iblk m c 5 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)))
theorem fr_ld1 (c : Dev nD) (t : Fin 8) (j : Fin 128) :
    (show FVec Ideal S1x128 .f32 from View.ld (iblk m c 5 t) (Rect.unit ![1, 0] ![1, 128] inb_S3x128_S1x128_1_0)) (ix2 (0 : Fin 1) j) = iblk m c 5 t (ix2 (1 : Fin 3) j) :=
  congrArg (iblk m c 5 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)))
theorem fr_ld2 (c : Dev nD) (t : Fin 8) (j : Fin 128) :
    (show FVec Ideal S1x128 .f32 from View.ld (iblk m c 5 t) (Rect.unit ![2, 0] ![1, 128] inb_S3x128_S1x128_2_0)) (ix2 (0 : Fin 1) j) = iblk m c 5 t (ix2 (2 : Fin 3) j) :=
  congrArg (iblk m c 5 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)))
theorem wh_ld0 (c : Dev nD) (t : Fin 8) (i j : Fin 128) :
    (show FVec Ideal S1x128x128 .f32 from View.ld (iblk m c 3 t) (Rect.unit ![0, 0, 0] ![1, 128, 128] inb_S2x128x128_S1x128x128_0_0_0)) (ix3 (0 : Fin 1) i j) = iblk m c 3 t (ix3 (0 : Fin 2) i j) :=
  congrArg (iblk m c 3 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)
    | ⟨2, _⟩ => exact (Rect.idx_unit_val _ _ _ _ _).trans (Nat.zero_add _)))
theorem wh_ld1 (c : Dev nD) (t : Fin 8) (i j : Fin 128) :
    (show FVec Ideal S1x128x128 .f32 from View.ld (iblk m c 3 t) (Rect.unit ![1, 0, 0] ![1, 128, 128] inb_S2x128x128_S1x128x128_1_0_0)) (ix3 (0 : Fin 1) i j) = iblk m c 3 t (ix3 (1 : Fin 2) i j) :=
  congrArg (iblk m c 3 t) (funext fun x => Fin.ext (by
    match x with
    | ⟨0, _⟩ => exact (Rect.idx_unit_val _ _ _ _ _).trans (Nat.add_zero _)
    | ⟨1, _⟩ => exact (Rect.idx_unit_val _ _ _ _ _).trans (Nat.zero_add _)
    | ⟨2, _⟩ => exact (Rect.idx_unit_val _ _ _ _ _).trans (Nat.zero_add _)))

/-- The scratch after a grid point. -/
def scr (c : Dev nD) (t : Fin 8) : FVec Ideal S4096x128 .f32 := (outsAt0 m c t.val t.isLt).2

theorem scr_first (c : Dev nD) (t : Fin 8) (h : t.val % 8 = 0) (l : Fin 4096) (j : Fin 64) :
    scr m c t (ix2 l (j.castLE (by omega) : Fin 128)) = hid m c l j := by
  unfold scr
  rw [outsAt0_A m c t h]
  dsimp only
  unfold sout0_A_0
  frame_out
  exact lanes m c t _ _ _ _ _ _ _ _ _ _ (fun _ _ => rfl) (fun _ _ => rfl) (fun _ => rfl) (wh_ld0 m c t) (wh_ld1 m c t) (bh_ld0 m c t) (bh_ld1 m c t)
    (fr_ld0 m c t) (fr_ld1 m c t) (fr_ld2 m c t) l j

theorem scr_next (c : Dev nD) (n : ℕ) (h : n + 1 < 8) : scr m c ⟨n + 1, h⟩ = scr m c ⟨n, by omega⟩ := by
  unfold scr
  rw [outsAt0_B m c ⟨n + 1, h⟩ (by dsimp only; omega)]
  rfl

/-- The lanes below 64 of the scratch hold the third hidden layer. -/
theorem scr_at (c : Dev nD) (n : ℕ) (h : n < 8) (l : Fin 4096) (j : Fin 64) : scr m c ⟨n, h⟩ (ix2 l (j.castLE (by omega) : Fin 128)) = hid m c l j := by
  induction n with
  | zero => exact scr_first m c ⟨0, h⟩ rfl l j
  | succ n ih =>
    rw [scr_next m c n h]
    exact ih (by omega)

/-! ## The result -/

/-- What a grid point stores, over the scratch it leaves. -/
def stored (c : Dev nD) (t : Fin 8) (s : FVec Ideal S4096x1 .f32) : FVec Ideal S4096x512 .bf16 :=
  k0_pay2 (F := Ideal) (grid0.coords t) (scr m c t) (iblk m c 6 t) s (iblk m c 7 t)

theorem stored_congr (c : Dev nD) (t : Fin 8) (h : FVec Ideal S4096x128 .f32) (s : FVec Ideal S4096x1 .f32) (e : h = scr m c t) :
    k0_pay2 (F := Ideal) (grid0.coords t) h (iblk m c 6 t) s (iblk m c 7 t) = stored m c t s := by
  subst e
  rfl

/-- The first lane of the features. -/
def lane0 (c : Dev nD) (t : Fin 8) : FVec Ideal S4096x1 .f32 :=
  View.ld (iblk m c 0 t) (Rect.unit (s := S4096x128) ![0, 0] ![4096, 1] inb_S4096x128_S4096x1_0_0)

theorem lane0_at (c : Dev nD) (t : Fin 8) (l : Fin 4096) : lane0 m c t (ix2 l (0 : Fin 1)) = time (ix2 l (0 : Fin 1)) := by
  have e : (Rect.unit (s := S4096x128) ![0, 0] ![4096, 1] inb_S4096x128_S4096x1_0_0).toLoadRect.idx (ix2 l (0 : Fin 1)) = ix2 l (0 : Fin 128) :=
    funext fun x => Fin.ext (by
      match x with
      | ⟨0, _⟩ => exact (Rect.idx_unit_val _ _ _ _ _).trans (Nat.zero_add _)
      | ⟨1, _⟩ => exact (Rect.idx_unit_val _ _ _ _ _).trans (Nat.zero_add _))
  refine (congrArg (iblk m c 0 t) e).trans ((z_blk m c t l 0).trans ((dif_pos (by decide)).trans ?_))
  unfold feat Cert.FilterRefIdeal.Read.val_main_v19
  pointwise

theorem out_first (c : Dev nD) (t : Fin 8) (h : t.val % 8 = 0) : (outsAt0 m c t.val t.isLt).1 = stored m c t (lane0 m c t) := by
  rw [outsAt0_A m c t h]
  dsimp only
  unfold out0_A_8
  frame_out
  refine stored_congr m c t _ _ ?_
  refine funext fun y => ?_
  unfold scr
  rw [outsAt0_A m c t h]
  dsimp only
  unfold sout0_A_0
  frame_out

theorem out_next (c : Dev nD) (t : Fin 8) (h : ¬t.val % 8 = 0) : (outsAt0 m c t.val t.isLt).1 = stored m c t (lane0 m c t) := by
  rw [outsAt0_B m c t h]
  dsimp only
  unfold out0_B_8
  frame_out
  refine stored_congr m c t _ _ ?_
  unfold scr
  rw [outsAt0_B m c t h]
  exact Memref.IsWhole.read_unread _ _

/-- The reference's result over the kernel's arguments. -/
abbrev REF (c : Dev nD) : FVec Ideal Cert.FilterRefIdeal.S4096x4096 .bf16 :=
  Cert.FilterRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The product of the hidden rows with a block of the padded output weights. -/
theorem raw_eq (c : Dev nD) (t : Fin 8) (l : Fin 4096) (q : Fin 512) (w : FVec Ideal S128x512 .f32) (hw : w = iblk m c 6 t) :
    ∑ k : Fin 128, scr m c t (ix2 l k) * w (ix2 k q) = raw (argW1 m c) (argB1 m c) (argWh m c) (argBh m c) (argFr m c) (argWo m c) l (colOf t q) := by
  subst hw
  rw [pad_sum 64 (by omega) _ _ fun i h => (wo_blk m c t i q).trans (dif_neg (by omega))]
  exact Finset.sum_congr rfl fun k _ => Ideal.mul_congr (scr_at m c t.val t.isLt l k) ((wo_blk m c t _ q).trans (dif_pos k.isLt))

/-- An element of the stored block is the reference's. -/
theorem stored_at (c : Dev nD) (t : Fin 8) (l : Fin 4096) (q : Fin 512) : stored m c t (lane0 m c t) (ix2 l q) = REF m c (ix2 l (colOf t q)) := by
  refine Eq.trans ?_ (Cert.FilterRefIdeal.At.result_at (argW1 m c) (argB1 m c) (argWh m c) (argBh m c) (argFr m c) (argWo m c) l (colOf t q)).symm
  refine (block_at t _ _ _ _ l q).trans ?_
  have hc : (4 ≤ t.val ∧ l.val = 0) ↔ (2048 ≤ (colOf t q).val ∧ l.val = 0) := by
    simp only [colOf]
    omega
  have hv : (∑ k : Fin 128, scr m c t (ix2 l k) * (iblk m c 6 t : FVec Ideal S128x512 .f32) (ix2 k q))
        * Ideal.exp (-(lane0 m c t (ix2 l (0 : Fin 1))) * (iblk m c 7 t : FVec Ideal S1x512 .f32) (ix2 (0 : Fin 1) q))
      = raw (argW1 m c) (argB1 m c) (argWh m c) (argBh m c) (argFr m c) (argWo m c) l (colOf t q) * decay l (colOf t q) :=
    Ideal.mul_congr (raw_eq m c t l q _ rfl) (congrArg₂ (fun a b => Ideal.exp (-a * b)) (lane0_at m c t l) (rate_blk m c t q))
  by_cases h : 4 ≤ t.val ∧ l.val = 0
  · exact (if_pos h).trans (if_pos (hc.mp h)).symm
  · exact (if_neg h).trans (hv.trans (if_neg (fun g => h (hc.mpr g))).symm)

/-- The kernel's result array is the reference's. -/
theorem final (c : Dev nD) : (dats m 0 c).arrAt 8 (cfgs 0).N = REF m c := by
  refine (dats m 0 c).arrAt_eq_of_covers 8 _ (by decide +kernel) fun t _ y => ?_
  blk_simp
  rw [after0_8]
  obtain ⟨l, q, rfl⟩ : ∃ (l : Fin 4096) (q : Fin 512), y = ix2 l q := ⟨y 0, y 1, eq_ix2 y⟩
  refine Eq.trans ?_ ((stored_at m c t l q).trans (congrArg (REF m c) (out_emb t l q)).symm)
  by_cases h : t.val % 8 = 0
  · exact congrFun (out_first m c t h) (ix2 l q)
  · exact congrFun (out_next m c t h) (ix2 l q)

end Cert.FilterIdeal.Final

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Sconv.Frame
public import proofs.«01_k».proof.Proof.Gen.SconvIdeal.Frame
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Hyena.Frame
public import proofs.«01_k».proof.Proof.Gen.HyenaIdeal.Frame
public import proofs.«01_k».proof.Proof.Gen.HyenaRefIdeal.Run
public import proofs.«01_k».proof.Proof.Gen.HyenaRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.Keyval.Frame
public import proofs.«01_k».proof.Proof.Gen.KeyvalIdeal.Frame
public import proofs.«01_k».proof.Proof.Gen.KeyvalIdeal.Value
public import proofs.«01_k».proof.Proof.Gen.KeyvalRefIdeal.Run
public import proofs.«01_k».proof.Proof.Gen.KeyvalRefIdeal.Read
public import proofs.«01_k».proof.Proof.Gen.Filter.Frame
public import proofs.«01_k».proof.Proof.Gen.FilterIdeal.Frame
public import proofs.«01_k».proof.Proof.Gen.FilterIdeal.Value
public import proofs.«01_k».proof.Proof.Gen.FilterRefIdeal.Run
public import proofs.«01_k».proof.Proof.Gen.FilterRefIdeal.Read
public import proofs.«01_k».proof.Proof.Final
public import proofs.«01_k».proof.Proof.Finite
public import proofs.«01_k».proof.Proof.Conv.Out
public import proofs.«01_k».proof.Proof.Conv.Sconv
public import proofs.«01_k».proof.Proof.Conv.Hyena
public import proofs.«01_k».proof.Proof.Mla.Down
public import proofs.«01_k».proof.Proof.Mla.Query
public import proofs.«01_k».proof.Proof.Mla.Keyval
public import proofs.«01_k».proof.Proof.Hyena.Filter
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves its composed term of the arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v17) = Cert.ReferenceIdeal.Read.val_main_v17 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun r h c => ⟨(h c).1.trans (Cert.ReferenceIdeal.Read.val_main_v17_eq _ _ _), (h c).2⟩) (Cert.ReferenceIdeal.Value.run (F := Ideal) m g)

/-- The attention: kernel and reference leave the same result. -/
theorem attention : Cert.algebraic_KernelIdeal_ReferenceIdeal_pre_finite_scores (hKernelIdeal := Cert.KernelIdeal.Gen.facts) (hReferenceIdeal := Cert.ReferenceIdeal.Gen.facts) (hPre_finite_scores := Cert.Pre_finite_scores.Finite.facts) := by
  pair_intro
  · run_from Cert.KernelIdeal.Value.run_blocks m g
  · refine (θ_run _ _ _).mono (fun r h c => ⟨(h c).1.trans ?_, (h c).2⟩) (reference_run m' g')
    obtain ⟨h0, h1, h2⟩ := hagree c
    refine Eq.trans ?_ (Cert.KernelIdeal.Final.final m c (fun i => (Cert.Pre_finite_scores.Finite.real_of_fn (hpre c) i).1) fun i => (Cert.Pre_finite_scores.Finite.real_of_fn (hpre c) i).2).symm
    exact congr (congr (congrArg Cert.ReferenceIdeal.Read.val_main_v17 h0) h1) h2

/-- The reference's frame. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (reference_run m g)

/-- The same where queries and keys are finite. -/
theorem reference_frame_pre : Cert.quiescent_ReferenceIdeal_pre_finite_scores (hReferenceIdeal := Cert.ReferenceIdeal.Gen.facts) (hPre_finite_scores := Cert.Pre_finite_scores.Finite.facts) := by
  intro m g _
  exact (θ_run _ _ _).mono (fun r h => ⟨fun c => (h c).2, sem_eq_zero_of_no_sems (by decide) r.2⟩) (reference_run m g)

/-- The run of the reference of the short convolution. -/
theorem sconv_run (m : (ℓ : Loc Cert.SconvRefIdeal.nD Cert.SconvRefIdeal.τ Cert.SconvRefIdeal.sig) → Buf (Elt Ideal) ℓ) (g : Dev Cert.SconvRefIdeal.nD → PrngReg) :
    θ_run (Cert.SconvRefIdeal.defs (F := Ideal)) (onTc (τ := Cert.SconvRefIdeal.τ) (Cert.SconvRefIdeal.main (F := Ideal))) ⟨m, fun _ => 0, g⟩ (fun r => ∀ c : Dev Cert.SconvRefIdeal.nD,
      r.2.mem ((c.tc : Thread Cert.SconvRefIdeal.nD Cert.SconvRefIdeal.τ).loc Cert.SconvRefIdeal.main_v41) = Cert.SconvRefIdeal.Read.val_main_v41 (F := Ideal) (m ((c.tc : Thread Cert.SconvRefIdeal.nD Cert.SconvRefIdeal.τ).loc Cert.SconvRefIdeal.main_arg0)) (m ((c.tc : Thread Cert.SconvRefIdeal.nD Cert.SconvRefIdeal.τ).loc Cert.SconvRefIdeal.main_arg1)) (m ((c.tc : Thread Cert.SconvRefIdeal.nD Cert.SconvRefIdeal.τ).loc Cert.SconvRefIdeal.main_arg2)) (m ((c.tc : Thread Cert.SconvRefIdeal.nD Cert.SconvRefIdeal.τ).loc Cert.SconvRefIdeal.main_arg3))
      ∧ r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2)
      ∧ r.2.mem ((c.tc : Thread Cert.SconvRefIdeal.nD Cert.SconvRefIdeal.τ).loc Cert.SconvRefIdeal.main_arg3) = m ((c.tc : Thread Cert.SconvRefIdeal.nD Cert.SconvRefIdeal.τ).loc Cert.SconvRefIdeal.main_arg3)) :=
  (θ_run _ _ _).mono (fun r h c => ⟨(h c).1.trans (Cert.SconvRefIdeal.Read.val_main_v41_eq _ _), (h c).2⟩) (Cert.SconvRefIdeal.Value.run (F := Ideal) m g)

/-- The first half of the short convolution: kernel and reference leave the same result. -/
theorem short_convolution : Cert.algebraic_SconvIdeal_SconvRefIdeal (hSconvIdeal := Cert.SconvIdeal.Gen.facts) (hSconvRefIdeal := Cert.SconvRefIdeal.Gen.facts) := by
  pair_intro
  · run_from Cert.SconvIdeal.Value.run_blocks m g
  · refine (θ_run _ _ _).mono (fun r h c => ⟨(h c).1.trans ?_, (h c).2⟩) (sconv_run m' g')
    obtain ⟨h0, h1, h2, h3⟩ := hagree c
    refine Eq.trans ?_ (Cert.SconvIdeal.Final.final m c).symm
    exact congr (congr (congr (congrArg Cert.SconvRefIdeal.Read.val_main_v41 h0) h1) h2) h3

theorem sconv_frame : Cert.quiescent_SconvRefIdeal (hSconvRefIdeal := Cert.SconvRefIdeal.Gen.facts) := by
  intro m g _
  exact (θ_run _ _ _).mono (fun r h => ⟨fun c => (h c).2, sem_eq_zero_of_no_sems (by decide) r.2⟩) (sconv_run m g)

/-- The run of the reference of the output projection. -/
theorem out_run (m : (ℓ : Loc Cert.OutRefIdeal.nD Cert.OutRefIdeal.τ Cert.OutRefIdeal.sig) → Buf (Elt Ideal) ℓ) (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩ (fun r => ∀ c : Dev Cert.OutRefIdeal.nD,
      r.2.mem ((c.tc : Thread Cert.OutRefIdeal.nD Cert.OutRefIdeal.τ).loc Cert.OutRefIdeal.main_v2) = Cert.OutRefIdeal.Read.val_main_v2 (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2))
      ∧ r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)) :=
  (θ_run _ _ _).mono (fun r h c => ⟨(h c).1.trans (Cert.OutRefIdeal.Read.val_main_v2_eq _ _ _), (h c).2⟩) (Cert.OutRefIdeal.Value.run (F := Ideal) m g)

/-- The output projection with its residual: kernel and reference leave the same result. -/
theorem output_projection : Cert.algebraic_OutIdeal_OutRefIdeal (hOutIdeal := Cert.OutIdeal.Gen.facts) (hOutRefIdeal := Cert.OutRefIdeal.Gen.facts) := by
  pair_intro
  · run_from Cert.OutIdeal.Value.run_blocks m g
  · refine (θ_run _ _ _).mono (fun r h c => ⟨(h c).1.trans ?_, (h c).2⟩) (out_run m' g')
    obtain ⟨h0, h1, h2⟩ := hagree c
    refine Eq.trans ?_ (Cert.OutIdeal.Final.final m c).symm
    exact congr (congr (congrArg Cert.OutRefIdeal.Read.val_main_v2 h0) h1) h2

theorem out_frame : Cert.quiescent_OutRefIdeal (hOutRefIdeal := Cert.OutRefIdeal.Gen.facts) := by
  intro m g _
  exact (θ_run _ _ _).mono (fun r h => ⟨fun c => (h c).2, sem_eq_zero_of_no_sems (by decide) r.2⟩) (out_run m g)

/-- The run of the reference of the Hyena layer's first half. -/
theorem hyena_run (m : (ℓ : Loc Cert.HyenaRefIdeal.nD Cert.HyenaRefIdeal.τ Cert.HyenaRefIdeal.sig) → Buf (Elt Ideal) ℓ) (g : Dev Cert.HyenaRefIdeal.nD → PrngReg) :
    θ_run (Cert.HyenaRefIdeal.defs (F := Ideal)) (onTc (τ := Cert.HyenaRefIdeal.τ) (Cert.HyenaRefIdeal.main (F := Ideal))) ⟨m, fun _ => 0, g⟩ (fun r => ∀ c : Dev Cert.HyenaRefIdeal.nD,
      r.2.mem ((c.tc : Thread Cert.HyenaRefIdeal.nD Cert.HyenaRefIdeal.τ).loc Cert.HyenaRefIdeal.main_v43) = Cert.HyenaRefIdeal.Read.val_main_v43 (F := Ideal) (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3)) (m ((c.tc : Thread Cert.HyenaRefIdeal.nD Cert.HyenaRefIdeal.τ).loc Cert.HyenaRefIdeal.main_arg4))
      ∧ r.2.mem ((c.tc : Thread Cert.HyenaRefIdeal.nD Cert.HyenaRefIdeal.τ).loc Cert.HyenaRefIdeal.main_v45) = Cert.HyenaRefIdeal.Read.val_main_v45 (F := Ideal) (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3)) (m ((c.tc : Thread Cert.HyenaRefIdeal.nD Cert.HyenaRefIdeal.τ).loc Cert.HyenaRefIdeal.main_arg4))
      ∧ r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1)
      ∧ r.2.mem ((c.tc : Thread Cert.HyenaRefIdeal.nD Cert.HyenaRefIdeal.τ).loc Cert.HyenaRefIdeal.main_arg2) = m ((c.tc : Thread Cert.HyenaRefIdeal.nD Cert.HyenaRefIdeal.τ).loc Cert.HyenaRefIdeal.main_arg2)
      ∧ r.2.mem ((c.tc : Thread Cert.HyenaRefIdeal.nD Cert.HyenaRefIdeal.τ).loc Cert.HyenaRefIdeal.main_arg3) = m ((c.tc : Thread Cert.HyenaRefIdeal.nD Cert.HyenaRefIdeal.τ).loc Cert.HyenaRefIdeal.main_arg3)
      ∧ r.2.mem ((c.tc : Thread Cert.HyenaRefIdeal.nD Cert.HyenaRefIdeal.τ).loc Cert.HyenaRefIdeal.main_arg4) = m ((c.tc : Thread Cert.HyenaRefIdeal.nD Cert.HyenaRefIdeal.τ).loc Cert.HyenaRefIdeal.main_arg4)) :=
  (θ_run _ _ _).mono (fun r h c => ⟨(h c).1.trans (Cert.HyenaRefIdeal.Read.val_main_v43_eq _ _), (h c).2.1.trans (Cert.HyenaRefIdeal.Read.val_main_v45_eq _ _), (h c).2.2⟩) (Cert.HyenaRefIdeal.Value.run (F := Ideal) m g)

/-- The first half of the Hyena layer: kernel and reference leave the same two results. -/
theorem hyena_first_half : Cert.algebraic_HyenaIdeal_HyenaRefIdeal (hHyenaIdeal := Cert.HyenaIdeal.Gen.facts) (hHyenaRefIdeal := Cert.HyenaRefIdeal.Gen.facts) := by
  pair_intro
  · run_from Cert.HyenaIdeal.Final.run_blocks m g
  · refine (θ_run _ _ _).mono (fun r h c => ⟨(h c).1.trans ?_, (h c).2.1.trans ?_, (h c).2.2⟩) (hyena_run m' g')
    · obtain ⟨h0, h1, h2, h3, h4⟩ := hagree c
      refine Eq.trans ?_ (Cert.HyenaIdeal.Final.final m c).symm
      exact congr (congr (congr (congr (congrArg Cert.HyenaRefIdeal.Read.val_main_v43 h0) h1) h2) h3) h4
    · obtain ⟨h0, h1, h2, h3, h4⟩ := hagree c
      refine Eq.trans ?_ (Cert.HyenaIdeal.Final.final' m c).symm
      exact congr (congr (congr (congr (congrArg Cert.HyenaRefIdeal.Read.val_main_v45 h0) h1) h2) h3) h4

theorem hyena_frame : Cert.quiescent_HyenaRefIdeal (hHyenaRefIdeal := Cert.HyenaRefIdeal.Gen.facts) := by
  intro m g _
  exact (θ_run _ _ _).mono (fun r h => ⟨fun c => (h c).2.2, sem_eq_zero_of_no_sems (by decide) r.2⟩) (hyena_run m g)

/-- The run of the reference of the MLA layer's projections to low rank. -/
theorem down_run (m : (ℓ : Loc Cert.DownRefIdeal.nD Cert.DownRefIdeal.τ Cert.DownRefIdeal.sig) → Buf (Elt Ideal) ℓ) (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩ (fun r => ∀ c : Dev Cert.DownRefIdeal.nD,
      r.2.mem ((c.tc : Thread Cert.DownRefIdeal.nD Cert.DownRefIdeal.τ).loc Cert.DownRefIdeal.main_v48) = Cert.DownRefIdeal.Read.val_main_v48 (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))
      ∧ r.2.mem ((c.tc : Thread Cert.DownRefIdeal.nD Cert.DownRefIdeal.τ).loc Cert.DownRefIdeal.main_v50) = Cert.DownRefIdeal.Read.val_main_v50 (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg4))
      ∧ r.2.mem ((c.tc : Thread Cert.DownRefIdeal.nD Cert.DownRefIdeal.τ).loc Cert.DownRefIdeal.main_v51) = Cert.DownRefIdeal.Read.val_main_v51 (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2))
      ∧ r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)) :=
  (θ_run _ _ _).mono (fun r h c => ⟨(h c).1.trans (Cert.DownRefIdeal.Read.val_main_v48_eq _ _ _ _), (h c).2.1.trans (Cert.DownRefIdeal.Read.val_main_v50_eq _ _ _ _), (h c).2.2.1.trans (Cert.DownRefIdeal.Read.val_main_v51_eq _ _), (h c).2.2.2⟩) (Cert.DownRefIdeal.Value.run (F := Ideal) m g)

/-- The MLA layer's projections to low rank: kernel and reference leave the same three results. -/
theorem low_rank_projections : Cert.algebraic_DownIdeal_DownRefIdeal (hDownIdeal := Cert.DownIdeal.Gen.facts) (hDownRefIdeal := Cert.DownRefIdeal.Gen.facts) := by
  pair_intro
  · run_from Cert.DownIdeal.Value.run_blocks m g
  · refine (θ_run _ _ _).mono (fun r h c => ⟨(h c).1.trans ?_, (h c).2.1.trans ?_, (h c).2.2.1.trans ?_, (h c).2.2.2⟩) (down_run m' g')
    · obtain ⟨h0, h1, h2, h3, h4⟩ := hagree c
      refine Eq.trans ?_ (Cert.DownIdeal.Final.final0 m c).symm
      exact congr (congr (congr (congrArg Cert.DownRefIdeal.Read.val_main_v48 h0) h1) h2) h3
    · obtain ⟨h0, h1, h2, h3, h4⟩ := hagree c
      refine Eq.trans ?_ (Cert.DownIdeal.Final.final1 m c).symm
      exact congr (congr (congr (congrArg Cert.DownRefIdeal.Read.val_main_v50 h0) h1) h2) h4
    · obtain ⟨h0, h1, h2, h3, h4⟩ := hagree c
      refine Eq.trans ?_ (Cert.DownIdeal.Final.final2 m c).symm
      exact congr (congr (congrArg Cert.DownRefIdeal.Read.val_main_v51 h0) h1) h2

theorem down_frame : Cert.quiescent_DownRefIdeal (hDownRefIdeal := Cert.DownRefIdeal.Gen.facts) := by
  intro m g _
  exact (θ_run _ _ _).mono (fun r h => ⟨fun c => (h c).2.2.2, sem_eq_zero_of_no_sems (by decide) r.2⟩) (down_run m g)

/-- The run of the reference of the MLA layer's queries. -/
theorem query_run (m : (ℓ : Loc Cert.QueryRefIdeal.nD Cert.QueryRefIdeal.τ Cert.QueryRefIdeal.sig) → Buf (Elt Ideal) ℓ) (g : Dev Cert.QueryRefIdeal.nD → PrngReg) :
    θ_run (Cert.QueryRefIdeal.defs (F := Ideal)) (onTc (τ := Cert.QueryRefIdeal.τ) (Cert.QueryRefIdeal.main (F := Ideal))) ⟨m, fun _ => 0, g⟩ (fun r => ∀ c : Dev Cert.QueryRefIdeal.nD,
      r.2.mem ((c.tc : Thread Cert.QueryRefIdeal.nD Cert.QueryRefIdeal.τ).loc Cert.QueryRefIdeal.main_v55) = Cert.QueryRefIdeal.Read.val_main_v55 (F := Ideal) (m ((c.tc : Thread Cert.QueryRefIdeal.nD Cert.QueryRefIdeal.τ).loc Cert.QueryRefIdeal.main_arg0)) (m ((c.tc : Thread Cert.QueryRefIdeal.nD Cert.QueryRefIdeal.τ).loc Cert.QueryRefIdeal.main_arg1)) (m ((c.tc : Thread Cert.QueryRefIdeal.nD Cert.QueryRefIdeal.τ).loc Cert.QueryRefIdeal.main_arg2))
      ∧ r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)) :=
  (θ_run _ _ _).mono (fun r h c => ⟨(h c).1.trans (Cert.QueryRefIdeal.Read.val_main_v55_eq _ _), (h c).2⟩) (Cert.QueryRefIdeal.Value.run (F := Ideal) m g)

/-- The MLA layer's queries: kernel and reference leave the same result. -/
theorem queries : Cert.algebraic_QueryIdeal_QueryRefIdeal (hQueryIdeal := Cert.QueryIdeal.Gen.facts) (hQueryRefIdeal := Cert.QueryRefIdeal.Gen.facts) := by
  pair_intro
  · run_from Cert.QueryIdeal.Value.run_blocks m g
  · refine (θ_run _ _ _).mono (fun r h c => ⟨(h c).1.trans ?_, (h c).2⟩) (query_run m' g')
    obtain ⟨h0, h1, h2⟩ := hagree c
    refine Eq.trans ?_ (Cert.QueryIdeal.Final.final m c).symm
    exact congr (congr (congrArg Cert.QueryRefIdeal.Read.val_main_v55 h0) h1) h2

theorem query_frame : Cert.quiescent_QueryRefIdeal (hQueryRefIdeal := Cert.QueryRefIdeal.Gen.facts) := by
  intro m g _
  exact (θ_run _ _ _).mono (fun r h => ⟨fun c => (h c).2, sem_eq_zero_of_no_sems (by decide) r.2⟩) (query_run m g)

/-- The run of the reference of the MLA layer's keys and values. -/
theorem keyval_run (m : (ℓ : Loc Cert.KeyvalRefIdeal.nD Cert.KeyvalRefIdeal.τ Cert.KeyvalRefIdeal.sig) → Buf (Elt Ideal) ℓ) (g : Dev Cert.KeyvalRefIdeal.nD → PrngReg) :
    θ_run (Cert.KeyvalRefIdeal.defs (F := Ideal)) (onTc (τ := Cert.KeyvalRefIdeal.τ) (Cert.KeyvalRefIdeal.main (F := Ideal))) ⟨m, fun _ => 0, g⟩ (fun r => ∀ c : Dev Cert.KeyvalRefIdeal.nD,
      r.2.mem ((c.tc : Thread Cert.KeyvalRefIdeal.nD Cert.KeyvalRefIdeal.τ).loc Cert.KeyvalRefIdeal.main_v60) = Cert.KeyvalRefIdeal.Read.val_main_v60 (F := Ideal) (m ((c.tc : Thread Cert.KeyvalRefIdeal.nD Cert.KeyvalRefIdeal.τ).loc Cert.KeyvalRefIdeal.main_arg0)) (m ((c.tc : Thread Cert.KeyvalRefIdeal.nD Cert.KeyvalRefIdeal.τ).loc Cert.KeyvalRefIdeal.main_arg1)) (m ((c.tc : Thread Cert.KeyvalRefIdeal.nD Cert.KeyvalRefIdeal.τ).loc Cert.KeyvalRefIdeal.main_arg2)) (m ((c.tc : Thread Cert.KeyvalRefIdeal.nD Cert.KeyvalRefIdeal.τ).loc Cert.KeyvalRefIdeal.main_arg3))
      ∧ r.2.mem ((c.tc : Thread Cert.KeyvalRefIdeal.nD Cert.KeyvalRefIdeal.τ).loc Cert.KeyvalRefIdeal.main_v63) = Cert.KeyvalRefIdeal.Read.val_main_v63 (F := Ideal) (m ((c.tc : Thread Cert.KeyvalRefIdeal.nD Cert.KeyvalRefIdeal.τ).loc Cert.KeyvalRefIdeal.main_arg0)) (m ((c.tc : Thread Cert.KeyvalRefIdeal.nD Cert.KeyvalRefIdeal.τ).loc Cert.KeyvalRefIdeal.main_arg2))
      ∧ r.2.mem ((c.tc : Thread Cert.KeyvalRefIdeal.nD Cert.KeyvalRefIdeal.τ).loc Cert.KeyvalRefIdeal.main_arg0) = m ((c.tc : Thread Cert.KeyvalRefIdeal.nD Cert.KeyvalRefIdeal.τ).loc Cert.KeyvalRefIdeal.main_arg0)
      ∧ r.2.mem ((c.tc : Thread Cert.KeyvalRefIdeal.nD Cert.KeyvalRefIdeal.τ).loc Cert.KeyvalRefIdeal.main_arg1) = m ((c.tc : Thread Cert.KeyvalRefIdeal.nD Cert.KeyvalRefIdeal.τ).loc Cert.KeyvalRefIdeal.main_arg1)
      ∧ r.2.mem ((c.tc : Thread Cert.KeyvalRefIdeal.nD Cert.KeyvalRefIdeal.τ).loc Cert.KeyvalRefIdeal.main_arg2) = m ((c.tc : Thread Cert.KeyvalRefIdeal.nD Cert.KeyvalRefIdeal.τ).loc Cert.KeyvalRefIdeal.main_arg2)
      ∧ r.2.mem ((c.tc : Thread Cert.KeyvalRefIdeal.nD Cert.KeyvalRefIdeal.τ).loc Cert.KeyvalRefIdeal.main_arg3) = m ((c.tc : Thread Cert.KeyvalRefIdeal.nD Cert.KeyvalRefIdeal.τ).loc Cert.KeyvalRefIdeal.main_arg3)) :=
  (θ_run _ _ _).mono (fun r h c => ⟨(h c).1.trans (Cert.KeyvalRefIdeal.Read.val_main_v60_eq _ _), (h c).2.1.trans (Cert.KeyvalRefIdeal.Read.val_main_v63_eq _ _), (h c).2.2⟩) (Cert.KeyvalRefIdeal.Value.run (F := Ideal) m g)

/-- The MLA layer's keys and values: kernel and reference leave the same two results. -/
theorem keys_and_values : Cert.algebraic_KeyvalIdeal_KeyvalRefIdeal (hKeyvalIdeal := Cert.KeyvalIdeal.Gen.facts) (hKeyvalRefIdeal := Cert.KeyvalRefIdeal.Gen.facts) := by
  pair_intro
  · run_from Cert.KeyvalIdeal.Value.run_blocks m g
  · refine (θ_run _ _ _).mono (fun r h c => ⟨(h c).1.trans ?_, (h c).2.1.trans ?_, (h c).2.2⟩) (keyval_run m' g')
    · obtain ⟨h0, h1, h2, h3⟩ := hagree c
      refine Eq.trans ?_ (Cert.KeyvalIdeal.Final.final0 m c).symm
      exact congr (congr (congr (congrArg Cert.KeyvalRefIdeal.Read.val_main_v60 h0) h1) h2) h3
    · obtain ⟨h0, h1, h2, h3⟩ := hagree c
      refine Eq.trans ?_ (Cert.KeyvalIdeal.Final.final1 m c).symm
      exact congr (congrArg Cert.KeyvalRefIdeal.Read.val_main_v63 h0) h2

theorem keyval_frame : Cert.quiescent_KeyvalRefIdeal (hKeyvalRefIdeal := Cert.KeyvalRefIdeal.Gen.facts) := by
  intro m g _
  exact (θ_run _ _ _).mono (fun r h => ⟨fun c => (h c).2.2, sem_eq_zero_of_no_sems (by decide) r.2⟩) (keyval_run m g)

/-- The run of the reference of the Hyena layer's filters. -/
theorem filter_run (m : (ℓ : Loc Cert.FilterRefIdeal.nD Cert.FilterRefIdeal.τ Cert.FilterRefIdeal.sig) → Buf (Elt Ideal) ℓ) (g : Dev Cert.FilterRefIdeal.nD → PrngReg) :
    θ_run (Cert.FilterRefIdeal.defs (F := Ideal)) (onTc (τ := Cert.FilterRefIdeal.τ) (Cert.FilterRefIdeal.main (F := Ideal))) ⟨m, fun _ => 0, g⟩ (fun r => ∀ c : Dev Cert.FilterRefIdeal.nD,
      r.2.mem ((c.tc : Thread Cert.FilterRefIdeal.nD Cert.FilterRefIdeal.τ).loc Cert.FilterRefIdeal.main_v80) = Cert.FilterRefIdeal.Read.val_main_v80 (F := Ideal) (m ((c.tc : Thread Cert.FilterRefIdeal.nD Cert.FilterRefIdeal.τ).loc Cert.FilterRefIdeal.main_arg0)) (m ((c.tc : Thread Cert.FilterRefIdeal.nD Cert.FilterRefIdeal.τ).loc Cert.FilterRefIdeal.main_arg1)) (m ((c.tc : Thread Cert.FilterRefIdeal.nD Cert.FilterRefIdeal.τ).loc Cert.FilterRefIdeal.main_arg2)) (m ((c.tc : Thread Cert.FilterRefIdeal.nD Cert.FilterRefIdeal.τ).loc Cert.FilterRefIdeal.main_arg3)) (m ((c.tc : Thread Cert.FilterRefIdeal.nD Cert.FilterRefIdeal.τ).loc Cert.FilterRefIdeal.main_arg4)) (m ((c.tc : Thread Cert.FilterRefIdeal.nD Cert.FilterRefIdeal.τ).loc Cert.FilterRefIdeal.main_arg5))
      ∧ r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)) :=
  (θ_run _ _ _).mono (fun r h c => ⟨(h c).1.trans (Cert.FilterRefIdeal.Read.val_main_v80_eq _ _), (h c).2⟩) (Cert.FilterRefIdeal.Value.run (F := Ideal) m g)

/-- The Hyena layer's filters: kernel and reference leave the same result. -/
theorem filters : Cert.algebraic_FilterIdeal_FilterRefIdeal (hFilterIdeal := Cert.FilterIdeal.Gen.facts) (hFilterRefIdeal := Cert.FilterRefIdeal.Gen.facts) := by
  pair_intro
  · run_from Cert.FilterIdeal.Value.run_blocks m g
  · refine (θ_run _ _ _).mono (fun r h c => ⟨(h c).1.trans ?_, (h c).2⟩) (filter_run m' g')
    obtain ⟨h0, h1, h2, h3, h4, h5⟩ := hagree c
    refine Eq.trans ?_ (Cert.FilterIdeal.Final.final m c).symm
    exact congr (congr (congr (congr (congr (congrArg Cert.FilterRefIdeal.Read.val_main_v80 h0) h1) h2) h3) h4) h5

theorem filter_frame : Cert.quiescent_FilterRefIdeal (hFilterRefIdeal := Cert.FilterRefIdeal.Gen.facts) := by
  intro m g _
  exact (θ_run _ _ _).mono (fun r h => ⟨fun c => (h c).2, sem_eq_zero_of_no_sems (by decide) r.2⟩) (filter_run m g)

/-- The claims of the statement. -/
theorem claim : Cert.Claim := ⟨Cert.Kernel.Gen.facts, Cert.KernelIdeal.Gen.facts, Cert.ReferenceIdeal.Gen.facts,
  Cert.Sconv.Gen.facts, Cert.SconvIdeal.Gen.facts, Cert.SconvRefIdeal.Gen.facts, Cert.Out.Gen.facts, Cert.OutIdeal.Gen.facts, Cert.OutRefIdeal.Gen.facts,
  Cert.Hyena.Gen.facts, Cert.HyenaIdeal.Gen.facts, Cert.HyenaRefIdeal.Gen.facts, Cert.Down.Gen.facts, Cert.DownIdeal.Gen.facts, Cert.DownRefIdeal.Gen.facts,
  Cert.Query.Gen.facts, Cert.QueryIdeal.Gen.facts, Cert.QueryRefIdeal.Gen.facts, Cert.Keyval.Gen.facts, Cert.KeyvalIdeal.Gen.facts, Cert.KeyvalRefIdeal.Gen.facts,
  Cert.Filter.Gen.facts, Cert.FilterIdeal.Gen.facts, Cert.FilterRefIdeal.Gen.facts,
  Cert.Pre_finite_scores.Finite.facts,
  fun m ρ _ => Cert.Kernel.Gen.frame m ρ, fun m ρ _ => Cert.KernelIdeal.Gen.frame m ρ, fun m ρ _ => Cert.KernelIdeal.Gen.frame m ρ, reference_frame, reference_frame_pre,
  fun m ρ _ => Cert.Sconv.Gen.frame m ρ, fun m ρ _ => Cert.SconvIdeal.Gen.frame m ρ, sconv_frame, fun m ρ _ => Cert.Out.Gen.frame m ρ, fun m ρ _ => Cert.OutIdeal.Gen.frame m ρ, out_frame,
  fun m ρ _ => Cert.Hyena.Gen.frame m ρ, fun m ρ _ => Cert.HyenaIdeal.Gen.frame m ρ, hyena_frame,
  fun m ρ _ => Cert.Down.Gen.frame m ρ, fun m ρ _ => Cert.DownIdeal.Gen.frame m ρ, down_frame,
  fun m ρ _ => Cert.Query.Gen.frame m ρ, fun m ρ _ => Cert.QueryIdeal.Gen.frame m ρ, query_frame,
  fun m ρ _ => Cert.Keyval.Gen.frame m ρ, fun m ρ _ => Cert.KeyvalIdeal.Gen.frame m ρ, keyval_frame,
  fun m ρ _ => Cert.Filter.Gen.frame m ρ, fun m ρ _ => Cert.FilterIdeal.Gen.frame m ρ, filter_frame,
  trivial, attention, trivial, short_convolution, trivial, output_projection, trivial, hyena_first_half,
  trivial, low_rank_projections, trivial, queries, trivial, keys_and_values, trivial, filters⟩

end Cert.Proof

end
